-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 [hPre_rows_in_range : Cert.Pre_rows_in_range.Facts] (m : (ℓ : Loc Cert.Kernel7.nD Cert.Kernel7.τ Cert.Kernel7.sig) → Buf (Elt Bits) ℓ) : Prop :=
  ∀ c : Dev Cert.Kernel7.nD,
    (Cert.Pre_rows_in_range.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4))) = (fun _ => 1#1)

def Pre_Kernel7Ideal [hPre_rows_in_range : Cert.Pre_rows_in_range.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_rows_in_range.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_rows_in_range [hPre_rows_in_range : Cert.Pre_rows_in_range.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_rows_in_range.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_rows_in_range : Cert.Pre_rows_in_range.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] [hPre_rows_in_range : Cert.Pre_rows_in_range.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_rows_in_range [hReference7Ideal : Cert.Reference7Ideal.Facts] [hPre_rows_in_range : Cert.Pre_rows_in_range.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_rows_in_range m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_rows_in_range : Cert.Pre_rows_in_range.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts_in_range : Cert.Pre_experts_in_range.Facts) (hPre_rows_in_range : Cert.Pre_rows_in_range.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7) (hPre_rows_in_range := hPre_rows_in_range)
    ∧ quiescent_Kernel7Ideal (hKernel7Ideal := hKernel7Ideal) (hPre_rows_in_range := hPre_rows_in_range)
    ∧ quiescent_Reference7Ideal (hReference7Ideal := hReference7Ideal)
    ∧ quiescent_Reference7Ideal_pre_rows_in_range (hReference7Ideal := hReference7Ideal) (hPre_rows_in_range := hPre_rows_in_range)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal) (hPre_rows_in_range := hPre_rows_in_range)
    ∧ preserves_Kernel8_Kernel8Ideal
    ∧ algebraic_Kernel8Ideal_Reference8Ideal (hKernel8Ideal := hKernel8Ideal) (hReference8Ideal := hReference8Ideal)
-- ==== Pre_experts_in_range.lean ====
abbrev S540672x128 : Shape := ⟨2, ![540672, 128]⟩
abbrev S264 : Shape := ⟨1, ![264]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S264 : S_.BroadcastsInDim S264 (![] : Fin 0 → Fin S264.rank)

variable [Facts]

def fn {F : FTy → Type} [FloatOps F] (main_arg0 : FVec F S540672x128 .f32) (main_arg1 : IVec S264 32) (main_arg2 : IVec S1 32) (main_arg3 : FVec F S2x8x1024x3584 .bf16) (main_arg4 : FVec F S2x8x1024x3584 .bf16) (main_arg5 : FVec F S2x8x3584x1024 .bf16) : IVec S264 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  main_v4
-- ==== Pre_rows_in_range.lean ====
abbrev S32768x1024 : Shape := ⟨2, ![32768, 1024]⟩
abbrev S540672x128 : Shape := ⟨2, ![540672, 128]⟩
abbrev S65536 : Shape := ⟨1, ![65536]⟩
abbrev S32768x2 : Shape := ⟨2, ![32768, 2]⟩
abbrev S1024 : Shape := ⟨1, ![1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : FVec F S32768x1024 .f32) (main_arg1 : FVec F S540672x128 .f32) (main_arg2 : IVec S65536 32) (main_arg3 : FVec F S32768x2 .f32) (main_arg4 : FVec F S1024 .f32) : IVec S65536 1 :=
  let main_c : IVec S_ 32 := constantI S_ 32 0#32
  let main_v0 : IVec S65536 32 := broadcastInDim S65536 ![] bcast_S_S65536 main_c
  let main_v1 : IVec S65536 1 := cmpi .sge main_arg2 main_v0
  let main_c_0 : IVec S_ 32 := constantI S_ 32 67584#32
  let main_v2 : IVec S65536 32 := broadcastInDim S65536 ![] bcast_S_S65536 main_c_0
  let main_v3 : IVec S65536 1 := cmpi .slt main_arg2 main_v2
  let main_v4 : IVec S65536 1 := andi main_v1 main_v3
  main_v4
-- ==== Kernel.lean ====
abbrev S540672x128 : Shape := ⟨2, ![540672, 128]⟩
abbrev S264 : Shape := ⟨1, ![264]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S2048x128 : Shape := ⟨2, ![2048, 128]⟩
abbrev S1x1x1024x3584 : Shape := ⟨4, ![1, 1, 1024, 3584]⟩
abbrev S1x1x3584x1024 : Shape := ⟨4, ![1, 1, 3584, 1024]⟩
abbrev S256x128 : Shape := ⟨2, ![256, 128]⟩
abbrev S256x1024 : Shape := ⟨2, ![256, 1024]⟩
abbrev S1024x3584 : Shape := ⟨2, ![1024, 3584]⟩
abbrev S256x3584 : Shape := ⟨2, ![256, 3584]⟩
abbrev S3584x1024 : Shape := ⟨2, ![3584, 1024]⟩

abbrev nBuf : Space → Nat
  | .hbm => 5
  | .vmem => 10
  | .smem => 2
  | _ => 0

abbrev bufTy : (tb : Table) → Fin (tcTables nBuf tb) → BufTy
  | .hbm, ⟨0, _⟩ => ⟨S540672x128, .f32⟩
  | .hbm, ⟨1, _⟩ => ⟨S2x8x1024x3584, .bf16⟩
  | .hbm, ⟨2, _⟩ => ⟨S2x8x1024x3584, .bf16⟩
  | .hbm, ⟨3, _⟩ => ⟨S2x8x3584x1024, .bf16⟩
  | .hbm, ⟨4, _⟩ => ⟨S540672x128, .f32⟩
  | .local _ .vmem, ⟨0, _⟩ => ⟨S2048x128, .f32⟩
  | .local _ .vmem, ⟨1, _⟩ => ⟨S2048x128, .f32⟩
  | .local _ .vmem, ⟨2, _⟩ => ⟨S1x1x1024x3584, .bf16⟩
  | .local _ .vmem, ⟨3, _⟩ => ⟨S1x1x1024x3584, .bf16⟩
  | .local _ .vmem, ⟨4, _⟩ => ⟨S1x1x1024x3584, .bf16⟩
  | .local _ .vmem, ⟨5, _⟩ => ⟨S1x1x1024x3584, .bf16⟩
  | .local _ .vmem, ⟨6, _⟩ => ⟨S1x1x3584x1024, .bf16⟩
  | .local _ .vmem, ⟨7, _⟩ => ⟨S1x1x3584x1024, .bf16⟩
  | .local _ .vmem, ⟨8, _⟩ => ⟨S2048x128, .f32⟩
  | .local _ .vmem, ⟨9, _⟩ => ⟨S2048x128, .f32⟩
  | .local _ .smem, ⟨0, _⟩ => ⟨S264, .i32⟩
  | .local _ .smem, ⟨1, _⟩ => ⟨S1, .i32⟩
  | _, _ => ⟨S540672x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![264], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S264.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S540672x128 : Shape := ⟨2, ![540672, 128]⟩
abbrev S264 : Shape := ⟨1, ![264]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S264x256x1024 : Shape := ⟨3, ![264, 256, 1024]⟩
abbrev S1x8x1024x3584 : Shape := ⟨4, ![1, 8, 1024, 3584]⟩
abbrev S8x1024x3584 : Shape := ⟨3, ![8, 1024, 3584]⟩
abbrev S1x8x3584x1024 : Shape := ⟨4, ![1, 8, 3584, 1024]⟩
abbrev S8x3584x1024 : Shape := ⟨3, ![8, 3584, 1024]⟩
abbrev S_ : Shape := ⟨0, ![]⟩
abbrev S264x1 : Shape := ⟨2, ![264, 1]⟩
abbrev S264x3 : Shape := ⟨2, ![264, 3]⟩
abbrev S264x1x1024x3584 : Shape := ⟨4, ![264, 1, 1024, 3584]⟩
abbrev S264x1024x3584 : Shape := ⟨3, ![264, 1024, 3584]⟩
abbrev S264x256x3584 : Shape := ⟨3, ![264, 256, 3584]⟩
abbrev S264x1x3584x1024 : Shape := ⟨4, ![264, 1, 3584, 1024]⟩
abbrev S264x3584x1024 : Shape := ⟨3, ![264, 3584, 1024]⟩
abbrev S264x1x1 : Shape := ⟨3, ![264, 1, 1]⟩

abbrev nBuf : Space → Nat
  | .hbm => 127
  | .vmem => 0
  | .smem => 0
  | _ => 0

abbrev bufTy : (tb : Table) → Fin (tcTables nBuf tb) → BufTy
  | .hbm, ⟨0, _⟩ => ⟨S540672x128, .f32⟩
  | .hbm, ⟨1, _⟩ => ⟨S264, .i32⟩
  | .hbm, ⟨2, _⟩ => ⟨S1, .i32⟩
  | .hbm, ⟨3, _⟩ => ⟨S2x8x1024x3584, .bf16⟩
  | .hbm, ⟨4, _⟩ => ⟨S2x8x1024x3584, .bf16⟩
  | .hbm, ⟨5, _⟩ => ⟨S2x8x3584x1024, .bf16⟩
  | .hbm, ⟨6, _⟩ => ⟨S264x256x1024, .f32⟩
  | .hbm, ⟨7, _⟩ => ⟨S1x8x1024x3584, .bf16⟩
  | .hbm, ⟨8, _⟩ => ⟨S8x1024x3584, .bf16⟩
  | .hbm, ⟨9, _⟩ => ⟨S8x1024x3584, .f32⟩
  | .hbm, ⟨10, _⟩ => ⟨S1x8x1024x3584, .bf16⟩
  | .hbm, ⟨11, _⟩ => ⟨S8x1024x3584, .bf16⟩
  | .hbm, ⟨12, _⟩ => ⟨S8x1024x3584, .f32⟩
  | .hbm, ⟨13, _⟩ => ⟨S1x8x3584x1024, .bf16⟩
  | .hbm, ⟨14, _⟩ => ⟨S8x3584x1024, .bf16⟩
  | .hbm, ⟨15, _⟩ => ⟨S8x3584x1024, .f32⟩
  | .hbm, ⟨16, _⟩ => ⟨S_, .i32⟩
  | .hbm, ⟨17, _⟩ => ⟨S264, .i32⟩
  | .hbm, ⟨18, _⟩ => ⟨S264, .i1⟩
  | .hbm, ⟨19, _⟩ => ⟨S_, .i32⟩
  | .hbm, ⟨20, _⟩ => ⟨S264, .i32⟩
  | .hbm, ⟨21, _⟩ => ⟨S264, .i32⟩
  | .hbm, ⟨22, _⟩ => ⟨S264, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S264x1, .i32⟩
  | .hbm, ⟨40, _⟩ => ⟨S264x1, .i32⟩
  | .hbm, ⟨41, _⟩ => ⟨S264x1, .i32⟩
  | .hbm, ⟨42, _⟩ => ⟨S264x3, .i32⟩
  | .hbm, ⟨43, _⟩ => ⟨S264x1x1024x3584, .f32⟩
  | .hbm, ⟨44, _⟩ => ⟨S264x1024x3584, .f32⟩
  | .hbm, ⟨45, _⟩ => ⟨S264x256x3584, .f32⟩
  | .hbm, ⟨46, _⟩ => ⟨S264x256x3584, .f32⟩
  | .hbm, ⟨47, _⟩ => ⟨S264x256x3584, .f32⟩
  | .hbm, ⟨48, _⟩ => ⟨S_, .f32⟩
  | .hbm, ⟨49, _⟩ => ⟨S264x256x3584, .f32⟩
  | .hbm, ⟨50, _⟩ => ⟨S264x256x3584, .f32⟩
  | .hbm, ⟨51, _⟩ => ⟨S_, .f32⟩
  | .hbm, ⟨52, _⟩ => ⟨S264x256x3584, .f32⟩
  | .hbm, ⟨53, _⟩ => ⟨S264x256x3584, .f32⟩
  | .hbm, ⟨54, _⟩ => ⟨S264x256x3584, .f32⟩
  | .hbm, ⟨55, _⟩ => ⟨S_, .i32⟩
  | .hbm, ⟨56, _⟩ => ⟨S264, .i32⟩
  | .hbm, ⟨57, _⟩ => ⟨S264, .i1⟩
  | .hbm, ⟨58, _⟩ => ⟨S_, .i32⟩
  | .hbm, ⟨59, _⟩ => ⟨S264, .i32⟩
  | .hbm, ⟨60, _⟩ => ⟨S264, .i32⟩
  | .hbm, ⟨61, _⟩ => ⟨S264, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S264x1, .i32⟩
  | .hbm, ⟨79, _⟩ => ⟨S264x1, .i32⟩
  | .hbm, ⟨80, _⟩ => ⟨S264x1, .i32⟩
  | .hbm, ⟨81, _⟩ => ⟨S264x3, .i32⟩
  | .hbm, ⟨82, _⟩ => ⟨S264x1x1024x3584, .f32⟩
  | .hbm, ⟨83, _⟩ => ⟨S264x1024x3584, .f32⟩
  | .hbm, ⟨84, _⟩ => ⟨S264x256x3584, .f32⟩
  | .hbm, ⟨85, _⟩ => ⟨S264x256x3584, .f32⟩
  | .hbm, ⟨86, _⟩ => ⟨S_, .i32⟩
  | .hbm, ⟨87, _⟩ => ⟨S264, .i32⟩
  | .hbm, ⟨88, _⟩ => ⟨S264, .i1⟩
  | .hbm, ⟨89, _⟩ => ⟨S_, .i32⟩
  | .hbm, ⟨90, _⟩ => ⟨S264, .i32⟩
  | .hbm, ⟨91, _⟩ => ⟨S264, .i32⟩
  | .hbm, ⟨92, _⟩ => ⟨S264, .i32⟩
  | .hbm, ⟨93, _⟩ => ⟨S_, .i32⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i1⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S264x1, .i32⟩
  | .hbm, ⟨110, _⟩ => ⟨S264x1, .i32⟩
  | .hbm, ⟨111, _⟩ => ⟨S264x1, .i32⟩
  | .hbm, ⟨112, _⟩ => ⟨S264x3, .i32⟩
  | .hbm, ⟨113, _⟩ => ⟨S264x1x3584x1024, .f32⟩
  | .hbm, ⟨114, _⟩ => ⟨S264x3584x1024, .f32⟩
  | .hbm, ⟨115, _⟩ => ⟨S264x256x1024, .f32⟩
  | .hbm, ⟨116, _⟩ => ⟨S264, .i32⟩
  | .hbm, ⟨117, _⟩ => ⟨S_, .i32⟩
  | .hbm, ⟨118, _⟩ => ⟨S264, .i32⟩
  | .hbm, ⟨119, _⟩ => ⟨S264, .i1⟩
  | .hbm, ⟨120, _⟩ => ⟨S264x1x1, .i1⟩
  | .hbm, ⟨121, _⟩ => ⟨S_, .f32⟩
  | .hbm, ⟨122, _⟩ => ⟨S_, .f32⟩
  | .hbm, ⟨123, _⟩ => ⟨S264x256x1024, .i1⟩
  | .hbm, ⟨124, _⟩ => ⟨S264x256x1024, .f32⟩
  | .hbm, ⟨125, _⟩ => ⟨S264x256x1024, .f32⟩
  | .hbm, ⟨126, _⟩ => ⟨S540672x128, .f32⟩
  | _, _ => ⟨S540672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_c_2 : Ref sig .tc := ⟨.hbm, 24, rfl⟩
abbrev main_v15 : Ref sig .tc := ⟨.hbm, 25, rfl⟩
abbrev main_c_3 : Ref sig .tc := ⟨.hbm, 26, rfl⟩
abbrev main_c_4 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_c_6 : Ref sig .tc := ⟨.hbm, 31, rfl⟩
abbrev main_c_7 : Ref sig .tc := ⟨.hbm, 32, rfl⟩
abbrev main_v18 : Ref sig .tc := ⟨.hbm, 33, rfl⟩
abbrev main_c_8 : Ref sig .tc := ⟨.hbm, 34, rfl⟩
abbrev main_c_9 : Ref sig .tc := ⟨.hbm, 35, rfl⟩
abbrev main_v19 : Ref sig .tc := ⟨.hbm, 36, rfl⟩
abbrev main_c_10 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v28 : Ref sig .tc := ⟨.hbm, 54, rfl⟩
abbrev main_c_11 : Ref sig .tc := ⟨.hbm, 55, rfl⟩
abbrev main_v29 : Ref sig .tc := ⟨.hbm, 56, rfl⟩
abbrev main_v30 : Ref sig .tc := ⟨.hbm, 57, rfl⟩
abbrev main_c_12 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_13 : Ref sig .tc := ⟨.hbm, 62, rfl⟩
abbrev main_c_14 : Ref sig .tc := ⟨.hbm, 63, rfl⟩
abbrev main_v34 : Ref sig .tc := ⟨.hbm, 64, rfl⟩
abbrev main_c_15 : Ref sig .tc := ⟨.hbm, 65, rfl⟩
abbrev main_c_16 : Ref sig .tc := ⟨.hbm, 66, rfl⟩
abbrev main_v35 : Ref sig .tc := ⟨.hbm, 67, rfl⟩
abbrev main_c_17 : Ref sig .tc := ⟨.hbm, 68, rfl⟩
abbrev main_v36 : Ref sig .tc := ⟨.hbm, 69, rfl⟩
abbrev main_c_18 : Ref sig .tc := ⟨.hbm, 70, rfl⟩
abbrev main_c_19 : Ref sig .tc := ⟨.hbm, 71, rfl⟩
abbrev main_v37 : Ref sig .tc := ⟨.hbm, 72, rfl⟩
abbrev main_c_20 : Ref sig .tc := ⟨.hbm, 73, rfl⟩
abbrev main_c_21 : Ref sig .tc := ⟨.hbm, 74, rfl⟩
abbrev main_v38 : Ref sig .tc := ⟨.hbm, 75, rfl⟩
abbrev main_c_22 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_23 : Ref sig .tc := ⟨.hbm, 86, rfl⟩
abbrev main_v48 : Ref sig .tc := ⟨.hbm, 87, rfl⟩
abbrev main_v49 : Ref sig .tc := ⟨.hbm, 88, rfl⟩
abbrev main_c_24 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_25 : Ref sig .tc := ⟨.hbm, 93, rfl⟩
abbrev main_c_26 : Ref sig .tc := ⟨.hbm, 94, rfl⟩
abbrev main_v53 : Ref sig .tc := ⟨.hbm, 95, rfl⟩
abbrev main_c_27 : Ref sig .tc := ⟨.hbm, 96, rfl⟩
abbrev main_c_28 : Ref sig .tc := ⟨.hbm, 97, rfl⟩
abbrev main_v54 : Ref sig .tc := ⟨.hbm, 98, rfl⟩
abbrev main_c_29 : Ref sig .tc := ⟨.hbm, 99, rfl⟩
abbrev main_v55 : Ref sig .tc := ⟨.hbm, 100, rfl⟩
abbrev main_c_30 : Ref sig .tc := ⟨.hbm, 101, rfl⟩
abbrev main_c_31 : Ref sig .tc := ⟨.hbm, 102, rfl⟩
abbrev main_v56 : Ref sig .tc := ⟨.hbm, 103, rfl⟩
abbrev main_c_32 : Ref sig .tc := ⟨.hbm, 104, rfl⟩
abbrev main_c_33 : Ref sig .tc := ⟨.hbm, 105, rfl⟩
abbrev main_v57 : Ref sig .tc := ⟨.hbm, 106, rfl⟩
abbrev main_c_34 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v71 : Ref sig .tc := ⟨.hbm, 125, rfl⟩
abbrev main_v72 : Ref sig .tc := ⟨.hbm, 126, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S65536x1024 : Shape := ⟨2, ![65536, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S512x3072 : Shape := ⟨2, ![512, 3072]⟩
abbrev S32x1024 : Shape := ⟨2, ![32, 1024]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x1024, .bf16⟩
  | .hbm, ⟨6, _⟩ => ⟨S65536x1024, .bf16⟩
  | .hbm, ⟨7, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩
abbrev S512x64x3x1024 : Shape := ⟨4, ![512, 64, 3, 1024]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S512x64x1x1024 : Shape := ⟨4, ![512, 64, 1, 1024]⟩
abbrev S512x64x1024 : Shape := ⟨3, ![512, 64, 1024]⟩
abbrev S128 : Shape := ⟨1, ![128]⟩
abbrev S128x1 : Shape := ⟨2, ![128, 1]⟩
abbrev S512x128x1024 : Shape := ⟨3, ![512, 128, 1024]⟩
abbrev S65536x1024 : Shape := ⟨2, ![65536, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S512x64x3x1024, .f32⟩
  | .hbm, ⟨21, _⟩ => ⟨S4, .i32⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4x1, .i32⟩
  | .hbm, ⟨37, _⟩ => ⟨S32, .i32⟩
  | .hbm, ⟨38, _⟩ => ⟨S1x32, .i32⟩
  | .hbm, ⟨39, _⟩ => ⟨S4x32, .i32⟩
  | .hbm, ⟨40, _⟩ => ⟨S4x32, .i32⟩
  | .hbm, ⟨41, _⟩ => ⟨S4x32, .i32⟩
  | .hbm, ⟨42, _⟩ => ⟨S512x64x1x1024, .f32⟩
  | .hbm, ⟨43, _⟩ => ⟨S512x64x1024, .f32⟩
  | .hbm, ⟨44, _⟩ => ⟨S512x64x1x1024, .f32⟩
  | .hbm, ⟨45, _⟩ => ⟨S512x64x1024, .f32⟩
  | .hbm, ⟨46, _⟩ => ⟨S128, .i32⟩
  | .hbm, ⟨47, _⟩ => ⟨S128x1, .i32⟩
  | .hbm, ⟨48, _⟩ => ⟨S512x128x1024, .f32⟩
  | .hbm, ⟨49, _⟩ => ⟨S128, .i32⟩
  | .hbm, ⟨50, _⟩ => ⟨S128x1, .i32⟩
  | .hbm, ⟨51, _⟩ => ⟨S512x128x1024, .f32⟩
  | .hbm, ⟨52, _⟩ => ⟨S512x64x1x1024, .f32⟩
  | .hbm, ⟨53, _⟩ => ⟨S512x64x1024, .f32⟩
  | .hbm, ⟨54, _⟩ => ⟨S32768x1024, .f32⟩
  | .hbm, ⟨55, _⟩ => ⟨S32768x1024, .bf16⟩
  | .hbm, ⟨56, _⟩ => ⟨S65536x1024, .f32⟩
  | .hbm, ⟨57, _⟩ => ⟨S65536x1024, .bf16⟩
  | .hbm, ⟨58, _⟩ => ⟨S65536x1024, .f32⟩
  | .hbm, ⟨59, _⟩ => ⟨S65536x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_c_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_call2_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel4.lean ====
abbrev S32768x1024 : Shape := ⟨2, ![32768, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S32768x2048 : Shape := ⟨2, ![32768, 2048]⟩
abbrev S1024x1024 : Shape := ⟨2, ![1024, 1024]⟩
abbrev S32768x1024 : Shape := ⟨2, ![32768, 1024]⟩
abbrev S64x64 : Shape := ⟨2, ![64, 64]⟩
abbrev S8x64x64x2048 : Shape := ⟨4, ![8, 64, 64, 2048]⟩
abbrev S8x64x64x1024 : Shape := ⟨4, ![8, 64, 64, 1024]⟩
abbrev S1x8x64x2048 : Shape := ⟨4, ![1, 8, 64, 2048]⟩
abbrev S1x64x8x1024 : Shape := ⟨4, ![1, 64, 8, 1024]⟩
abbrev S1x1x64x1024 : Shape := ⟨4, ![1, 1, 64, 1024]⟩
abbrev S64x1024 : Shape := ⟨2, ![64, 1024]⟩
abbrev S512x1024 : Shape := ⟨2, ![512, 1024]⟩
abbrev S1x64x1x1024 : Shape := ⟨4, ![1, 64, 1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S1024x1024, .f32⟩
  | .hbm, ⟨2, _⟩ => ⟨S32768x1024, .f32⟩
  | .hbm, ⟨3, _⟩ => ⟨S64x64, .bf16⟩
  | .hbm, ⟨4, _⟩ => ⟨S64x64, .bf16⟩
  | .hbm, ⟨5, _⟩ => ⟨S1024x1024, .bf16⟩
  | .hbm, ⟨6, _⟩ => ⟨S8x64x64x2048, .bf16⟩
  | .hbm, ⟨7, _⟩ => ⟨S8x64x64x1024, .f32⟩
  | .hbm, ⟨8, _⟩ => ⟨S8x64x64x1024, .f32⟩
  | .local _ .vmem, ⟨0, _⟩ => ⟨S64x64, .bf16⟩
  | .local _ .vmem, ⟨1, _⟩ => ⟨S64x64, .bf16⟩
  | .local _ .vmem, ⟨2, _⟩ => ⟨S1x8x64x2048, .bf16⟩
  | .local _ .vmem, ⟨3, _⟩ => ⟨S1x8x64x2048, .bf16⟩
  | .local _ .vmem, ⟨4, _⟩ => ⟨S1024x1024, .bf16⟩
  | .local _ .vmem, ⟨5, _⟩ => ⟨S1x64x8x1024, .f32⟩
  | .local _ .vmem, ⟨6, _⟩ => ⟨S1x64x8x1024, .f32⟩
  | .local _ .vmem, ⟨7, _⟩ => ⟨S1x64x8x1024, .f32⟩
  | .local _ .vmem, ⟨8, _⟩ => ⟨S1x64x8x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S64x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S32768x2048 : Shape := ⟨2, ![32768, 2048]⟩
abbrev S1024x1024 : Shape := ⟨2, ![1024, 1024]⟩
abbrev S32768x1024 : Shape := ⟨2, ![32768, 1024]⟩
abbrev S64x64 : Shape := ⟨2, ![64, 64]⟩
abbrev S8x64x64x2x1024 : Shape := ⟨5, ![8, 64, 64, 2, 1024]⟩
abbrev S8x64x64x1x1024 : Shape := ⟨5, ![8, 64, 64, 1, 1024]⟩
abbrev S8x64x64x1024 : Shape := ⟨4, ![8, 64, 64, 1024]⟩
abbrev S8x64x1024x64 : Shape := ⟨4, ![8, 64, 1024, 64]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1024x1024, .f32⟩
  | .hbm, ⟨2, _⟩ => ⟨S32768x1024, .f32⟩
  | .hbm, ⟨3, _⟩ => ⟨S64x64, .bf16⟩
  | .hbm, ⟨4, _⟩ => ⟨S64x64, .bf16⟩
  | .hbm, ⟨5, _⟩ => ⟨S64x64, .f32⟩
  | .hbm, ⟨6, _⟩ => ⟨S64x64, .f32⟩
  | .hbm, ⟨7, _⟩ => ⟨S32768x2048, .f32⟩
  | .hbm, ⟨8, _⟩ => ⟨S8x64x64x2x1024, .f32⟩
  | .hbm, ⟨9, _⟩ => ⟨S8x64x64x1x1024, .f32⟩
  | .hbm, ⟨10, _⟩ => ⟨S8x64x64x1024, .f32⟩
  | .hbm, ⟨11, _⟩ => ⟨S8x64x1024x64, .f32⟩
  | .hbm, ⟨12, _⟩ => ⟨S8x64x64x1024, .f32⟩
  | .hbm, ⟨13, _⟩ => ⟨S8x64x64x1x1024, .f32⟩
  | .hbm, ⟨14, _⟩ => ⟨S8x64x64x1024, .f32⟩
  | .hbm, ⟨15, _⟩ => ⟨S8x64x1024x64, .f32⟩
  | .hbm, ⟨16, _⟩ => ⟨S8x64x64x1024, .f32⟩
  | .hbm, ⟨17, _⟩ => ⟨S8x64x64x1024, .f32⟩
  | .hbm, ⟨18, _⟩ => ⟨S_, .f32⟩
  | .hbm, ⟨19, _⟩ => ⟨S8x64x64x1024, .f32⟩
  | .hbm, ⟨20, _⟩ => ⟨S8x64x64x1024, .f32⟩
  | .hbm, ⟨21, _⟩ => ⟨S8x64x64x1024, .f32⟩
  | .hbm, ⟨22, _⟩ => ⟨S8x64x64x1024, .f32⟩
  | .hbm, ⟨23, _⟩ => ⟨S8x64x64x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x2048 : Shape := ⟨2, ![1024, 2048]⟩
abbrev S128x64 : Shape := ⟨2, ![128, 64]⟩
abbrev S8x8 : Shape := ⟨2, ![8, 8]⟩
abbrev S8x512x1 : Shape := ⟨3, ![8, 512, 1]⟩
abbrev S128x1x64x1 : Shape := ⟨4, ![128, 1, 64, 1]⟩
abbrev S1x8x1x8 : Shape := ⟨4, ![1, 8, 1, 8]⟩
abbrev S128x8x64x8 : Shape := ⟨4, ![128, 8, 64, 8]⟩
abbrev S1024x512 : Shape := ⟨2, ![1024, 512]⟩
abbrev S8x64x64x1024 : Shape := ⟨4, ![8, 64, 64, 1024]⟩
abbrev S1x1024 : Shape := ⟨2, ![1, 1024]⟩
abbrev S8x64x64x2048 : Shape := ⟨4, ![8, 64, 64, 2048]⟩
abbrev S1x64x8x1024 : Shape := ⟨4, ![1, 64, 8, 1024]⟩
abbrev S1x512x1 : Shape := ⟨3, ![1, 512, 1]⟩
abbrev S1x64x8x2048 : Shape := ⟨4, ![1, 64, 8, 2048]⟩
abbrev S64x8x1024 : Shape := ⟨3, ![64, 8, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1024x1024 : Shape := ⟨2, ![1024, 1024]⟩
abbrev S64x8x2048 : Shape := ⟨3, ![64, 8, 2048]⟩

abbrev nBuf : Space → Nat
  | .hbm => 24
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .bf16⟩
  | .hbm, ⟨3, _⟩ => ⟨S128x64, .bf16⟩
  | .hbm, ⟨4, _⟩ => ⟨S8x8, .bf16⟩
  | .hbm, ⟨5, _⟩ => ⟨S128x64, .bf16⟩
  | .hbm, ⟨6, _⟩ => ⟨S8x8, .bf16⟩
  | .hbm, ⟨7, _⟩ => ⟨S8x512x1, .f32⟩
  | .hbm, ⟨8, _⟩ => ⟨S8x512x1, .f32⟩
  | .hbm, ⟨9, _⟩ => ⟨S128x1x64x1, .bf16⟩
  | .hbm, ⟨10, _⟩ => ⟨S1x8x1x8, .bf16⟩
  | .hbm, ⟨11, _⟩ => ⟨S128x8x64x8, .bf16⟩
  | .hbm, ⟨12, _⟩ => ⟨S128x8x64x8, .bf16⟩
  | .hbm, ⟨13, _⟩ => ⟨S128x8x64x8, .bf16⟩
  | .hbm, ⟨14, _⟩ => ⟨S1024x512, .bf16⟩
  | .hbm, ⟨15, _⟩ => ⟨S128x1x64x1, .bf16⟩
  | .hbm, ⟨16, _⟩ => ⟨S1x8x1x8, .bf16⟩
  | .hbm, ⟨17, _⟩ => ⟨S128x8x64x8, .bf16⟩
  | .hbm, ⟨18, _⟩ => ⟨S128x8x64x8, .bf16⟩
  | .hbm, ⟨19, _⟩ => ⟨S128x8x64x8, .bf16⟩
  | .hbm, ⟨20, _⟩ => ⟨S1024x512, .bf16⟩
  | .hbm, ⟨21, _⟩ => ⟨S8x64x64x1024, .f32⟩
  | .hbm, ⟨22, _⟩ => ⟨S1x1024, .f32⟩
  | .hbm, ⟨23, _⟩ => ⟨S8x64x64x2048, .bf16⟩
  | .local _ .vmem, ⟨0, _⟩ => ⟨S1x64x8x1024, .f32⟩
  | .local _ .vmem, ⟨1, _⟩ => ⟨S1x64x8x1024, .f32⟩
  | .local _ .vmem, ⟨2, _⟩ => ⟨S1x1024, .f32⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x64x8x2048, .bf16⟩
  | .local _ .vmem, ⟨11, _⟩ => ⟨S1x64x8x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x8x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S32768x1024 : Shape := ⟨2, ![32768, 1024]⟩
abbrev S1024 : Shape := ⟨1, ![1024]⟩
abbrev S1024x2048 : Shape := ⟨2, ![1024, 2048]⟩
abbrev S64x64 : Shape := ⟨2, ![64, 64]⟩
abbrev S1x64x64x1 : Shape := ⟨4, ![1, 64, 64, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S8x64x64x2x1024 : Shape := ⟨5, ![8, 64, 64, 2, 1024]⟩
abbrev S8x64x64x1x1024 : Shape := ⟨5, ![8, 64, 64, 1, 1024]⟩
abbrev S8x64x64x1024 : Shape := ⟨4, ![8, 64, 64, 1024]⟩
abbrev S8x64x1024x64 : Shape := ⟨4, ![8, 64, 1024, 64]⟩
abbrev S8x64x64x2048 : Shape := ⟨4, ![8, 64, 64, 2048]⟩

abbrev nBuf : Space → Nat
  | .hbm => 63
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .bf16⟩
  | .hbm, ⟨3, _⟩ => ⟨S64x64, .f32⟩
  | .hbm, ⟨4, _⟩ => ⟨S64x64, .f32⟩
  | .hbm, ⟨5, _⟩ => ⟨S64x64, .bf16⟩
  | .hbm, ⟨6, _⟩ => ⟨S64x64, .bf16⟩
  | .hbm, ⟨7, _⟩ => ⟨S64x64, .bf16⟩
  | .hbm, ⟨8, _⟩ => ⟨S64x64, .bf16⟩
  | .hbm, ⟨9, _⟩ => ⟨S1x64x64x1, .f32⟩
  | .hbm, ⟨10, _⟩ => ⟨S1x64x64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S1024x2048, .f32⟩
  | .hbm, ⟨32, _⟩ => ⟨S32768x2048, .f32⟩
  | .hbm, ⟨33, _⟩ => ⟨S8x64x64x2x1024, .f32⟩
  | .hbm, ⟨34, _⟩ => ⟨S8x64x64x1x1024, .f32⟩
  | .hbm, ⟨35, _⟩ => ⟨S8x64x64x1024, .f32⟩
  | .hbm, ⟨36, _⟩ => ⟨S8x64x64x1x1024, .f32⟩
  | .hbm, ⟨37, _⟩ => ⟨S8x64x64x1024, .f32⟩
  | .hbm, ⟨38, _⟩ => ⟨S8x64x1024x64, .f32⟩
  | .hbm, ⟨39, _⟩ => ⟨S8x64x64x1024, .f32⟩
  | .hbm, ⟨40, _⟩ => ⟨S8x64x1024x64, .f32⟩
  | .hbm, ⟨41, _⟩ => ⟨S8x64x64x1024, .f32⟩
  | .hbm, ⟨42, _⟩ => ⟨S8x64x64x1024, .f32⟩
  | .hbm, ⟨43, _⟩ => ⟨S8x64x1024x64, .f32⟩
  | .hbm, ⟨44, _⟩ => ⟨S8x64x64x1024, .f32⟩
  | .hbm, ⟨45, _⟩ => ⟨S8x64x1024x64, .f32⟩
  | .hbm, ⟨46, _⟩ => ⟨S8x64x64x1024, .f32⟩
  | .hbm, ⟨47, _⟩ => ⟨S8x64x64x1024, .f32⟩
  | .hbm, ⟨48, _⟩ => ⟨S8x64x64x1024, .f32⟩
  | .hbm, ⟨49, _⟩ => ⟨S8x64x64x1024, .f32⟩
  | .hbm, ⟨50, _⟩ => ⟨S8x64x64x1024, .f32⟩
  | .hbm, ⟨51, _⟩ => ⟨S8x64x64x1024, .f32⟩
  | .hbm, ⟨52, _⟩ => ⟨S8x64x64x1024, .f32⟩
  | .hbm, ⟨53, _⟩ => ⟨S8x64x64x1024, .f32⟩
  | .hbm, ⟨54, _⟩ => ⟨S8x64x64x1024, .f32⟩
  | .hbm, ⟨55, _⟩ => ⟨S8x64x64x1024, .f32⟩
  | .hbm, ⟨56, _⟩ => ⟨S8x64x64x1024, .f32⟩
  | .hbm, ⟨57, _⟩ => ⟨S8x64x64x1024, .f32⟩
  | .hbm, ⟨58, _⟩ => ⟨S8x64x64x1x1024, .f32⟩
  | .hbm, ⟨59, _⟩ => ⟨S8x64x64x1x1024, .f32⟩
  | .hbm, ⟨60, _⟩ => ⟨S8x64x64x2x1024, .f32⟩
  | .hbm, ⟨61, _⟩ => ⟨S8x64x64x2048, .f32⟩
  | .hbm, ⟨62, _⟩ => ⟨S8x64x64x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_5 : Ref sig .tc := ⟨.hbm, 16, rfl⟩
abbrev main_v7 : Ref sig .tc := ⟨.hbm, 17, rfl⟩
abbrev main_v8 : Ref sig .tc := ⟨.hbm, 18, rfl⟩
abbrev main_cst_6 : Ref sig .tc := ⟨.hbm, 19, rfl⟩
abbrev main_v9 : Ref sig .tc := ⟨.hbm, 20, rfl⟩
abbrev main_v10 : Ref sig .tc := ⟨.hbm, 21, rfl⟩
abbrev main_cst_7 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Kernel7.lean ====
abbrev S32768x1024 : Shape := ⟨2, ![32768, 1024]⟩
abbrev S540672x128 : Shape := ⟨2, ![540672, 128]⟩
abbrev S65536 : Shape := ⟨1, ![65536]⟩
abbrev S32768x2 : Shape := ⟨2, ![32768, 2]⟩
abbrev S1024 : Shape := ⟨1, ![1024]⟩
abbrev S1x1024 : Shape := ⟨2, ![1, 1024]⟩
abbrev S512x1024 : Shape := ⟨2, ![512, 1024]⟩
abbrev S512x2 : Shape := ⟨2, ![512, 2]⟩
abbrev S2x8192x128 : Shape := ⟨3, ![2, 8192, 128]⟩
abbrev S2 : Shape := ⟨1, ![2]⟩
abbrev S1 : Shape := ⟨1, ![1]⟩
abbrev S_ : Shape := ⟨0, ![]⟩
abbrev S1x8192x128 : Shape := ⟨3, ![1, 8192, 128]⟩
abbrev S8192x128 : Shape := ⟨2, ![8192, 128]⟩
abbrev S8x128 : Shape := ⟨2, ![8, 128]⟩
abbrev S1x512x128 : Shape := ⟨3, ![1, 512, 128]⟩
abbrev S512x128 : Shape := ⟨2, ![512, 128]⟩
abbrev S512x1 : Shape := ⟨2, ![512, 1]⟩
abbrev S512 : Shape := ⟨1, ![512]⟩

abbrev nBuf : Space → Nat
  | .hbm => 7
  | .vmem => 8
  | .smem => 4
  | _ => 0

abbrev bufTy : (tb : Table) → Fin (tcTables nBuf tb) → BufTy
  | .hbm, ⟨0, _⟩ => ⟨S32768x1024, .f32⟩
  | .hbm, ⟨1, _⟩ => ⟨S540672x128, .f32⟩
  | .hbm, ⟨2, _⟩ => ⟨S65536, .i32⟩
  | .hbm, ⟨3, _⟩ => ⟨S32768x2, .f32⟩
  | .hbm, ⟨4, _⟩ => ⟨S1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2, .f32⟩
  | .local _ .vmem, ⟨3, _⟩ => ⟨S512x2, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x8192x128, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_37 : BitVec 32 := 0#32
  let c512_i32 : BitVec 32 := 512#32
  let v97 : BitVec 32 := Scalar.addi c0_i32_37 c512_i32
  let c1_i32_38 : BitVec 32 := 1#32
  ⟨c0_i32_37, v97, c1_i32_38⟩
def k0_off1 (k0_t1 : Fin k0_t1_loop.trips) : Fin 1 → Nat :=
  let c2_i32_40 : BitVec 32 := 2#32
  let c0_i32_37 : BitVec 32 := 0#32
  let c1_i32_38 : BitVec 32 := 1#32
  let arg10 : BitVec 32 := Scf.iv c0_i32_37 c1_i32_38 k0_t1
  let v98 : BitVec 32 := Scalar.muli c2_i32_40 arg10
  let c0_i32_41 : BitVec 32 := 0#32
  let v99 : BitVec 32 := Scalar.addi v98 c0_i32_41
  let v100 : Index := Scalar.indexCast v99
  ![v100.toNat]
def k0_mult1 (v101 : BitVec 32) : BitVec 32 :=
  let c8_i32 : BitVec 32 := 8#32
  let v103 : BitVec 32 := Scalar.muli v101 c8_i32
  v103

def k0_mult2 (k0_t1 : Fin k0_t1_loop.trips) : BitVec 32 :=
  let c0_i32_42 : BitVec 32 := 0#32
  let c0_i32_37 : BitVec 32 := 0#32
  let c1_i32_38 : BitVec 32 := 1#32
  let arg10 : BitVec 32 := Scf.iv c0_i32_37 c1_i32_38 k0_t1
  let v102 : BitVec 32 := Scalar.addi c0_i32_42 arg10
  let c8_i32_43 : BitVec 32 := 8#32
  let v105 : BitVec 32 := Scalar.muli v102 c8_i32_43
  v105
def k0_off2 (k0_t1 : Fin k0_t1_loop.trips) : Fin 2 → Nat :=
  let c0_i32_42 : BitVec 32 := 0#32
  let c0_i32_37 : BitVec 32 := 0#32
  let c1_i32_38 : BitVec 32 := 1#32
  let arg10 : BitVec 32 := Scf.iv c0_i32_37 c1_i32_38 k0_t1
  let v102 : BitVec 32 := Scalar.addi c0_i32_42 arg10
  let c8_i32_43 : BitVec 32 := 8#32
  let v105 : BitVec 32 := Scalar.muli v102 c8_i32_43
  let v106 : BitVec 32 := v105
  let c0_i32_48 : BitVec 32 := 0#32
  ![v106.toNat, 0]
def k0_off3 (v101 : BitVec 32) : Fin 2 → Nat :=
  let c8_i32 : BitVec 32 := 8#32
  let v103 : BitVec 32 := Scalar.muli v101 c8_i32
  let v104 : BitVec 32 := v103
  let c0_i32_49 : BitVec 32 := 0#32
  ![v104.toNat, 0]

def k0_chk1 (i : grid0.Coords) (v101 : BitVec 32) : Prop :=
  (∀ (k0_h1 : k0_cond1 i = 1#1), 8 ∣ (k0_mult1 v101).toNat) ∧
  (∀ (k0_h1 : k0_cond1 i = 1#1), ∀ a, (k0_off3 v101) a + S8x128.size a ≤ S540672x128.size a)
theorem k0_mult1_dvd : ∀ (i : grid0.Coords) (v101 : BitVec 32) (k0_hw1 : k0_chk1 i v101), ∀ (k0_h1 : k0_cond1 i = 1#1), 8 ∣ (k0_mult1 v101).toNat := fun i v101 k0_hw1 k0_h1 => k0_hw1.1 k0_h1
theorem k0_off3_inb : ∀ (i : grid0.Coords) (v101 : BitVec 32) (k0_hw1 : k0_chk1 i v101), ∀ (k0_h1 : k0_cond1 i = 1#1), ∀ a, (k0_off3 v101) a + S8x128.size a ≤ S540672x128.size a := fun i v101 k0_hw1 k0_h1 => k0_hw1.2 k0_h1

def k0_off4 (k0_t1 : Fin k0_t1_loop.trips) : Fin 1 → Nat :=
  let c2_i32_50 : BitVec 32 := 2#32
  let c0_i32_37 : BitVec 32 := 0#32
  let c1_i32_38 : BitVec 32 := 1#32
  let arg10 : BitVec 32 := Scf.iv c0_i32_37 c1_i32_38 k0_t1
  let v113 : BitVec 32 := Scalar.muli c2_i32_50 arg10
  let c1_i32_51 : BitVec 32 := 1#32
  let v114 : BitVec 32 := Scalar.addi v113 c1_i32_51
  let v115 : Index := Scalar.indexCast v114
  ![v115.toNat]
def k0_mult3 (v116 : BitVec 32) : BitVec 32 :=
  let c8_i32_53 : BitVec 32 := 8#32
  let v118 : BitVec 32 := Scalar.muli v116 c8_i32_53
  v118

def k0_mult4 (k0_t1 : Fin k0_t1_loop.trips) : BitVec 32 :=
  let c512_i32_52 : BitVec 32 := 512#32
  let c0_i32_37 : BitVec 32 := 0#32
  let c1_i32_38 : BitVec 32 := 1#32
  let arg10 : BitVec 32 := Scf.iv c0_i32_37 c1_i32_38 k0_t1
  let v117 : BitVec 32 := Scalar.addi c512_i32_52 arg10
  let c8_i32_54 : BitVec 32 := 8#32
  let v120 : BitVec 32 := Scalar.muli v117 c8_i32_54
  v120
def k0_off5 (k0_t1 : Fin k0_t1_loop.trips) : Fin 2 → Nat :=
  let c512_i32_52 : BitVec 32 := 512#32
  let c0_i32_37 : BitVec 32 := 0#32
  let c1_i32_38 : BitVec 32 := 1#32
  let arg10 : BitVec 32 := Scf.iv c0_i32_37 c1_i32_38 k0_t1
  let v117 : BitVec 32 := Scalar.addi c512_i32_52 arg10
  let c8_i32_54 : BitVec 32 := 8#32
  let v120 : BitVec 32 := Scalar.muli v117 c8_i32_54
  let v121 : BitVec 32 := v120
  let c0_i32_59 : BitVec 32 := 0#32
  ![v121.toNat, 0]
def k0_off6 (v116 : BitVec 32) : Fin 2 → Nat :=
  let c8_i32_53 : BitVec 32 := 8#32
  let v118 : BitVec 32 := Scalar.muli v116 c8_i32_53
  let v119 : BitVec 32 := v118
  let c0_i32_60 : BitVec 32 := 0#32
  ![v119.toNat, 0]

def k0_chk2 (i : grid0.Coords) (v116 : BitVec 32) : Prop :=
  (∀ (k0_h1 : k0_cond1 i = 1#1), 8 ∣ (k0_mult3 v116).toNat) ∧
  (∀ (k0_h1 : k0_cond1 i = 1#1), ∀ a, (k0_off6 v116) a + S8x128.size a ≤ S540672x128.size a)
theorem k0_mult3_dvd : ∀ (i : grid0.Coords) (v116 : BitVec 32) (k0_hw2 : k0_chk2 i v116), ∀ (k0_h1 : k0_cond1 i = 1#1), 8 ∣ (k0_mult3 v116).toNat := fun i v116 k0_hw2 k0_h1 => k0_hw2.1 k0_h1
theorem k0_off6_inb : ∀ (i : grid0.Coords) (v116 : BitVec 32) (k0_hw2 : k0_chk2 i v116), ∀ (k0_h1 : k0_cond1 i = 1#1), ∀ a, (k0_off6 v116) a + S8x128.size a ≤ S540672x128.size a := fun i v116 k0_hw2 k0_h1 => k0_hw2.2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c64_i32 : BitVec 32 := 64#32
  let v14 : BitVec 1 := Scalar.cmpi .slt v13 c64_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_38 : BitVec 32 := 0#32
  let c512_i32 : BitVec 32 := 512#32
  let v98 : BitVec 32 := Scalar.addi c0_i32_38 c512_i32
  let c1_i32_39 : BitVec 32 := 1#32
  ⟨c0_i32_38, v98, c1_i32_39⟩
def k0_off7 (k0_t2 : Fin k0_t2_loop.trips) : Fin 1 → Nat :=
  let c2_i32_41 : BitVec 32 := 2#32
  let c0_i32_38 : BitVec 32 := 0#32
  let c1_i32_39 : BitVec 32 := 1#32
  let arg10 : BitVec 32 := Scf.iv c0_i32_38 c1_i32_39 k0_t2
  let v99 : BitVec 32 := Scalar.muli c2_i32_41 arg10
  let c0_i32_42 : BitVec 32 := 0#32
  let v100 : BitVec 32 := Scalar.addi v99 c0_i32_42
  let v101 : Index := Scalar.indexCast v100
  ![v101.toNat]
def k0_mult5 (v102 : BitVec 32) : BitVec 32 :=
  let c8_i32 : BitVec 32 := 8#32
  let v104 : BitVec 32 := Scalar.muli v102 c8_i32
  v104

def k0_mult6 (k0_t2 : Fin k0_t2_loop.trips) : BitVec 32 :=
  let c0_i32_43 : BitVec 32 := 0#32
  let c0_i32_38 : BitVec 32 := 0#32
  let c1_i32_39 : BitVec 32 := 1#32
  let arg10 : BitVec 32 := Scf.iv c0_i32_38 c1_i32_39 k0_t2
  let v103 : BitVec 32 := Scalar.addi c0_i32_43 arg10
  let c8_i32_44 : BitVec 32 := 8#32
  let v106 : BitVec 32 := Scalar.muli v103 c8_i32_44
  v106
def k0_off8 (i : grid0.Coords) : Fin 1 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v97 : BitVec 32 := Scalar.subi c1_i32_37 v9
  ![v97.toNat]
def k0_off9 (i : grid0.Coords) : Fin 3 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v97 : BitVec 32 := Scalar.subi c1_i32_37 v9
  let c0_i32_45 : BitVec 32 := 0#32
  let c0_i32_46 : BitVec 32 := 0#32
  ![v97.toNat, 0, 0]
def k0_off10 (k0_t2 : Fin k0_t2_loop.trips) : Fin 2 → Nat :=
  let c0_i32_43 : BitVec 32 := 0#32
  let c0_i32_38 : BitVec 32 := 0#32
  let c1_i32_39 : BitVec 32 := 1#32
  let arg10 : BitVec 32 := Scf.iv c0_i32_38 c1_i32_39 k0_t2
  let v103 : BitVec 32 := Scalar.addi c0_i32_43 arg10
  let c8_i32_44 : BitVec 32 := 8#32
  let v106 : BitVec 32 := Scalar.muli v103 c8_i32_44
  let v107 : BitVec 32 := v106
  let c0_i32_47 : BitVec 32 := 0#32
  ![v107.toNat, 0]
def k0_off11 (v102 : BitVec 32) : Fin 2 → Nat :=
  let c8_i32 : BitVec 32 := 8#32
  let v104 : BitVec 32 := Scalar.muli v102 c8_i32
  let v105 : BitVec 32 := v104
  let c0_i32_48 : BitVec 32 := 0#32
  ![v105.toNat, 0]

def k0_chk3 (i : grid0.Coords) (v102 : BitVec 32) : Prop :=
  (∀ (k0_h2 : k0_cond2 i = 1#1), 8 ∣ (k0_mult5 v102).toNat) ∧
  (∀ (k0_h2 : k0_cond2 i = 1#1), ∀ a, (k0_off11 v102) a + S8x128.size a ≤ S540672x128.size a)
theorem k0_mult5_dvd : ∀ (i : grid0.Coords) (v102 : BitVec 32) (k0_hw3 : k0_chk3 i v102), ∀ (k0_h2 : k0_cond2 i = 1#1), 8 ∣ (k0_mult5 v102).toNat := fun i v102 k0_hw3 k0_h2 => k0_hw3.1 k0_h2
theorem k0_off11_inb : ∀ (i : grid0.Coords) (v102 : BitVec 32) (k0_hw3 : k0_chk3 i v102), ∀ (k0_h2 : k0_cond2 i = 1#1), ∀ a, (k0_off11 v102) a + S8x128.size a ≤ S540672x128.size a := fun i v102 k0_hw3 k0_h2 => k0_hw3.2 k0_h2

def k0_off12 (k0_t2 : Fin k0_t2_loop.trips) : Fin 1 → Nat :=
  let c2_i32_49 : BitVec 32 := 2#32
  let c0_i32_38 : BitVec 32 := 0#32
  let c1_i32_39 : BitVec 32 := 1#32
  let arg10 : BitVec 32 := Scf.iv c0_i32_38 c1_i32_39 k0_t2
  let v114 : BitVec 32 := Scalar.muli c2_i32_49 arg10
  let c1_i32_50 : BitVec 32 := 1#32
  let v115 : BitVec 32 := Scalar.addi v114 c1_i32_50
  let v116 : Index := Scalar.indexCast v115
  ![v116.toNat]
def k0_mult7 (v117 : BitVec 32) : BitVec 32 :=
  let c8_i32_52 : BitVec 32 := 8#32
  let v119 : BitVec 32 := Scalar.muli v117 c8_i32_52
  v119

def k0_mult8 (k0_t2 : Fin k0_t2_loop.trips) : BitVec 32 :=
  let c512_i32_51 : BitVec 32 := 512#32
  let c0_i32_38 : BitVec 32 := 0#32
  let c1_i32_39 : BitVec 32 := 1#32
  let arg10 : BitVec 32 := Scf.iv c0_i32_38 c1_i32_39 k0_t2
  let v118 : BitVec 32 := Scalar.addi c512_i32_51 arg10
  let c8_i32_53 : BitVec 32 := 8#32
  let v121 : BitVec 32 := Scalar.muli v118 c8_i32_53
  v121
def k0_off13 (i : grid0.Coords) : Fin 1 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v97 : BitVec 32 := Scalar.subi c1_i32_37 v9
  ![v97.toNat]
def k0_off14 (i : grid0.Coords) : Fin 3 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v97 : BitVec 32 := Scalar.subi c1_i32_37 v9
  let c0_i32_54 : BitVec 32 := 0#32
  let c0_i32_55 : BitVec 32 := 0#32
  ![v97.toNat, 0, 0]
def k0_off15 (k0_t2 : Fin k0_t2_loop.trips) : Fin 2 → Nat :=
  let c512_i32_51 : BitVec 32 := 512#32
  let c0_i32_38 : BitVec 32 := 0#32
  let c1_i32_39 : BitVec 32 := 1#32
  let arg10 : BitVec 32 := Scf.iv c0_i32_38 c1_i32_39 k0_t2
  let v118 : BitVec 32 := Scalar.addi c512_i32_51 arg10
  let c8_i32_53 : BitVec 32 := 8#32
  let v121 : BitVec 32 := Scalar.muli v118 c8_i32_53
  let v122 : BitVec 32 := v121
  let c0_i32_56 : BitVec 32 := 0#32
  ![v122.toNat, 0]
def k0_off16 (v117 : BitVec 32) : Fin 2 → Nat :=
  let c8_i32_52 : BitVec 32 := 8#32
  let v119 : BitVec 32 := Scalar.muli v117 c8_i32_52
  let v120 : BitVec 32 := v119
  let c0_i32_57 : BitVec 32 := 0#32
  ![v120.toNat, 0]

def k0_chk4 (i : grid0.Coords) (v117 : BitVec 32) : Prop :=
  (∀ (k0_h2 : k0_cond2 i = 1#1), 8 ∣ (k0_mult7 v117).toNat) ∧
  (∀ (k0_h2 : k0_cond2 i = 1#1), ∀ a, (k0_off16 v117) a + S8x128.size a ≤ S540672x128.size a)
theorem k0_mult7_dvd : ∀ (i : grid0.Coords) (v117 : BitVec 32) (k0_hw4 : k0_chk4 i v117), ∀ (k0_h2 : k0_cond2 i = 1#1), 8 ∣ (k0_mult7 v117).toNat := fun i v117 k0_hw4 k0_h2 => k0_hw4.1 k0_h2
theorem k0_off16_inb : ∀ (i : grid0.Coords) (v117 : BitVec 32) (k0_hw4 : k0_chk4 i v117), ∀ (k0_h2 : k0_cond2 i = 1#1), ∀ a, (k0_off16 v117) a + S8x128.size a ≤ S540672x128.size a := fun i v117 k0_hw4 k0_h2 => k0_hw4.2 k0_h2

def k0_off17 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c0_i32_8 : BitVec 32 := 0#32
  ![v9.toNat, 0, 0]
def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v23 : Index := Scalar.indexCast v9
  let c0_12 : Index := 0#32
  let c0_13 : Index := 0#32
  ![v23.toNat, 0, 0]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c1 : Index := 1#32
  let c0_14 : Index := 0#32
  ![v26.toNat, 1, 0]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v29 : Index := Scalar.indexCast v9
  let c2 : Index := 2#32
  let c0_15 : Index := 0#32
  ![v29.toNat, 2, 0]
def k0_off22 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : Index := Scalar.indexCast v9
  let c3 : Index := 3#32
  let c0_16 : Index := 0#32
  ![v32.toNat, 3, 0]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v35 : Index := Scalar.indexCast v9
  let c4 : Index := 4#32
  let c0_17 : Index := 0#32
  ![v35.toNat, 4, 0]
def k0_off24 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : Index := Scalar.indexCast v9
  let c5 : Index := 5#32
  let c0_18 : Index := 0#32
  ![v38.toNat, 5, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v41 : Index := Scalar.indexCast v9
  let c6 : Index := 6#32
  let c0_19 : Index := 0#32
  ![v41.toNat, 6, 0]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v44 : Index := Scalar.indexCast v9
  let c7 : Index := 7#32
  let c0_20 : Index := 0#32
  ![v44.toNat, 7, 0]
def k0_off27 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v51 : Index := Scalar.indexCast v9
  let c4096 : Index := 4096#32
  let c0_21 : Index := 0#32
  ![v51.toNat, 4096, 0]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v54 : Index := Scalar.indexCast v9
  let c4097 : Index := 4097#32
  let c0_22 : Index := 0#32
  ![v54.toNat, 4097, 0]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c4098 : Index := 4098#32
  let c0_23 : Index := 0#32
  ![v57.toNat, 4098, 0]
def k0_off30 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : Index := Scalar.indexCast v9
  let c4099 : Index := 4099#32
  let c0_24 : Index := 0#32
  ![v60.toNat, 4099, 0]
def k0_off31 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v63 : Index := Scalar.indexCast v9
  let c4100 : Index := 4100#32
  let c0_25 : Index := 0#32
  ![v63.toNat, 4100, 0]
def k0_off32 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : Index := Scalar.indexCast v9
  let c4101 : Index := 4101#32
  let c0_26 : Index := 0#32
  ![v66.toNat, 4101, 0]
def k0_off33 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v69 : Index := Scalar.indexCast v9
  let c4102 : Index := 4102#32
  let c0_27 : Index := 0#32
  ![v69.toNat, 4102, 0]
def k0_off34 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v72 : Index := Scalar.indexCast v9
  let c4103 : Index := 4103#32
  let c0_28 : Index := 0#32
  ![v72.toNat, 4103, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  ![v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S32768x1024 : Shape := ⟨2, ![32768, 1024]⟩
abbrev S540672x128 : Shape := ⟨2, ![540672, 128]⟩
abbrev S65536 : Shape := ⟨1, ![65536]⟩
abbrev S32768x2 : Shape := ⟨2, ![32768, 2]⟩
abbrev S1024 : Shape := ⟨1, ![1024]⟩
abbrev S67584x1024 : Shape := ⟨2, ![67584, 1024]⟩
abbrev S_ : Shape := ⟨0, ![]⟩
abbrev S32768x2x1 : Shape := ⟨3, ![32768, 2, 1]⟩
abbrev S32768x2x1024 : Shape := ⟨3, ![32768, 2, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S540672x128, .f32⟩
  | .hbm, ⟨2, _⟩ => ⟨S65536, .i32⟩
  | .hbm, ⟨3, _⟩ => ⟨S32768x2, .f32⟩
  | .hbm, ⟨4, _⟩ => ⟨S1024, .f32⟩
  | .hbm, ⟨5, _⟩ => ⟨S67584x1024, .f32⟩
  | .hbm, ⟨6, _⟩ => ⟨S32768x2, .i32⟩
  | .hbm, ⟨7, _⟩ => ⟨S_, .i32⟩
  | .hbm, ⟨8, _⟩ => ⟨S32768x2, .i32⟩
  | .hbm, ⟨9, _⟩ => ⟨S32768x2, .i1⟩
  | .hbm, ⟨10, _⟩ => ⟨S_, .i32⟩
  | .hbm, ⟨11, _⟩ => ⟨S32768x2, .i32⟩
  | .hbm, ⟨12, _⟩ => ⟨S32768x2, .i32⟩
  | .hbm, ⟨13, _⟩ => ⟨S32768x2, .i32⟩
  | .hbm, ⟨14, _⟩ => ⟨S32768x2x1, .i32⟩
  | .hbm, ⟨15, _⟩ => ⟨S32768x2x1024, .f32⟩
  | .hbm, ⟨16, _⟩ => ⟨S32768x2x1, .f32⟩
  | .hbm, ⟨17, _⟩ => ⟨S32768x2x1024, .f32⟩
  | .hbm, ⟨18, _⟩ => ⟨S32768x2x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel8.lean ====
abbrev S1024x1024 : Shape := ⟨2, ![1024, 1024]⟩
abbrev S1024x2048 : Shape := ⟨2, ![1024, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S1024x1024 : Shape := ⟨2, ![1024, 1024]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S1024x2048, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.CombineRun.lean ====
module

public import proofs.«01_k».proof.Proof.Gen.Kernel7Ideal.Frame
public import proofs.«01_k».proof.Defs
public import Idealize.ShloMosaic.Lib.Batch
public import Idealize.ShloMosaic.Lib.Claim
public import Idealize.ShloMosaic.Lib.Pipeline.Kit
public import Idealize.ShloMosaic.Lib.Pipeline.FrameBody
public import Idealize.ShloMosaic.Lib.Pipeline.ValueKit.Geometry
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pointwise

@[expose] public section

set_option maxRecDepth 16384

noncomputable section

/-! # The combination's gather

The combination reads, for each of a block's 512 tokens, the two expert rows the token was sent to. It copies them one by one
from the rows' array into one of two slots of a scratch buffer, a point ahead of the one that uses them: while one slot is
read, the other is being filled. All copies into a slot are counted on the slot's own semaphore and waited for at once. Here
is what one copy does, what all copies into a slot leave there, and the loop that starts them. -/

namespace Cert.CombineRun

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## Slots, rows, and where a copy lands -/

/-- The scratch buffer, and the array of expert rows. -/
abbrev scr : Memref sig .tc .vmem S2x8192x128 .f32 := Memref.whole cc0_scratch0
abbrev ysM : Memref sig .tc .hbm S540672x128 .f32 := Memref.whole main_arg1

/-- The slot at an offset, and its semaphore. -/
abbrev slotAt (o : Fin 3 → ℕ) (h : ∀ a, o a + S1x8192x128.size a ≤ S2x8192x128.size a) : Memref sig .tc .vmem S8192x128 .f32 :=
  (scr.slice (Rect.unit (s := S2x8192x128) o S1x8192x128.size h) (fun _ => rfl)).squeeze S8192x128 squeezes_S1x8192x128_S8192x128
abbrev semAt (o : Fin 1 → ℕ) (h : ∀ a, o a + S1.size a ≤ S2.size a) : DmaSem sig :=
  ((cc0_scratch1.slice (Rect.unit (s := S2) o S1.size h)).squeeze S_ squeezes_S1_S_).sem

theorem slot_inb (b : Fin 2) : ∀ a, (![b.val, 0, 0] : Fin 3 → ℕ) a + S1x8192x128.size a ≤ S2x8192x128.size a := by
  have := b.isLt; intro a; fin_cases a
  · show b.val + 1 ≤ 2; omega
  · show 0 + 8192 ≤ 8192; omega
  · show 0 + 128 ≤ 128; omega
theorem sem_inb (b : Fin 2) : ∀ a, (![b.val] : Fin 1 → ℕ) a + S1.size a ≤ S2.size a := by
  have := b.isLt; intro a; fin_cases a
  show b.val + 1 ≤ 2; omega

def slot (b : Fin 2) : Memref sig .tc .vmem S8192x128 .f32 := slotAt ![b.val, 0, 0] (slot_inb b)
def sem (b : Fin 2) : DmaSem sig := semAt ![b.val] (sem_inb b)

theorem slotAt_eq {o : Fin 3 → ℕ} {h} {b : Fin 2} (e : o = ![b.val, 0, 0]) : slotAt o h = slot b := by subst e; rfl
theorem semAt_eq {o : Fin 1 → ℕ} {h} {b : Fin 2} (e : o = ![b.val]) : semAt o h = sem b := by subst e; rfl

/-- Copy `j` of a slot serves token `j / 2`, as its first expert if `j` is even and as its second if it is odd; first
    experts' rows fill the slot's first half. -/
abbrev place (j : ℕ) : ℕ := (j % 2) * 512 + j / 2

theorem place_inb (p : ℕ) (hp : p < 1024) : ∀ a, (![p * 8, 0] : Fin 2 → ℕ) a + S8x128.size a ≤ S8192x128.size a := by
  intro a; fin_cases a
  · show p * 8 + 8 ≤ 8192; omega
  · show 0 + 128 ≤ 128; omega

theorem place_lt (j : Fin 1024) : place j.val < 1024 := by have := j.isLt; unfold place; omega

def pieceAt (b : Fin 2) (o : Fin 2 → ℕ) (h : ∀ a, o a + S8x128.size a ≤ S8192x128.size a) : Memref sig .tc .vmem S8x128 .f32 :=
  (slot b).slice (Rect.unit (s := S8192x128) o S8x128.size h) (fun _ => rfl)
def piece (b : Fin 2) (j : Fin 1024) : Memref sig .tc .vmem S8x128 .f32 := pieceAt b ![place j.val * 8, 0] (place_inb _ (place_lt j))

/-- An element of a slot, of a piece, in the scratch buffer. -/
theorem slot_emb (b : Fin 2) (x : S8192x128.Idx) : (slot b).view.emb x = (ix3 b (x 0) (x 1) : S2x8192x128.Idx) := by
  have e : Shape.reshapeEquiv (s := S1x8192x128) (s' := S8192x128) (by decide) x = ix3 (0 : Fin 1) (x 0) (x 1) :=
    Shape.reshapeEquiv_eq_of_rowMajor _
      ((Shape.rowMajor_val_three (d := ![1, 8192, 128]) (ix3 (0 : Fin 1) (x 0) (x 1))).trans
        ((show (0 * 8192 + (x 0).val) * 128 + (x 1).val = (x 0).val * 128 + (x 1).val by omega).trans
          (Shape.rowMajor_val_two (d := ![8192, 128]) x).symm))
  show (Rect.unit (s := S2x8192x128) ![b.val, 0, 0] S1x8192x128.size (slot_inb b)).emb (Shape.reshapeEquiv (s := S1x8192x128) (s' := S8192x128) _ x) = _
  rw [e]
  funext a
  match a with
  | ⟨0, _⟩ => exact Fin.ext (show b.val + 1 * 0 = b.val by omega)
  | ⟨1, _⟩ => exact Fin.ext (show 0 + 1 * (x 0).val = (x 0).val by omega)
  | ⟨2, _⟩ => exact Fin.ext (show 0 + 1 * (x 1).val = (x 1).val by omega)

theorem piece_row_lt (j : Fin 1024) (k : Fin 8) : place j.val * 8 + k.val < 8192 := by have := place_lt j; have := k.isLt; omega

theorem piece_emb (b : Fin 2) (j : Fin 1024) (x : S8x128.Idx) :
    (piece b j).view.emb x = (ix3 b ⟨place j.val * 8 + (x 0).val, piece_row_lt j (x 0)⟩ (x 1) : S2x8192x128.Idx) := by
  show (slot b).view.emb ((Rect.unit (s := S8192x128) ![place j.val * 8, 0] S8x128.size (place_inb _ (place_lt j))).emb x) = _
  refine (slot_emb b _).trans ?_
  funext a
  match a with
  | ⟨0, _⟩ => rfl
  | ⟨1, _⟩ => exact Fin.ext (show place j.val * 8 + 1 * (x 0).val = place j.val * 8 + (x 0).val by omega)
  | ⟨2, _⟩ => exact Fin.ext (show 0 + 1 * (x 1).val = (x 1).val by omega)

/-- The elements of a slot, and of a piece, in the scratch buffer. -/
def slotSet (b : Fin 2) : Finset S2x8192x128.Idx := (slot b).view.set
def pieceSet (b : Fin 2) (j : Fin 1024) : Finset S2x8192x128.Idx := (piece b j).view.set

theorem mem_slot (b : Fin 2) (y : S2x8192x128.Idx) : y ∈ slotSet b ↔ y 0 = b := by
  constructor
  · intro h
    obtain ⟨x, -, e⟩ := Finset.mem_map.mp h
    have := (slot_emb b x).symm.trans e
    subst this; rfl
  · intro h
    refine Finset.mem_map.mpr ⟨ix2 (y 1) (y 2), Finset.mem_univ _, (slot_emb b _).trans ?_⟩
    rw [← h]; exact (eq_ix3 y).symm

theorem mem_piece (b : Fin 2) (j : Fin 1024) (y : S2x8192x128.Idx) : y ∈ pieceSet b j ↔ y 0 = b ∧ (y 1).val / 8 = place j.val := by
  constructor
  · intro h
    obtain ⟨x, -, e⟩ := Finset.mem_map.mp h
    have := (piece_emb b j x).symm.trans e
    subst this
    have : (x 0).val < 8 := (x 0).isLt
    exact ⟨rfl, show (place j.val * 8 + (x 0).val) / 8 = place j.val by omega⟩
  · rintro ⟨h, h'⟩
    refine Finset.mem_map.mpr ⟨ix2 ⟨(y 1).val % 8, Nat.mod_lt _ (by decide)⟩ (y 2), Finset.mem_univ _, (piece_emb b j _).trans ?_⟩
    rw [← h]
    funext a
    match a with
    | ⟨0, _⟩ => rfl
    | ⟨1, _⟩ => exact Fin.ext (show place j.val * 8 + (y 1).val % 8 = (y 1).val by omega)
    | ⟨2, _⟩ => rfl

theorem place_inj {j j' : Fin 1024} (h : place j.val = place j'.val) : j = j' := by
  have := j.isLt; have := j'.isLt; unfold place at h; exact Fin.ext (by omega)

theorem pieces_disjoint (b : Fin 2) (j j' : Fin 1024) (h : j ≠ j') : Disjoint (pieceSet b j) (pieceSet b j') :=
  Finset.disjoint_left.mpr fun y h1 h2 => h (place_inj (((mem_piece b j y).mp h1).2.symm.trans ((mem_piece b j' y).mp h2).2))

/-- Row `p` of a slot serves copy `2 (p mod 512) + p / 512`. -/
abbrev copyOf (p : ℕ) : ℕ := 2 * (p % 512) + p / 512

theorem pieces_cover (b : Fin 2) : (Finset.univ : Finset (Fin 1024)).biUnion (pieceSet b) = slotSet b := by
  ext y
  rw [mem_slot, Finset.mem_biUnion]
  constructor
  · rintro ⟨j, -, h⟩; exact ((mem_piece b j y).mp h).1
  · intro h
    have hy : (y 1).val < 8192 := (y 1).isLt
    exact ⟨⟨copyOf ((y 1).val / 8), by unfold copyOf; omega⟩, Finset.mem_univ _, (mem_piece b _ y).mpr ⟨h, by
      show (y 1).val / 8 = place (copyOf ((y 1).val / 8)); unfold place copyOf; omega⟩⟩

theorem slots_disjoint : Disjoint (slotSet 0) (slotSet 1) :=
  Finset.disjoint_left.mpr fun y h1 h2 => by
    have h := ((mem_slot 0 y).mp h1).symm.trans ((mem_slot 1 y).mp h2)
    exact Nat.zero_ne_one (congrArg Fin.val h)

theorem slots_cover : slotSet 0 ∪ slotSet 1 = (Finset.univ : Finset S2x8192x128.Idx) := by
  ext y
  have h2 : y 0 = (0 : Fin 2) ∨ y 0 = (1 : Fin 2) := by
    have : (y 0).val < 2 := (y 0).isLt
    rcases Nat.lt_or_ge (y 0).val 1 with h | h
    · exact .inl (Fin.ext (show (y 0).val = 0 by omega))
    · exact .inr (Fin.ext (show (y 0).val = 1 by omega))
  simp only [Finset.mem_union, Finset.mem_univ, iff_true]
  exact h2.imp (mem_slot 0 y).mpr (mem_slot 1 y).mpr

/-! ## What a slot holds once filled -/

/-- Row `p`, line `k` of a filled slot: line `k` of the expert row copy `copyOf p` names. -/
def filled (T : Vec F S1024 .i32) (Y : Vec F S540672x128 .f32) : Vec F S2x8192x128 .f32 := fun y =>
  Y (ix2 ⟨((T (ix1 ⟨copyOf ((y 1).val / 8), by have : (y 1).val < 8192 := (y 1).isLt; unfold copyOf; omega⟩)).toNat * 8 + (y 1).val % 8) % 540672,
    Nat.mod_lt _ (by decide)⟩ (y 2))

/-- A copy's landing in a piece leaves there what the filled slot holds. -/
theorem landed (b : Fin 2) (j : Fin 1024) (T : Vec F S1024 .i32) (Y : Vec F S540672x128 .f32) (hT : (T (ix1 j)).toNat < 67584)
    (o : Fin 2 → ℕ) (ho : ∀ a, o a + S8x128.size a ≤ S540672x128.size a) (e : o = ![(T (ix1 j)).toNat * 8, 0])
    (fd : Vec F S2x8192x128 .f32) (y : S2x8192x128.Idx) (hy : y ∈ pieceSet b j) :
    (piece b j).view.write (Elt F) fd
      ((ReadAs.same (Val := Elt F) (s := S8x128) (e := .f32)).apply ((ysM.slice (Rect.unit (s := S540672x128) o S8x128.size ho) (fun _ => rfl)).view.read (Elt F) Y)) Finset.univ y
      = filled T Y y := by
  subst e
  obtain ⟨x, -, e⟩ := Finset.mem_map.mp hy
  have hx : (x 0).val < 8 := (x 0).isLt
  have hp := place_lt j
  have he := (piece_emb b j x).symm.trans e
  refine (congrArg _ e.symm).trans (((piece b j).view.write_emb_of_mem (Val := Elt F) fd _ (Finset.mem_univ x)).trans ?_)
  rw [← he]
  show Y _ = Y _
  refine congrArg Y ?_
  have e1 : (place j.val * 8 + (x 0).val) / 8 = place j.val := by omega
  have e2 : copyOf (place j.val) = j.val := by have := j.isLt; unfold copyOf place; omega
  have e3 : (⟨copyOf ((place j.val * 8 + (x 0).val) / 8), by have := j.isLt; have := congrArg copyOf e1; omega⟩ : Fin 1024) = j := Fin.ext ((congrArg copyOf e1).trans e2)
  funext a
  match a with
  | ⟨0, _⟩ =>
    refine Fin.ext ?_
    show (T (ix1 j)).toNat * 8 + 1 * (x 0).val = ((T (ix1 (⟨copyOf ((place j.val * 8 + (x 0).val) / 8), _⟩ : Fin 1024))).toNat * 8 + (place j.val * 8 + (x 0).val) % 8) % 540672
    rw [e3]; omega
  | ⟨1, _⟩ => exact Fin.ext (show 0 + 1 * (x 1).val = (x 1).val by omega)

/-! ## One copy -/

/-- The elements of the rows' array a copy from an offset reads. -/
def srcSet (o : Fin 2 → ℕ) : Finset S540672x128.Idx :=
  if h : ∀ a, o a + S8x128.size a ≤ S540672x128.size a then (ysM.slice (Rect.unit (s := S540672x128) o S8x128.size h) (fun _ => rfl)).view.set else ∅

theorem srcSet_eq {o o' : Fin 2 → ℕ} (e : o = o') (h : ∀ a, o' a + S8x128.size a ≤ S540672x128.size a) :
    srcSet o = (ysM.slice (Rect.unit (s := S540672x128) o' S8x128.size h) (fun _ => rfl)).view.set := by subst e; exact dif_pos h

/-- The elements copy `j` reads. -/
abbrev readSet (T : Vec F S1024 .i32) (j : Fin 1024) : Finset S540672x128.Idx := srcSet ![(T (ix1 j)).toNat * 8, 0]

section
variable (c : Dev nD) (b : Fin 2) (q : PosShare TreeShare) (T : Vec F S1024 .i32) (Y : Vec F S540672x128 .f32)

/-- What copy `j` into slot `b` hands back: its piece as the filled slot has it, and its share of the row it read. -/
def delivery (j : Fin 1024) : sProp 𝕄 :=
  iprop((scr.view.loc (c : Thread nD τ) ↦[pieceSet b j]{fullShare} filled T Y)
    ∗ (ysM.view.loc (c : Thread nD τ) ↦[readSet T j]{Transfers.shareTokN q j.val} Y))

instance (j : Fin 1024) : BI.Storable (upEmb : UEmb _ 𝕄) (delivery c b q T Y j) := by unfold delivery; infer_instance

/-- The credit of one copy. -/
def amt : ℕ := (piece 0 0).view.dmaCredit

/-- The slot's copies, `j` of them started and none waited for. -/
abbrev copies (j : ℕ) : sProp 𝕄 :=
  Transfers.Batch (countersEmb (U := Pipeline.UD sig nD τ)) (c : Thread nD τ) (.dma (sem b)) () amt (delivery c b q T Y) j 0

/-- What a copy takes: its piece and its share of the rows' array. -/
def before (fd : Vec F S2x8192x128 .f32) (j : Fin 1024) : sProp 𝕄 :=
  iprop((scr.view.loc (c : Thread nD τ) ↦[pieceSet b j]{fullShare} fd) ∗ (ysM.view.loc (c : Thread nD τ) ↦{Transfers.shareTokN q j.val} Y))
/-- What is left of that while it runs: the share of all the other rows. -/
def beside (j : Fin 1024) : sProp 𝕄 :=
  iprop(ysM.view.loc (c : Thread nD τ) ↦[Finset.univ \ readSet T j]{Transfers.shareTokN q j.val} Y)

/-- A slot with the first `n` copies started. -/
def filling (fd : Vec F S2x8192x128 .f32) (n : ℕ) : sProp 𝕄 :=
  iprop(copies c b q T Y n ∗ bigSep Finset.univ fun j : Fin 1024 => if j.val < n then beside c q T Y j else before c b q Y fd j)

theorem filling_take (fd : Vec F S2x8192x128 .f32) (j : Fin 1024) :
    filling c b q T Y fd j.val ⊢ iprop(copies c b q T Y j.val ∗ before c b q Y fd j
      ∗ bigSep (Finset.univ.erase j) fun i : Fin 1024 => if i.val < j.val then beside c q T Y i else before c b q Y fd i) := by
  unfold filling
  rw [bigSep_erase (Finset.mem_univ j), if_neg (Nat.lt_irrefl _)]
  exact .rfl

theorem filling_put (fd : Vec F S2x8192x128 .f32) (j : Fin 1024) :
    iprop(copies c b q T Y (j.val + 1) ∗ beside c q T Y j
      ∗ bigSep (Finset.univ.erase j) fun i : Fin 1024 => if i.val < j.val then beside c q T Y i else before c b q Y fd i)
      ⊢ filling c b q T Y fd (j.val + 1) := by
  unfold filling
  rw [bigSep_erase (Finset.mem_univ j) (Φ := fun i : Fin 1024 => if i.val < j.val + 1 then beside c q T Y i else before c b q Y fd i),
    if_pos (Nat.lt_succ_self _),
    bigSep_congr (Φ := fun i : Fin 1024 => if i.val < j.val then beside c q T Y i else before c b q Y fd i)
      (Ψ := fun i : Fin 1024 => if i.val < j.val + 1 then beside c q T Y i else before c b q Y fd i) fun i hi => by
        have : i.val ≠ j.val := fun h => (Finset.mem_erase.mp hi).1 (Fin.ext h)
        by_cases h : i.val < j.val
        · rw [if_pos h, if_pos (by omega)]
        · rw [if_neg h, if_neg (by omega)]]
  exact .rfl
end

/-- The kernel's text of one copy: a word is read, taken to name a row, and the row's copy started. -/
def copyRow (a : Memref sig .tc .smem S1024 .i32) (o : Fin 1 → ℕ) (ho : ∀ x, o x + S1.size x ≤ S1024.size x)
    (chk : BitVec 32 → Prop) (dec : ∀ v, Decidable (chk v)) (src : BitVec 32 → Fin 2 → ℕ)
    (hs : ∀ v, chk v → ∀ x, src v x + S8x128.size x ≤ S540672x128.size x)
    (dst : Memref sig .tc .vmem S8x128 .f32) (hd : dst.view.WordExact) (sm : DmaSem sig) : Prog (TpuEff nD τ sig (Elt F) Λ₀ .tc) PUnit := do
  let v : Elt F .i32 ← smemLoad a (Rect.unit (s := S1024) o S1.size ho) numel1_S1 rfl
  have hw : chk v := (← Prog.lift (TpuEff.assume (chk v) (dec v))).down
  Prog.lift (.enqueueDma (ysM.slice (Rect.unit (s := S540672x128) (src v) S8x128.size (hs v hw)) (fun _ => rfl)) (.here dst) (.dma sm)
    (View.wordExact_bits rfl) hd ⟨Or.inl rfl, trivial⟩)

theorem copyRow_eq (a : Memref sig .tc .smem S1024 .i32) (o : Fin 1 → ℕ) (ho : ∀ x, o x + S1.size x ≤ S1024.size x)
    (chk : BitVec 32 → Prop) (dec : ∀ v, Decidable (chk v)) (src : BitVec 32 → Fin 2 → ℕ)
    (hs : ∀ v, chk v → ∀ x, src v x + S8x128.size x ≤ S540672x128.size x)
    (dst : Memref sig .tc .vmem S8x128 .f32) (hd : dst.view.WordExact) (sm : DmaSem sig) :
    copyRow (F := F) a o ho chk dec src hs dst hd sm
      = smemLoadElt a (Rect.unit (s := S1024) o S1.size ho) (View.loads_smem_one rfl numel1_S1) (Shape.Idx.first (numel1_S1.symm ▸ Nat.one_pos))
          fun v => .op (TpuEff.assume (chk v) (dec v)) fun h =>
            .op (.enqueueDmaAs (ysM.slice (Rect.unit (s := S540672x128) (src v) S8x128.size (hs v h.down)) (fun _ => rfl)) (.here dst) .same (.dma sm)
              (View.wordExact_bits rfl) (by exact hd) ⟨Or.inl rfl, trivial⟩) .ret := rfl

theorem word_read (a : Memref sig .tc .smem S1024 .i32) (o : Fin 1 → ℕ) (ho : ∀ x, o x + S1.size x ≤ S1024.size x) (j : Fin 1024) (eo : o = ![j.val])
    (f : a.view.ty.Contents (Elt F)) (T : Vec F S1024 .i32) (hf : a.view.read (Elt F) f = T) :
    (a.access (Rect.unit (s := S1024) o S1.size ho)).read (Elt F) f (Shape.Idx.first (numel1_S1.symm ▸ Nat.one_pos)) = T (ix1 j) := by
  subst eo; subst hf
  show a.view.read (Elt F) f ((Rect.unit (s := S1024) ![j.val] S1.size ho).emb _) = _
  refine congrArg _ ?_
  funext x
  match x with
  | ⟨0, _⟩ => exact Fin.ext (by show j.val + 1 * _ = j.val; simp)

theorem copyRow_wp (c : Dev nD) (a : Memref sig .tc .smem S1024 .i32) (o : Fin 1 → ℕ) (ho : ∀ x, o x + S1.size x ≤ S1024.size x)
    (chk : BitVec 32 → Prop) (dec : ∀ v, Decidable (chk v)) (src : BitVec 32 → Fin 2 → ℕ)
    (hs : ∀ v, chk v → ∀ x, src v x + S8x128.size x ≤ S540672x128.size x)
    (b : Fin 2) (j : Fin 1024) (hd : (piece b j).view.WordExact)
    (q q' : PosShare TreeShare) (T : Vec F S1024 .i32) (Y : Vec F S540672x128 .f32) (fd : Vec F S2x8192x128 .f32)
    (hT : (T (ix1 j)).toNat < 67584) (eo : o = ![j.val]) (hc : ∀ v : BitVec 32, v.toNat < 67584 → chk v ∧ src v = ![v.toNat * 8, 0])
    (Q : PUnit → sProp 𝕄) :
    iprop(owns (c : Thread nD τ) a q' T ∗ filling c b q T Y fd j.val
        ∗ (iprop(owns (c : Thread nD τ) a q' T ∗ filling c b q T Y fd (j.val + 1)) -∗ Q ⟨⟩))
      ⊢ wp (M := 𝕄) frame (wpE (defs₀ (F := F)) Variants.none (c : Thread nD τ) none) Set.univ
          (copyRow a o ho chk dec src hs (piece b j) hd (sem b)) Q := by
  rw [copyRow_eq]
  unfold owns
  iintro ⟨⟨%f, %hf, Ha⟩, HF, Hk⟩
  ihave HF := (filling_take c b q T Y fd j) $$ HF
  unfold before
  icases HF with ⟨HB, ⟨Hp, Hy⟩, HR⟩
  iapply (wp_smemLoadElt Variants.none (c : Thread nD τ) none Set.univ (m := a) (r := Rect.unit (s := S1024) o S1.size ho) (S := a.view.set) (q := q') (f := f) (View.set_slice_subset _ _)) $$ Ha
  iintro Ha
  rw [word_read a o ho j eo f T hf]
  iapply (wp_assume Variants.none (c : Thread nD τ) none Set.univ (hc _ hT).1)
  have es : src (T (ix1 j)) = ![(T (ix1 j)).toNat * 8, 0] := (hc _ hT).2
  have er : readSet T j = (ysM.slice (Rect.unit (s := S540672x128) (src (T (ix1 j))) S8x128.size (hs _ (hc _ hT).1)) (fun _ => rfl)).view.set := by
    exact srcSet_eq es.symm _
  ihave Hy := (pointsTo_split_subset (Finset.subset_univ (readSet T j))).1 $$ Hy
  icases Hy with ⟨Hy, Hz⟩
  iapply (Transfers.wp_dmaBatch (countersEmb (U := Pipeline.UD sig nD τ)) Variants.none (c : Thread nD τ) none
    (q := Transfers.shareTokN q j.val) (fs := Y) (fd := fd) (Sd := pieceSet b j) (D := delivery c b q T Y) (j := j.val) (u := 0) () amt rfl subset_rfl j.isLt (Nat.zero_le _) ?_) $$ [Hy Hp HB]
  · unfold delivery
    rw [er]
    exact sep_mono (Entails.of_eq (pointsTo_congr (ℓ := scr.view.loc (c : Thread nD τ)) (landed b j T Y hT _ (hs _ (hc _ hT).1) es fd))) (show _ ⊢ _ from .rfl)
  · isplitl [Hy]
    · rw [er]; iexact Hy
    isplitl [Hp]; · iexact Hp
    iexact HB
  · iintro HB
    rw [wp_ret]
    imodintro
    iapply Hk
    isplitl [Ha]
    · iexists f
      isplitr; · ipureintro; exact hf
      iexact Ha
    iapply (filling_put c b q T Y fd j)
    isplitl [HB]; · iexact HB
    isplitl [Hz]; · unfold beside; iexact Hz
    iexact HR

end Cert.CombineRun

end
-- ==== Proof.CombineLoops.lean ====
module

public import proofs.«01_k».proof.Proof.CombineRun
public import proofs.«01_k».proof.Proof.Gen.Kernel7Ideal.Skeleton

@[expose] public section

set_option maxRecDepth 16384

noncomputable section

/-! # The loops that start the copies

One loop fills slot 0 for the first block, at the first point; the other fills, at every point but the last, the slot the point
does not read for the block that comes next. Each trip starts the two copies of one token. -/

namespace Cert.CombineRun

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The words the loops compute with -/

/-- The slot a point reads, and the one it fills. -/
abbrev reads (i : grid0.Coords) : Fin 2 := ⟨(i 0).val % 2, Nat.mod_lt _ (by decide)⟩
abbrev fills (i : grid0.Coords) : Fin 2 := ⟨((i 0).val + 1) % 2, Nat.mod_lt _ (by decide)⟩

theorem cond1_iff : ∀ i : grid0.Coords, k0_cond1 i = 1#1 ↔ (i 0).val = 0 := by decide +kernel
theorem cond2_iff : ∀ i : grid0.Coords, k0_cond2 i = 1#1 ↔ (i 0).val + 1 < 64 := by decide +kernel
theorem off8_eq : ∀ i : grid0.Coords, k0_off8 i = ![(fills i).val] := by decide +kernel
theorem off9_eq : ∀ i : grid0.Coords, k0_off9 i = ![(fills i).val, 0, 0] := by decide +kernel
theorem off17_eq : ∀ i : grid0.Coords, k0_off17 i = ![(reads i).val] := by decide +kernel
theorem off18_eq : ∀ i : grid0.Coords, k0_off18 i = ![(reads i).val, 0, 0] := by decide +kernel

theorem trips : k0_t1_loop.trips = 512 := by decide +kernel

theorem trip_lt (k : Fin k0_t1_loop.trips) : k.val < 512 := lt_of_lt_of_eq k.isLt trips

theorem off1_eq (k : Fin k0_t1_loop.trips) : k0_off1 k = ![2 * k.val] := by
  have := trip_lt k
  show ![(2#32 * (0#32 + BitVec.ofNat 32 k.val * 1#32) + 0#32).toNat] = _
  congr 1
  simp only [BitVec.toNat_add, BitVec.toNat_mul, BitVec.toNat_ofNat]; omega
theorem off4_eq (k : Fin k0_t1_loop.trips) : k0_off4 k = ![2 * k.val + 1] := by
  have := trip_lt k
  show ![(2#32 * (0#32 + BitVec.ofNat 32 k.val * 1#32) + 1#32).toNat] = _
  congr 1
  simp only [BitVec.toNat_add, BitVec.toNat_mul, BitVec.toNat_ofNat]; omega
theorem off2_eq (k : Fin k0_t1_loop.trips) : k0_off2 k = ![place (2 * k.val) * 8, 0] := by
  have := trip_lt k
  show ![((0#32 + (0#32 + BitVec.ofNat 32 k.val * 1#32)) * 8#32).toNat, 0] = _
  congr 1
  unfold place
  simp only [BitVec.toNat_add, BitVec.toNat_mul, BitVec.toNat_ofNat]; omega
theorem off5_eq (k : Fin k0_t1_loop.trips) : k0_off5 k = ![place (2 * k.val + 1) * 8, 0] := by
  have := trip_lt k
  show ![((512#32 + (0#32 + BitVec.ofNat 32 k.val * 1#32)) * 8#32).toNat, 0] = _
  congr 1
  unfold place
  simp only [BitVec.toNat_add, BitVec.toNat_mul, BitVec.toNat_ofNat]; omega

/-- A word below the number of rows is taken as it stands. -/
theorem off3_eq (v : BitVec 32) (h : v.toNat < 67584) : k0_off3 v = ![v.toNat * 8, 0] := by
  show ![(v * 8#32).toNat, 0] = _
  congr 1
  simp only [BitVec.toNat_mul, BitVec.toNat_ofNat]; omega

theorem row_inb (v : BitVec 32) (h : v.toNat < 67584) : ∀ a, (k0_off3 v) a + S8x128.size a ≤ S540672x128.size a := by
  rw [off3_eq v h]; intro a; fin_cases a
  · show v.toNat * 8 + 8 ≤ 540672; omega
  · show 0 + 128 ≤ 128; omega

theorem row_dvd (v : BitVec 32) (h : v.toNat < 67584) : 8 ∣ (v * 8#32).toNat := by
  rw [show (v * 8#32).toNat = v.toNat * 8 by simp only [BitVec.toNat_mul, BitVec.toNat_ofNat]; omega]; exact Nat.dvd_mul_left _ _

theorem chk_1 (i : grid0.Coords) (v : BitVec 32) (h : v.toNat < 67584) : k0_chk1 i v ∧ k0_off3 v = ![v.toNat * 8, 0] :=
  ⟨⟨fun _ => row_dvd v h, fun _ => row_inb v h⟩, off3_eq v h⟩
theorem chk_2 (i : grid0.Coords) (v : BitVec 32) (h : v.toNat < 67584) : k0_chk2 i v ∧ k0_off6 v = ![v.toNat * 8, 0] :=
  ⟨⟨fun _ => row_dvd v h, fun _ => row_inb v h⟩, off3_eq v h⟩
theorem chk_3 (i : grid0.Coords) (v : BitVec 32) (h : v.toNat < 67584) : k0_chk3 i v ∧ k0_off11 v = ![v.toNat * 8, 0] :=
  ⟨⟨fun _ => row_dvd v h, fun _ => row_inb v h⟩, off3_eq v h⟩
theorem chk_4 (i : grid0.Coords) (v : BitVec 32) (h : v.toNat < 67584) : k0_chk4 i v ∧ k0_off16 v = ![v.toNat * 8, 0] :=
  ⟨⟨fun _ => row_dvd v h, fun _ => row_inb v h⟩, off3_eq v h⟩

/-! ## One trip -/

theorem dst_eq {o3 : Fin 3 → ℕ} {h3} {o2 : Fin 2 → ℕ} {h2 : ∀ a, o2 a + S8x128.size a ≤ S8192x128.size a} {b : Fin 2} {j : Fin 1024}
    (e3 : o3 = ![b.val, 0, 0]) (e2 : o2 = ![place j.val * 8, 0]) :
    (slotAt o3 h3).slice (Rect.unit (s := S8192x128) o2 S8x128.size h2) (fun _ => rfl) = piece b j := by subst e3; subst e2; rfl

/-- A trip: the copies of one token, one after the other. -/
theorem trip_wp (c : Dev nD) (a : Memref sig .tc .smem S1024 .i32) (b : Fin 2) (k : ℕ) (hk : k < 512)
    (o o' : Fin 1 → ℕ) (ho : ∀ x, o x + S1.size x ≤ S1024.size x) (ho' : ∀ x, o' x + S1.size x ≤ S1024.size x)
    (eo : o = ![2 * k]) (eo' : o' = ![2 * k + 1])
    (chk chk' : BitVec 32 → Prop) (dec : ∀ v, Decidable (chk v)) (dec' : ∀ v, Decidable (chk' v)) (src src' : BitVec 32 → Fin 2 → ℕ)
    (hs : ∀ v, chk v → ∀ x, src v x + S8x128.size x ≤ S540672x128.size x) (hs' : ∀ v, chk' v → ∀ x, src' v x + S8x128.size x ≤ S540672x128.size x)
    (hc : ∀ v : BitVec 32, v.toNat < 67584 → chk v ∧ src v = ![v.toNat * 8, 0])
    (hc' : ∀ v : BitVec 32, v.toNat < 67584 → chk' v ∧ src' v = ![v.toNat * 8, 0])
    (dst dst' : Memref sig .tc .vmem S8x128 .f32) (hd : dst.view.WordExact) (hd' : dst'.view.WordExact) (sm sm' : DmaSem sig)
    (ed : dst = piece b ⟨2 * k, by omega⟩) (ed' : dst' = piece b ⟨2 * k + 1, by omega⟩) (es : sm = sem b) (es' : sm' = sem b)
    (q q' : PosShare TreeShare) (T : Vec F S1024 .i32) (Y : Vec F S540672x128 .f32) (fd : Vec F S2x8192x128 .f32)
    (hT : ∀ j : Fin 1024, (T (ix1 j)).toNat < 67584) :
    iprop(owns (c : Thread nD τ) a q' T ∗ filling c b q T Y fd (2 * k))
      ⊢ wp (M := 𝕄) frame (wpE (defs₀ (F := F)) Variants.none (c : Thread nD τ) none) Set.univ
          (copyRow (F := F) a o ho chk dec src hs dst hd sm >>= fun _ => copyRow (F := F) a o' ho' chk' dec' src' hs' dst' hd' sm' >>= fun _ => pure ⟨⟩)
          (fun _ : Unit => iprop(owns (c : Thread nD τ) a q' T ∗ filling c b q T Y fd (2 * (k + 1)))) := by
  subst ed ed' es es'
  rw [wp_bind]
  iintro ⟨Ha, HF⟩
  iapply (copyRow_wp c a o ho chk dec src hs b _ hd q q' T Y fd (hT _) eo hc)
  isplitl [Ha]; · iexact Ha
  isplitl [HF]; · iexact HF
  iintro ⟨Ha, HF⟩
  rw [wp_bind]
  iapply (copyRow_wp c a o' ho' chk' dec' src' hs' b _ hd' q q' T Y fd (hT _) eo' hc')
  isplitl [Ha]; · iexact Ha
  isplitl [HF]; · iexact HF
  iintro ⟨Ha, HF⟩
  rw [Prog.pure_eq_ret, wp_ret]
  imodintro
  isplitl [Ha]; · iexact Ha
  iexact HF

/-! ## The loops -/

section
variable (c : Dev nD) (i : grid0.Coords) (arg1 : Memref sig .tc .smem S1024 .i32) (harg1 : arg1.IsWhole) (arg2 : Memref sig .tc .smem S1024 .i32) (harg2 : arg2.IsWhole)
  (arg4 : Memref sig .tc .vmem S512x1024 .f32) (harg4 : arg4.IsWhole) (arg5 : Memref sig .tc .vmem S512x2 .f32) (harg5 : arg5.IsWhole)
  (arg6 : Memref sig .tc .vmem S1x1024 .f32) (harg6 : arg6.IsWhole) (arg7 : Memref sig .tc .vmem S512x1024 .f32) (harg7 : arg7.IsWhole)
  (q q' : PosShare TreeShare) (T : Vec F S1024 .i32) (Y : Vec F S540672x128 .f32) (fd : Vec F S2x8192x128 .f32)
  (hT : ∀ j : Fin 1024, (T (ix1 j)).toNat < 67584)

include hT in
theorem loop1_wp (h : k0_cond1 i = 1#1) (Q : Unit → sProp 𝕄) :
    iprop(owns (c : Thread nD τ) arg1 q' T ∗ filling c 0 q T Y fd 0
        ∗ (iprop(owns (c : Thread nD τ) arg1 q' T ∗ filling c 0 q T Y fd 1024) -∗ Q ⟨⟩))
      ⊢ wp (M := 𝕄) frame (wpE (defs₀ (F := F)) Variants.none (c : Thread nD τ) none) Set.univ
          (Scf.Loop.for k0_t1_loop (k0_t1_ok i h) ⟨⟩ (k0_t1_body (F := F) i arg1 harg1 arg2 harg2 ysM (Memref.isWhole_whole _) arg4 harg4 arg5 harg5 arg6 harg6 arg7 harg7
            scr (Memref.isWhole_whole _) cc0_scratch1 h)) Q := by
  iintro ⟨Ha, HF, Hk⟩
  iapply (Scf.wp_for (M := 𝕄) frame (wpE (defs₀ (F := F)) Variants.none (c : Thread nD τ) none) Set.univ _ _ _ (k0_t1_ok i h) () _
    (fun n _ => iprop(owns (c : Thread nD τ) arg1 q' T ∗ filling c 0 q T Y fd (2 * n)))
    (fun k _ => trip_wp c arg1 0 k.val (trip_lt k) (k0_off1 k) (k0_off4 k) (k0_off1_inb i k h) (k0_off4_inb i k h) (off1_eq k) (off4_eq k)
      (k0_chk1 i) (k0_chk2 i) (k0_chk1.dec i) (k0_chk2.dec i) k0_off3 k0_off6 (fun v hv => k0_off3_inb i v hv h) (fun v hv => k0_off6_inb i v hv h) (chk_1 i) (chk_2 i)
      _ _ (View.wordExact_bits rfl) (View.wordExact_bits rfl) _ _ (dst_eq (b := 0) (j := ⟨2 * k.val, _⟩) rfl (off2_eq k)) (dst_eq (b := 0) (j := ⟨2 * k.val + 1, _⟩) rfl (off5_eq k)) rfl rfl q q' T Y fd hT))
  isplitl [Ha HF]
  · isplitl [Ha]; · iexact Ha
    iexact HF
  iintro %_ ⟨Ha, HF⟩
  iapply Hk
  isplitl [Ha]; · iexact Ha
  iexact HF

include hT in
theorem loop2_wp (h : k0_cond2 i = 1#1) (Q : Unit → sProp 𝕄) :
    iprop(owns (c : Thread nD τ) arg2 q' T ∗ filling c (fills i) q T Y fd 0
        ∗ (iprop(owns (c : Thread nD τ) arg2 q' T ∗ filling c (fills i) q T Y fd 1024) -∗ Q ⟨⟩))
      ⊢ wp (M := 𝕄) frame (wpE (defs₀ (F := F)) Variants.none (c : Thread nD τ) none) Set.univ
          (Scf.Loop.for k0_t2_loop (k0_t2_ok i h) ⟨⟩ (k0_t2_body (F := F) i arg1 harg1 arg2 harg2 ysM (Memref.isWhole_whole _) arg4 harg4 arg5 harg5 arg6 harg6 arg7 harg7
            scr (Memref.isWhole_whole _) cc0_scratch1 h)) Q := by
  iintro ⟨Ha, HF, Hk⟩
  iapply (Scf.wp_for (M := 𝕄) frame (wpE (defs₀ (F := F)) Variants.none (c : Thread nD τ) none) Set.univ _ _ _ (k0_t2_ok i h) () _
    (fun n _ => iprop(owns (c : Thread nD τ) arg2 q' T ∗ filling c (fills i) q T Y fd (2 * n)))
    (fun k _ => trip_wp c arg2 (fills i) k.val (trip_lt k) (k0_off7 k) (k0_off12 k) (k0_off7_inb i k h) (k0_off12_inb i k h) (off1_eq k) (off4_eq k)
      (k0_chk3 i) (k0_chk4 i) (k0_chk3.dec i) (k0_chk4.dec i) k0_off11 k0_off16 (fun v hv => k0_off11_inb i v hv h) (fun v hv => k0_off16_inb i v hv h) (chk_3 i) (chk_4 i)
      _ _ (View.wordExact_bits rfl) (View.wordExact_bits rfl) _ _ (dst_eq (b := fills i) (j := ⟨2 * k.val, _⟩) (off9_eq i) (off2_eq k))
      (dst_eq (b := fills i) (j := ⟨2 * k.val + 1, _⟩) (off9_eq i) (off5_eq k)) (semAt_eq (off8_eq i)) (semAt_eq (off8_eq i)) q q' T Y fd hT))
  isplitl [Ha HF]
  · isplitl [Ha]; · iexact Ha
    iexact HF
  iintro %_ ⟨Ha, HF⟩
  iapply Hk
  isplitl [Ha]; · iexact Ha
  iexact HF
end

end Cert.CombineRun

end
-- ==== Proof.CombineFlight.lean ====
module

public import proofs.«01_k».proof.Proof.CombineLoops
public import proofs.«01_k».proof.Proof.Gen.Kernel7Ideal.Skeleton

@[expose] public section

set_option maxRecDepth 16384

noncomputable section

/-! # A slot between its copies

A slot is free, or its 1024 copies are on their way. Half of the rows' array belongs to each slot, and each copy takes a share of
the slot's half with it. -/

namespace Cert.CombineRun

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The part of the rows' array a slot reads. -/
def half : Fin 2 → PosShare TreeShare := fun b => if b = 0 then fullShare.left else fullShare.right

section
variable (c : Dev nD) (b : Fin 2) (T : Vec F S1024 .i32) (Y : Vec F S540672x128 .f32)

/-- The rows' array at a share. -/
abbrev rowsAt (q : PosShare TreeShare) : sProp 𝕄 := iprop(ysM.view.loc (c : Thread nD τ) ↦{q} Y)
/-- A slot at some contents. -/
abbrev slotAs (f : Vec F S2x8192x128 .f32) : sProp 𝕄 := iprop(scr.view.loc (c : Thread nD τ) ↦[slotSet b]{fullShare} f)
/-- The slot's semaphore at zero. -/
abbrev quiet : sProp 𝕄 := iprop(semVal (((c : Thread nD τ), .dma (sem b)) : Thread nD τ × SemLoc sig) 0)

/-- A slot none of whose copies is on its way. -/
def Free : sProp 𝕄 := iprop((∃ f, slotAs c b f) ∗ quiet c b ∗ rowsAt c Y (half b))
/-- A slot all of whose copies are on their way, for the words `T`. -/
def Flying : sProp 𝕄 := iprop(copies c b (half b) T Y 1024 ∗ bigSep Finset.univ (beside c (half b) T Y)
  ∗ rowsAt c Y (Transfers.shareDrop (half b) 1024))

theorem all_begun (fd : Vec F S2x8192x128 .f32) :
    iprop(filling c b (half b) T Y fd 1024 ∗ rowsAt c Y (Transfers.shareDrop (half b) 1024)) ⊢ Flying c b T Y := by
  unfold Flying filling
  rw [bigSep_congr (Φ := fun j : Fin 1024 => if j.val < 1024 then beside c (half b) T Y j else before c b (half b) Y fd j)
    (Ψ := beside c (half b) T Y) fun j _ => if_pos j.isLt]
  iintro ⟨⟨HB, Hb⟩, Hd⟩
  isplitl [HB]; · iexact HB
  isplitl [Hb]; · iexact Hb
  iexact Hd

theorem tokens (q : PosShare TreeShare) :
    (rowsAt c Y q : sProp 𝕄) ⊣⊢ iprop(rowsAt c Y (Transfers.shareDrop q 1024)
      ∗ bigSep Finset.univ fun j : Fin 1024 => rowsAt c Y (Transfers.shareTokN q j.val)) := by
  have e : bigSep Finset.univ (fun j : Fin 1024 => (rowsAt c Y (Transfers.shareTokN q j.val) : sProp 𝕄))
      = bigSep (Finset.range 1024) (fun i => (rowsAt c Y (Transfers.shareTokN q i) : sProp 𝕄)) := by
    rw [← Ring.rangeSet_univ (NB := 1024)]
    exact Ring.bigSep_rangeSet_eq_range (NB := 1024) (lo := 0) (hi := 1024) le_rfl _ fun k h => by
      show _ = (rowsAt c Y (Transfers.shareTokN q (0 + k)) : sProp 𝕄); rw [Nat.zero_add]
  rw [e]
  exact Transfers.pointsTo_toks_range q 1024

theorem pieces (f : Vec F S2x8192x128 .f32) :
    (slotAs c b f : sProp 𝕄) = bigSep Finset.univ fun j : Fin 1024 => iprop(scr.view.loc (c : Thread nD τ) ↦[pieceSet b j]{fullShare} f) := by
  unfold slotAs
  rw [← pieces_cover b]
  exact pointsTo_biUnion (ℓ := scr.view.loc (c : Thread nD τ)) Finset.univ (pieceSet b) fun j _ j' _ h => pieces_disjoint b j j' h

/-- From a free slot the copies can be begun. -/
theorem take_off : Free c b Y ⊢ |={Set.univ}=> iprop((∃ fd, filling c b (half b) T Y fd 0) ∗ rowsAt c Y (Transfers.shareDrop (half b) 1024)) := by
  unfold Free
  iintro ⟨⟨%f, Hs⟩, Hv, Hy⟩
  imod (Transfers.batch_alloc' (Lvl := ℕ) (countersEmb (U := Pipeline.UD sig nD τ)) (c : Thread nD τ) () amt (delivery c b (half b) T Y) (sm := .dma (sem b)) (E := Set.univ)) $$ Hv with HB
  ihave ⟨Hd, Ht⟩ := (tokens c Y (half b)).1 $$ Hy
  imodintro
  isplitl [HB Hs Ht]
  · iexists f
    unfold filling
    isplitl [HB]; · iexact HB
    iapply (show iprop(slotAs c b f ∗ bigSep Finset.univ fun j : Fin 1024 => rowsAt c Y (Transfers.shareTokN (half b) j.val))
        ⊢ bigSep Finset.univ fun j : Fin 1024 => if j.val < 0 then beside c (half b) T Y j else before c b (half b) Y f j from by
      rw [pieces, ← bigSep_sep']
      refine bigSep_mono fun j _ => ?_
      rw [if_neg (Nat.not_lt_zero _)]
      show (iprop(_) : sProp 𝕄) ⊢ before c b (half b) Y f j
      exact .rfl)
    isplitl [Hs]; · iexact Hs
    iexact Ht
  iexact Hd

/-- When all the copies have landed the slot holds the rows the words name, and its half of the rows' array is whole again. -/
theorem landing : iprop(bigSep Finset.univ (delivery c b (half b) T Y) ∗ bigSep Finset.univ (beside c (half b) T Y) ∗ rowsAt c Y (Transfers.shareDrop (half b) 1024))
    ⊢ iprop(slotAs c b (filled T Y) ∗ rowsAt c Y (half b)) := by
  rw [pieces]
  have e : iprop(bigSep Finset.univ (delivery c b (half b) T Y) ∗ bigSep Finset.univ (beside c (half b) T Y))
      ⊢ iprop((bigSep Finset.univ fun j : Fin 1024 => iprop(scr.view.loc (c : Thread nD τ) ↦[pieceSet b j]{fullShare} filled T Y))
        ∗ bigSep Finset.univ fun j : Fin 1024 => (rowsAt c Y (Transfers.shareTokN (half b) j.val) : sProp 𝕄)) := by
    rw [← bigSep_sep', ← bigSep_sep']
    refine bigSep_mono fun j _ => ?_
    unfold delivery beside
    show (iprop(_) : sProp 𝕄) ⊢ iprop(_)
    iintro ⟨⟨Hp, Hr⟩, Hb⟩
    isplitl [Hp]; · iexact Hp
    iapply (pointsTo_split_subset (Finset.subset_univ (readSet T j))).2
    isplitl [Hr]; · iexact Hr
    iexact Hb
  iintro ⟨HD, HB, Hd⟩
  ihave ⟨Hp, Ht⟩ := e $$ [HD HB]
  · isplitl [HD]; · iexact HD
    iexact HB
  isplitl [Hp]; · iexact Hp
  iapply (tokens c Y (half b)).2
  isplitl [Hd]; · iexact Hd
  iexact Ht

/-- What one wait for a slot takes: the credit of all its copies. -/
theorem credit : (slot b).view.dmaCredit = 1024 * amt := by
  unfold amt; revert b; decide +kernel

theorem amt_pos : 0 < amt := by unfold amt; decide +kernel

theorem wait_wp {α : Type} {W : Waits sig Unit} {srcw : Memref sig .tc .hbm S8192x128 .f32} {hsrc : srcw.view.WordExact} {hdst : (slot b).view.WordExact}
    {k : PUnit → Prog (TpuEff nD τ sig (Elt F) Λ₀ .tc) α} (Q : α → sProp 𝕄) :
    iprop(Flying c b T Y ∗ owes (c : Thread nD τ) 0 W
        ∗ (iprop(slotAs c b (filled T Y) ∗ quiet c b ∗ rowsAt c Y (half b) ∗ owes (c : Thread nD τ) 0 (insert (SemLoc.dma (sem b), ()) W))
          -∗ wp (M := 𝕄) frame (wpE (defs₀ (F := F)) Variants.none (c : Thread nD τ) none) Set.univ (k ⟨⟩) Q))
      ⊢ wp (M := 𝕄) frame (wpE (defs₀ (F := F)) Variants.none (c : Thread nD τ) none) Set.univ (.op (.waitDma2 (sem b) srcw (slot b) hsrc hdst) k) Q := by
  unfold Flying
  iintro ⟨⟨HB, Hb, Hd⟩, HO, Hk⟩
  iapply (Transfers.wp_waitBatchAll (countersEmb (U := Pipeline.UD sig nD τ)) Variants.none (c : Thread nD τ) none (N := amt) (J := 1024 * amt) (u := 0)
    (D := delivery c b (half b) T Y) () (credit b) amt_pos (by ring)) $$ [HB HO]
  · isplitl [HB]; · iexact HB
    iexact HO
  iintro ⟨HD, Hv, HO⟩
  iapply Hk
  ihave ⟨Hs, Hy⟩ := (landing c b T Y) $$ [HD Hb Hd]
  · isplitl [HD]; · iexact HD
    isplitl [Hb]; · iexact Hb
    iexact Hd
  isplitl [Hs]; · iexact Hs
  isplitl [Hv]; · iexact Hv
  isplitl [Hy]; · iexact Hy
  iexact HO
end

end Cert.CombineRun

end
-- ==== Proof.CombineBody.lean ====
module

public import proofs.«01_k».proof.Proof.CombineFlight
public import proofs.«01_k».proof.Proof.Gen.Kernel7Ideal.Skeleton

@[expose] public section

set_option maxRecDepth 16384

noncomputable section

/-! # The body at a grid point -/

namespace Cert.CombineRun

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The loads from a slot -/

/-- Every eighth row of the buffer's slots, from an offset. -/
abbrev every8 (o : Fin 3 → ℕ)
    (h : ∀ a, S1x512x128.size a = 0 ∨ o a + (![1, 8, 1] : Fin 3 → Nat) a * (S1x512x128.size a - 1) < S2x8192x128.size a) : LoadRect S2x8192x128 := ⟨o, S1x512x128.size, ![1, 8, 1], h⟩

/-- What such a load reads. -/
def strided (f : Vec F S2x8192x128 .f32) (o : Fin 3 → ℕ)
    (h : ∀ a, S1x512x128.size a = 0 ∨ o a + (![1, 8, 1] : Fin 3 → Nat) a * (S1x512x128.size a - 1) < S2x8192x128.size a) : Vec F S1x512x128 .f32 := scr.view.readAt (Elt F) (every8 o h) f

theorem in_slot (b : Fin 2) (o : Fin 3 → ℕ)
    (h : ∀ a, S1x512x128.size a = 0 ∨ o a + (![1, 8, 1] : Fin 3 → Nat) a * (S1x512x128.size a - 1) < S2x8192x128.size a) (ho : o 0 = b.val) : scr.view.setOn (every8 o h).set ⊆ slotSet b := by
  intro y hy
  rw [mem_slot]
  have hy' : y ∈ (every8 o h).set := (View.mem_setOn (v := scr.view) (x := y)).mp hy
  obtain ⟨j, hj, e⟩ := (LoadRect.mem_set _).mp hy' 0
  refine Fin.ext (e.trans ?_)
  have : j < 1 := hj
  show o 0 + 1 * j = b.val
  omega

theorem column_inb (b : Fin 2) (n : ℕ) (hn : n < 4104) :
    ∀ a, S1x512x128.size a = 0 ∨ (![b.val, n, 0] : Fin 3 → ℕ) a + (![1, 8, 1] : Fin 3 → Nat) a * (S1x512x128.size a - 1) < S2x8192x128.size a := by
  intro a; refine .inr ?_
  match a with
  | ⟨0, _⟩ => show b.val + 1 * (1 - 1) < 2; omega
  | ⟨1, _⟩ => show n + 8 * (512 - 1) < 8192; omega
  | ⟨2, _⟩ => show 0 + 1 * (128 - 1) < 128; omega

/-- Every eighth row of a slot from the `n`-th on. -/
def column (f : Vec F S2x8192x128 .f32) (b : Fin 2) (n : ℕ) (hn : n < 4104 := by decide) : Vec F S1x512x128 .f32 :=
  strided f ![b.val, n, 0] (column_inb b n hn)

theorem column_wp {α : Type} (c : Dev nD) (b : Fin 2) (f : Vec F S2x8192x128 .f32) (o : Fin 3 → ℕ)
    (h : ∀ a, S1x512x128.size a = 0 ∨ o a + (![1, 8, 1] : Fin 3 → Nat) a * (S1x512x128.size a - 1) < S2x8192x128.size a) (hl)
    (n : ℕ) (hn : n < 4104) (eo : o = ![b.val, n, 0])
    (k : Vec F S1x512x128 .f32 → Prog (TpuEff nD τ sig (Elt F) Λ₀ .tc) α) (Q : α → sProp 𝕄) :
    iprop(slotAs c b f ∗ (slotAs c b f -∗ wp (M := 𝕄) frame (wpE (defs₀ (F := F)) Variants.none (c : Thread nD τ) none) Set.univ (k (column f b n hn)) Q))
      ⊢ wp (M := 𝕄) frame (wpE (defs₀ (F := F)) Variants.none (c : Thread nD τ) none) Set.univ (Prog.lift (.load scr (every8 o h) hl) >>= k) Q := by
  subst eo
  iintro ⟨Hs, Hk⟩
  iapply (wp_load (m := scr) (r := every8 _ h) (S := slotSet b) (q := fullShare) (f := f) Variants.none (c : Thread nD τ) none Set.univ (in_slot b _ h rfl)) $$ [Hs]
  · iexact Hs
  iexact Hk

/-- The loads' slot is the one the point reads. -/
theorem loads_from : ∀ i : grid0.Coords, k0_off19 i 0 = (reads i).val := by decide +kernel
theorem at_reads (i : grid0.Coords) (n : ℕ) : ![k0_off19 i 0, n, 0] = ![(reads i).val, n, 0] := by rw [loads_from i]

/-- A load of a whole buffer. -/
theorem full_wp {α : Type} {s : Shape} {e : EltTy} (c : Dev nD) (a : Memref sig .tc .vmem s e) (x : s.Idx → Elt F e) (o : Fin s.rank → ℕ) (ho : ∀ i, o i = 0)
    (h : ∀ i, o i + s.size i ≤ s.size i) (hl) (k : (s.Idx → Elt F e) → Prog (TpuEff nD τ sig (Elt F) Λ₀ .tc) α) (Q : α → sProp 𝕄) :
    iprop(owns (c : Thread nD τ) a fullShare x
        ∗ (owns (c : Thread nD τ) a fullShare x -∗ wp (M := 𝕄) frame (wpE (defs₀ (F := F)) Variants.none (c : Thread nD τ) none) Set.univ (k x) Q))
      ⊢ wp (M := 𝕄) frame (wpE (defs₀ (F := F)) Variants.none (c : Thread nD τ) none) Set.univ
          (Prog.lift (.load a (Rect.unit (s := s) o s.size h).toLoadRect hl) >>= k) Q := by
  unfold owns
  iintro ⟨⟨%f, %hf, H⟩, Hk⟩
  subst hf
  have e : a.view.readAt (Elt F) (Rect.unit (s := s) o s.size h).toLoadRect f = a.view.read (Elt F) f := by
    funext y
    refine congrArg (fun z => a.view.read (Elt F) f z) (funext fun i => Fin.ext ?_)
    show o i + 1 * (y i).val = (y i).val
    rw [ho i]; omega
  iapply (wp_load (m := a) (r := (Rect.unit (s := s) o s.size h).toLoadRect) (S := a.view.set) (q := fullShare) (f := f) Variants.none (c : Thread nD τ) none Set.univ
    (View.setOn_subset_set (v := a.view) _)) $$ [H]
  · iexact H
  iintro H
  rw [e]
  iapply Hk
  iexists f
  isplitr; · ipureintro; rfl
  iexact H

/-- A store to a whole buffer. -/
theorem full_store_wp {α : Type} {s : Shape} {e : EltTy} (c : Dev nD) (a : Memref sig .tc .vmem s e) (d x : s.Idx → Elt F e) (o : Fin s.rank → ℕ) (ho : ∀ i, o i = 0)
    (h : ∀ i, o i + s.size i ≤ s.size i) (hx) (hm) (k : PUnit → Prog (TpuEff nD τ sig (Elt F) Λ₀ .tc) α) (Q : α → sProp 𝕄) :
    iprop(owns (c : Thread nD τ) a fullShare d
        ∗ (owns (c : Thread nD τ) a fullShare x -∗ wp (M := 𝕄) frame (wpE (defs₀ (F := F)) Variants.none (c : Thread nD τ) none) Set.univ (k ⟨⟩) Q))
      ⊢ wp (M := 𝕄) frame (wpE (defs₀ (F := F)) Variants.none (c : Thread nD τ) none) Set.univ
          (Prog.lift (.store a (Rect.unit (s := s) o s.size h) x Finset.univ hx hm) >>= k) Q := by
  unfold owns
  iintro ⟨⟨%f, %hf, H⟩, Hk⟩
  have er : ∀ y : s.Idx, (Rect.unit (s := s) o s.size h).emb y = y := fun y => funext fun i => Fin.ext (by
    show o i + 1 * (y i).val = (y i).val
    rw [ho i]; omega)
  have es : (a.access (Rect.unit (s := s) o s.size h)).setOn Finset.univ ⊆ a.view.set := fun z hz => by
    obtain ⟨y, -, rfl⟩ := Finset.mem_map.mp hz
    exact a.view.emb_mem_set _
  iapply (wp_store (m := a) (r := Rect.unit (s := s) o s.size h) (w := x) (Mk := Finset.univ) (S := a.view.set) (f := f) Variants.none (c : Thread nD τ) none Set.univ es) $$ [H]
  · iexact H
  iintro H
  iapply Hk
  iexists _
  isplitr; swap
  · iexact H
  ipureintro
  funext y
  refine (congrArg (fun z => a.view.read (Elt F) ((a.access (Rect.unit (s := s) o s.size h)).write (Elt F) f x Finset.univ) z) (er y).symm).trans ?_
  exact congrFun (View.read_write_univ (v := a.access (Rect.unit (s := s) o s.size h)) f x) y

/-! ## The body's parts -/

section
variable (c : Dev nD) (i : grid0.Coords) (a1 : Memref sig .tc .smem S1024 .i32) (h1 : a1.IsWhole) (a2 : Memref sig .tc .smem S1024 .i32) (h2 : a2.IsWhole)
  (a4 : Memref sig .tc .vmem S512x1024 .f32) (h4 : a4.IsWhole) (a5 : Memref sig .tc .vmem S512x2 .f32) (h5 : a5.IsWhole)
  (a6 : Memref sig .tc .vmem S1x1024 .f32) (h6 : a6.IsWhole) (a7 : Memref sig .tc .vmem S512x1024 .f32) (h7 : a7.IsWhole)
  (T T' : Vec F S1024 .i32) (Y : Vec F S540672x128 .f32) (x : Vec F S512x1024 .f32) (g : Vec F S512x2 .f32) (w : Vec F S1x1024 .f32)
  (hT : ∀ j : Fin 1024, (T (ix1 j)).toNat < 67584) (hT' : ∀ j : Fin 1024, (T' (ix1 j)).toNat < 67584)

/-- The slot a point reads, as the point finds it: free at the first point, with its copies on the way at every other. -/
def coming : sProp 𝕄 := if (i 0).val = 0 then Free c (reads i) Y else Flying c (reads i) T Y
/-- The slot a point fills, as the point leaves it: with its copies on the way, but for the last point. -/
def going : sProp 𝕄 := if (i 0).val + 1 < 64 then Flying c (fills i) T' Y else Free c (fills i) Y

include hT in
theorem first_wp {α : Type} (k : Prog (TpuEff nD τ sig (Elt F) Λ₀ .tc) α) (Q : α → sProp 𝕄) :
    iprop(coming c i T Y ∗ owns (c : Thread nD τ) a1 fullShare T
        ∗ (iprop(Flying c (reads i) T Y ∗ owns (c : Thread nD τ) a1 fullShare T) -∗ wp (M := 𝕄) frame (wpE (defs₀ (F := F)) Variants.none (c : Thread nD τ) none) Set.univ k Q))
      ⊢ wp (M := 𝕄) frame (wpE (defs₀ (F := F)) Variants.none (c : Thread nD τ) none) Set.univ
          (if h : k0_cond1 i = 1#1 then (do
            Scf.Loop.for k0_t1_loop (k0_t1_ok i h) ⟨⟩ (k0_t1_body (F := F) i a1 h1 a2 h2 ysM (Memref.isWhole_whole _) a4 h4 a5 h5 a6 h6 a7 h7 scr (Memref.isWhole_whole _) cc0_scratch1 h)
            k) else k) Q := by
  unfold coming
  by_cases h : k0_cond1 i = 1#1
  · have h0 := (cond1_iff i).mp h
    have e : reads i = 0 := Fin.ext (by show (i 0).val % 2 = 0; rw [h0])
    rw [dif_pos h, if_pos h0, e, wp_bind]
    iintro ⟨HF, Ha, Hk⟩
    imod (take_off c 0 T Y) $$ HF with ⟨⟨%fd, HF⟩, Hd⟩
    iapply (loop1_wp c i a1 h1 a2 h2 a4 h4 a5 h5 a6 h6 a7 h7 (half 0) fullShare T Y fd hT h)
    isplitl [Ha]; · iexact Ha
    isplitl [HF]; · iexact HF
    iintro ⟨Ha, HF⟩
    iapply Hk
    isplitl [HF Hd]
    · iapply (all_begun c 0 T Y fd)
      isplitl [HF]; · iexact HF
      iexact Hd
    iexact Ha
  · rw [dif_neg h, if_neg (fun h0 => h ((cond1_iff i).mpr h0))]
    iintro ⟨HF, Ha, Hk⟩
    iapply Hk
    isplitl [HF]; · iexact HF
    iexact Ha

include hT' in
theorem next_wp {α : Type} (k : Prog (TpuEff nD τ sig (Elt F) Λ₀ .tc) α) (Q : α → sProp 𝕄) :
    iprop(Free c (fills i) Y ∗ owns (c : Thread nD τ) a2 fullShare T'
        ∗ (iprop(going c i T' Y ∗ owns (c : Thread nD τ) a2 fullShare T') -∗ wp (M := 𝕄) frame (wpE (defs₀ (F := F)) Variants.none (c : Thread nD τ) none) Set.univ k Q))
      ⊢ wp (M := 𝕄) frame (wpE (defs₀ (F := F)) Variants.none (c : Thread nD τ) none) Set.univ
          (if h : k0_cond2 i = 1#1 then (do
            Scf.Loop.for k0_t2_loop (k0_t2_ok i h) ⟨⟩ (k0_t2_body (F := F) i a1 h1 a2 h2 ysM (Memref.isWhole_whole _) a4 h4 a5 h5 a6 h6 a7 h7 scr (Memref.isWhole_whole _) cc0_scratch1 h)
            k) else k) Q := by
  unfold going
  by_cases h : k0_cond2 i = 1#1
  · rw [dif_pos h, if_pos ((cond2_iff i).mp h), wp_bind]
    iintro ⟨HF, Ha, Hk⟩
    imod (take_off c (fills i) T' Y) $$ HF with ⟨⟨%fd, HF⟩, Hd⟩
    iapply (loop2_wp c i a1 h1 a2 h2 a4 h4 a5 h5 a6 h6 a7 h7 (half (fills i)) fullShare T' Y fd hT' h)
    isplitl [Ha]; · iexact Ha
    isplitl [HF]; · iexact HF
    iintro ⟨Ha, HF⟩
    iapply Hk
    isplitl [HF Hd]
    · iapply (all_begun c (fills i) T' Y fd)
      isplitl [HF]; · iexact HF
      iexact Hd
    iexact Ha
  · rw [dif_neg h, if_neg (fun h0 => h ((cond2_iff i).mpr h0))]
    iintro ⟨HF, Ha, Hk⟩
    iapply Hk
    isplitl [HF]; · iexact HF
    iexact Ha

/-- What the first part does after the copies are started: it waits for the slot it reads, and loads the gates and three of the slot's columns. -/
def afterStarts (v : BitVec 32) : Prog (TpuEff nD τ sig (Elt F) Λ₀ .tc)
    (Σ' (_ : BitVec 32) (_ : Vec F S512x2 .f32) (_ : FVec F S512x128 .f32) (_ : FVec F S512x128 .f32), FVec F S512x128 .f32) := do
  Prog.lift (.waitDma2 (semAt (k0_off17 i) (k0_off17_inb i))
    (ysM.slice (Rect.unit (s := S540672x128) ![0, 0] S8192x128.size inb_S540672x128_S8192x128_0_0) (fun _ => rfl))
    (slotAt (k0_off18 i) (k0_off18_inb i)) (View.wordExact_bits rfl) ((View.wordExact_bits rfl).reshape _ _))
  let v22 : Vec F S512x2 .f32 ← Prog.lift (.load a5 (Rect.unit (s := S512x2) ![0, 0] S512x2.size inb_S512x2_S512x2_0_0).toLoadRect (View.loadsAt_vmem h_S512x2))
  let p ← Prog.lift (.load scr (every8 (k0_off19 i) (k0_off19_inb i)) (View.loadsAt_vmem h_S1x512x128))
  let q ← Prog.lift (.load scr (every8 (k0_off20 i) (k0_off20_inb i)) (View.loadsAt_vmem h_S1x512x128))
  let r ← Prog.lift (.load scr (every8 (k0_off21 i) (k0_off21_inb i)) (View.loadsAt_vmem h_S1x512x128))
  pure ⟨v, v22, k0_pay2 p, k0_pay3 q, k0_pay4 r⟩

theorem part1_text : ∃ v : BitVec 32,
    k0_part1 (F := F) i a1 h1 a2 h2 ysM (Memref.isWhole_whole _) a4 h4 a5 h5 a6 h6 a7 h7 scr (Memref.isWhole_whole _) cc0_scratch1
      = (if h : k0_cond1 i = 1#1 then (do
          Scf.Loop.for k0_t1_loop (k0_t1_ok i h) ⟨⟩ (k0_t1_body (F := F) i a1 h1 a2 h2 ysM (Memref.isWhole_whole _) a4 h4 a5 h5 a6 h6 a7 h7 scr (Memref.isWhole_whole _) cc0_scratch1 h)
          (if h : k0_cond2 i = 1#1 then (do
            Scf.Loop.for k0_t2_loop (k0_t2_ok i h) ⟨⟩ (k0_t2_body (F := F) i a1 h1 a2 h2 ysM (Memref.isWhole_whole _) a4 h4 a5 h5 a6 h6 a7 h7 scr (Memref.isWhole_whole _) cc0_scratch1 h)
            afterStarts i a5 v) else afterStarts i a5 v))
        else (if h : k0_cond2 i = 1#1 then (do
            Scf.Loop.for k0_t2_loop (k0_t2_ok i h) ⟨⟩ (k0_t2_body (F := F) i a1 h1 a2 h2 ysM (Memref.isWhole_whole _) a4 h4 a5 h5 a6 h6 a7 h7 scr (Memref.isWhole_whole _) cc0_scratch1 h)
            afterStarts i a5 v) else afterStarts i a5 v)) := ⟨_, rfl⟩

/-- The wait's slot and semaphore, by number. -/
theorem waited {α : Type} {W : Waits sig Unit} {srcw : Memref sig .tc .hbm S8192x128 .f32} {hsrc : srcw.view.WordExact} {o1 : Fin 1 → ℕ} {q1} {o3 : Fin 3 → ℕ} {q3}
    {hdst : (slotAt o3 q3).view.WordExact} (b : Fin 2) (e1 : o1 = ![b.val]) (e3 : o3 = ![b.val, 0, 0])
    (k : PUnit → Prog (TpuEff nD τ sig (Elt F) Λ₀ .tc) α) (Q : α → sProp 𝕄) :
    iprop(Flying c b T Y ∗ owes (c : Thread nD τ) 0 W
        ∗ (iprop(slotAs c b (filled T Y) ∗ quiet c b ∗ rowsAt c Y (half b) ∗ owes (c : Thread nD τ) 0 (insert (SemLoc.dma (sem b), ()) W))
          -∗ wp (M := 𝕄) frame (wpE (defs₀ (F := F)) Variants.none (c : Thread nD τ) none) Set.univ (k ⟨⟩) Q))
      ⊢ wp (M := 𝕄) frame (wpE (defs₀ (F := F)) Variants.none (c : Thread nD τ) none) Set.univ
          (Prog.lift (.waitDma2 (semAt o1 q1) srcw (slotAt o3 q3) hsrc hdst) >>= k) Q := by
  subst e1; subst e3
  exact wait_wp c b T Y Q

include hT hT' in
theorem part1_wp {W : Waits sig Unit}
    (Q : (Σ' (_ : BitVec 32) (_ : Vec F S512x2 .f32) (_ : FVec F S512x128 .f32) (_ : FVec F S512x128 .f32), FVec F S512x128 .f32) → sProp 𝕄) :
    iprop(coming c i T Y ∗ Free c (fills i) Y ∗ owns (c : Thread nD τ) a1 fullShare T ∗ owns (c : Thread nD τ) a2 fullShare T'
        ∗ owns (c : Thread nD τ) a5 fullShare g ∗ owes (c : Thread nD τ) 0 W
        ∗ (∀ v, iprop(slotAs c (reads i) (filled T Y) ∗ quiet c (reads i) ∗ rowsAt c Y (half (reads i)) ∗ going c i T' Y
            ∗ owns (c : Thread nD τ) a1 fullShare T ∗ owns (c : Thread nD τ) a2 fullShare T' ∗ owns (c : Thread nD τ) a5 fullShare g
            ∗ owes (c : Thread nD τ) 0 (insert (SemLoc.dma (sem (reads i)), ()) W))
          -∗ Q ⟨v, g, k0_pay2 (column (filled T Y) (reads i) 0), k0_pay3 (column (filled T Y) (reads i) 1),
              k0_pay4 (column (filled T Y) (reads i) 2)⟩))
      ⊢ wp (M := 𝕄) frame (wpE (defs₀ (F := F)) Variants.none (c : Thread nD τ) none) Set.univ
          (k0_part1 (F := F) i a1 h1 a2 h2 ysM (Memref.isWhole_whole _) a4 h4 a5 h5 a6 h6 a7 h7 scr (Memref.isWhole_whole _) cc0_scratch1) Q := by
  obtain ⟨v, e⟩ := part1_text (F := F) i a1 h1 a2 h2 a4 h4 a5 h5 a6 h6 a7 h7
  rw [e]
  iintro ⟨HC, HF, H1, H2, H5, HO, Hk⟩
  iapply (first_wp c i a1 h1 a2 h2 a4 h4 a5 h5 a6 h6 a7 h7 T Y hT)
  isplitl [HC]; · iexact HC
  isplitl [H1]; · iexact H1
  iintro ⟨HC, H1⟩
  iapply (next_wp c i a1 h1 a2 h2 a4 h4 a5 h5 a6 h6 a7 h7 T' Y hT')
  isplitl [HF]; · iexact HF
  isplitl [H2]; · iexact H2
  iintro ⟨HG, H2⟩
  unfold afterStarts
  iapply (waited c T Y (reads i) (off17_eq i) (off18_eq i))
  isplitl [HC]; · iexact HC
  isplitl [HO]; · iexact HO
  iintro ⟨Hs, Hq, Hr, HO⟩
  iapply (full_wp c a5 g ![0, 0] (by decide))
  isplitl [H5]; · iexact H5
  iintro H5
  iapply (column_wp c (reads i) (filled T Y) (k0_off19 i) (k0_off19_inb i) _ 0 (by decide) (at_reads i 0))
  isplitl [Hs]; · iexact Hs
  iintro Hs
  iapply (column_wp c (reads i) (filled T Y) (k0_off20 i) (k0_off20_inb i) _ 1 (by decide) (at_reads i 1))
  isplitl [Hs]; · iexact Hs
  iintro Hs
  iapply (column_wp c (reads i) (filled T Y) (k0_off21 i) (k0_off21_inb i) _ 2 (by decide) (at_reads i 2))
  isplitl [Hs]; · iexact Hs
  iintro Hs
  rw [Prog.pure_eq_ret, wp_ret]
  imodintro
  iapply Hk $$ %v [Hs Hq Hr HG H1 H2 H5 HO]
  isplitl [Hs]; · iexact Hs
  isplitl [Hq]; · iexact Hq
  isplitl [Hr]; · iexact Hr
  isplitl [HG]; · iexact HG
  isplitl [H1]; · iexact H1
  isplitl [H2]; · iexact H2
  isplitl [H5]; · iexact H5
  iexact HO
theorem part2_wp (v : BitVec 32)
    (Q : (Σ' (_ : FVec F S512x1024 .f32) (_ : FVec F S512x128 .f32) (_ : FVec F S512x128 .f32) (_ : FVec F S512x128 .f32) (_ : FVec F S512x128 .f32)
      (_ : FVec F S512x128 .f32), FVec F S512x128 .f32) → sProp 𝕄) :
    iprop(slotAs c (reads i) (filled T Y)
        ∗ (slotAs c (reads i) (filled T Y)
          -∗ Q ⟨k0_pay5 g (k0_pay2 (column (filled T Y) (reads i) 0)) (k0_pay3 (column (filled T Y) (reads i) 1)) (k0_pay4 (column (filled T Y) (reads i) 2)) (column (filled T Y) (reads i) 3) (column (filled T Y) (reads i) 4) (column (filled T Y) (reads i) 5)
                (column (filled T Y) (reads i) 6) (column (filled T Y) (reads i) 7), k0_pay6 (column (filled T Y) (reads i) 4096), k0_pay7 (column (filled T Y) (reads i) 4097), k0_pay8 (column (filled T Y) (reads i) 4098),
              k0_pay9 (column (filled T Y) (reads i) 4099), k0_pay10 (column (filled T Y) (reads i) 4100), k0_pay11 (column (filled T Y) (reads i) 4101)⟩))
      ⊢ wp (M := 𝕄) frame (wpE (defs₀ (F := F)) Variants.none (c : Thread nD τ) none) Set.univ
          (k0_part2 (F := F) i a1 h1 a2 h2 ysM (Memref.isWhole_whole _) a4 h4 a5 h5 a6 h6 a7 h7 scr (Memref.isWhole_whole _) cc0_scratch1 v g
            (k0_pay2 (column (filled T Y) (reads i) 0)) (k0_pay3 (column (filled T Y) (reads i) 1)) (k0_pay4 (column (filled T Y) (reads i) 2))) Q := by
  rw [k0_part2_eq_skeleton]; unfold k0_part2_skel
  iintro ⟨Hs, Hk⟩
  iapply (column_wp c (reads i) (filled T Y) (k0_off22 i) (k0_off22_inb i) _ 3 (by decide) (at_reads i 3))
  isplitl [Hs]; · iexact Hs
  iintro Hs
  iapply (column_wp c (reads i) (filled T Y) (k0_off23 i) (k0_off23_inb i) _ 4 (by decide) (at_reads i 4))
  isplitl [Hs]; · iexact Hs
  iintro Hs
  iapply (column_wp c (reads i) (filled T Y) (k0_off24 i) (k0_off24_inb i) _ 5 (by decide) (at_reads i 5))
  isplitl [Hs]; · iexact Hs
  iintro Hs
  iapply (column_wp c (reads i) (filled T Y) (k0_off25 i) (k0_off25_inb i) _ 6 (by decide) (at_reads i 6))
  isplitl [Hs]; · iexact Hs
  iintro Hs
  iapply (column_wp c (reads i) (filled T Y) (k0_off26 i) (k0_off26_inb i) _ 7 (by decide) (at_reads i 7))
  isplitl [Hs]; · iexact Hs
  iintro Hs
  iapply (column_wp c (reads i) (filled T Y) (k0_off27 i) (k0_off27_inb i) _ 4096 (by decide) (at_reads i 4096))
  isplitl [Hs]; · iexact Hs
  iintro Hs
  iapply (column_wp c (reads i) (filled T Y) (k0_off28 i) (k0_off28_inb i) _ 4097 (by decide) (at_reads i 4097))
  isplitl [Hs]; · iexact Hs
  iintro Hs
  iapply (column_wp c (reads i) (filled T Y) (k0_off29 i) (k0_off29_inb i) _ 4098 (by decide) (at_reads i 4098))
  isplitl [Hs]; · iexact Hs
  iintro Hs
  iapply (column_wp c (reads i) (filled T Y) (k0_off30 i) (k0_off30_inb i) _ 4099 (by decide) (at_reads i 4099))
  isplitl [Hs]; · iexact Hs
  iintro Hs
  iapply (column_wp c (reads i) (filled T Y) (k0_off31 i) (k0_off31_inb i) _ 4100 (by decide) (at_reads i 4100))
  isplitl [Hs]; · iexact Hs
  iintro Hs
  iapply (column_wp c (reads i) (filled T Y) (k0_off32 i) (k0_off32_inb i) _ 4101 (by decide) (at_reads i 4101))
  isplitl [Hs]; · iexact Hs
  iintro Hs
  rw [Prog.pure_eq_ret, wp_ret]
  imodintro
  iapply Hk
  iexact Hs

/-- What the body stores: the block's tokens and the rows their copies name, each times its gate, summed and normalised. -/
def leaves : Vec F S512x1024 .f32 :=
  k0_pay1 g (k0_pay5 g (k0_pay2 (column (filled T Y) (reads i) 0)) (k0_pay3 (column (filled T Y) (reads i) 1)) (k0_pay4 (column (filled T Y) (reads i) 2)) (column (filled T Y) (reads i) 3) (column (filled T Y) (reads i) 4) (column (filled T Y) (reads i) 5) (column (filled T Y) (reads i) 6) (column (filled T Y) (reads i) 7))
    (k0_pay6 (column (filled T Y) (reads i) 4096)) (k0_pay7 (column (filled T Y) (reads i) 4097)) (k0_pay8 (column (filled T Y) (reads i) 4098)) (k0_pay9 (column (filled T Y) (reads i) 4099)) (k0_pay10 (column (filled T Y) (reads i) 4100))
    (k0_pay11 (column (filled T Y) (reads i) 4101)) (column (filled T Y) (reads i) 4102) (column (filled T Y) (reads i) 4103) x w

include hT hT' in
/-- The body at a point. -/
theorem body_run {W : Waits sig Unit} (K : PUnit → sProp 𝕄) :
    iprop(coming c i T Y ∗ Free c (fills i) Y ∗ owes (c : Thread nD τ) 0 W ∗ owns (c : Thread nD τ) a1 fullShare T ∗ owns (c : Thread nD τ) a2 fullShare T'
        ∗ owns (c : Thread nD τ) a4 fullShare x ∗ owns (c : Thread nD τ) a5 fullShare g ∗ owns (c : Thread nD τ) a6 fullShare w
        ∗ (∃ d, owns (c : Thread nD τ) a7 fullShare d)
        ∗ (iprop(Free c (reads i) Y ∗ going c i T' Y ∗ owes (c : Thread nD τ) 0 (insert (SemLoc.dma (sem (reads i)), ()) W)
            ∗ owns (c : Thread nD τ) a1 fullShare T ∗ owns (c : Thread nD τ) a2 fullShare T'
            ∗ owns (c : Thread nD τ) a4 fullShare x ∗ owns (c : Thread nD τ) a5 fullShare g ∗ owns (c : Thread nD τ) a6 fullShare w
            ∗ owns (c : Thread nD τ) a7 fullShare (leaves i T Y x g w)) -∗ K ⟨⟩))
      ⊢ wp (M := 𝕄) frame (wpE (defs₀ (F := F)) Variants.none (c : Thread nD τ) none) Set.univ
          (cc0_combine (F := F) i a1 h1 a2 h2 ysM (Memref.isWhole_whole _) a4 h4 a5 h5 a6 h6 a7 h7 scr (Memref.isWhole_whole _) cc0_scratch1) K := by
  rw [cc0_combine_eq_skeleton]; unfold cc0_combine_skel
  iintro ⟨HC, HF, HO, H1, H2, H4, H5, H6, ⟨%d, H7⟩, Hk⟩
  rw [wp_bind]
  iapply (part1_wp c i a1 h1 a2 h2 a4 h4 a5 h5 a6 h6 a7 h7 T T' Y g hT hT' (W := W))
  isplitl [HC]; · iexact HC
  isplitl [HF]; · iexact HF
  isplitl [H1]; · iexact H1
  isplitl [H2]; · iexact H2
  isplitl [H5]; · iexact H5
  isplitl [HO]; · iexact HO
  iintro %v ⟨Hs, Hq, Hr, HG, H1, H2, H5, HO⟩
  dsimp only
  rw [wp_bind]
  iapply (part2_wp c i a1 h1 a2 h2 a4 h4 a5 h5 a6 h6 a7 h7 T Y g v)
  isplitl [Hs]; · iexact Hs
  iintro Hs
  iapply (column_wp c (reads i) (filled T Y) (k0_off33 i) (k0_off33_inb i) _ 4102 (by decide) (at_reads i 4102))
  isplitl [Hs]; · iexact Hs
  iintro Hs
  iapply (column_wp c (reads i) (filled T Y) (k0_off34 i) (k0_off34_inb i) _ 4103 (by decide) (at_reads i 4103))
  isplitl [Hs]; · iexact Hs
  iintro Hs
  iapply (full_wp c a4 x ![0, 0] (by decide))
  isplitl [H4]; · iexact H4
  iintro H4
  iapply (full_wp c a6 w ![0, 0] (by decide))
  isplitl [H6]; · iexact H6
  iintro H6
  iapply (full_wp c a7 d ![0, 0] (by decide))
  isplitl [H7]; · iexact H7
  iintro H7
  iapply (full_store_wp c a7 d (leaves i T Y x g w) ![0, 0] (by decide))
  isplitl [H7]; · iexact H7
  iintro H7
  rw [Prog.pure_eq_ret, wp_ret]
  imodintro
  iapply Hk
  isplitl [Hs Hq Hr]
  · unfold Free
    isplitl [Hs]; · iexists _; iexact Hs
    isplitl [Hq]; · iexact Hq
    iexact Hr
  isplitl [HG]; · iexact HG
  isplitl [HO]; · iexact HO
  isplitl [H1]; · iexact H1
  isplitl [H2]; · iexact H2
  isplitl [H4]; · iexact H4
  isplitl [H5]; · iexact H5
  isplitl [H6]; · iexact H6
  iexact H7
end

end Cert.CombineRun

end
-- ==== Proof.CombineLaunch.lean ====
module

public import proofs.«01_k».proof.Proof.CombineBody

@[expose] public section

set_option maxRecDepth 16384

noncomputable section

/-! # The launch: what is carried from point to point, and the run -/

namespace Cert.CombineRun

open Cert.Kernel7Ideal Cert.Kernel7Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The blocks of words -/

theorem at_point : ∀ t : Fin cfg0.N, ((cfg0.grid.coords t) 0).val = t.val := by decide +kernel
theorem this_block : ∀ i : grid0.Coords, cc0_transform_0 i = ![(i 0).val] := by decide +kernel
theorem next_block : ∀ i : grid0.Coords, cc0_transform_1 i = ![min ((i 0).val + 1) 63] := by decide +kernel

/-- The words of the point's block, and those of the block that comes next. -/
abbrev words (c : Dev nD) (t : Fin cfg0.N) : Vec F S1024 .i32 := iblk m c 0 t
abbrev nextWords (c : Dev nD) (t : Fin cfg0.N) : Vec F S1024 .i32 := iblk m c 1 t
/-- The array of rows as the launch finds it. -/
abbrev rows (c : Dev nD) : Vec F S540672x128 .f32 := V m c main_arg1

/-- A block's word, read off the array. -/
theorem block_lt (n : ℕ) (hn : n < 64) (y : S1024.Idx) : n * 1024 + (y 0).val < 65536 := by
  have : (y 0).val < 1024 := (y 0).isLt
  omega

theorem words_at (c : Dev nD) (t : Fin cfg0.N) (y : S1024.Idx) :
    words m c t y = V m c main_arg2 (ix1 ⟨t.val * 1024 + (y 0).val, block_lt _ t.isLt y⟩) := by
  refine congrArg (V m c main_arg2) (funext fun a => ?_)
  match a with
  | ⟨0, _⟩ =>
    refine Fin.ext ?_
    show cc0_transform_0 (cfg0.grid.coords t) 0 * 1024 + 1 * (y 0).val = t.val * 1024 + (y 0).val
    rw [this_block, ← at_point t, Nat.one_mul]; rfl

theorem nextWords_at (c : Dev nD) (t : Fin cfg0.N) (y : S1024.Idx) :
    nextWords m c t y = V m c main_arg2 (ix1 ⟨min (t.val + 1) 63 * 1024 + (y 0).val, block_lt _ (by omega) y⟩) := by
  refine congrArg (V m c main_arg2) (funext fun a => ?_)
  match a with
  | ⟨0, _⟩ =>
    refine Fin.ext ?_
    show cc0_transform_1 (cfg0.grid.coords t) 0 * 1024 + 1 * (y 0).val = min (t.val + 1) 63 * 1024 + (y 0).val
    rw [next_block, ← at_point t, Nat.one_mul]; rfl

theorem nextWords_eq (c : Dev nD) (t : Fin cfg0.N) (h : t.val + 1 < 64) : nextWords m c t = words m c ⟨t.val + 1, h⟩ := by
  funext y
  rw [nextWords_at, words_at]
  refine congrArg (V m c main_arg2) (congrArg ix1 (Fin.ext ?_))
  show min (t.val + 1) 63 * 1024 + _ = (t.val + 1) * 1024 + _
  rw [Nat.min_eq_left (by omega)]

/-! ## What the points carry -/

abbrev slotNo (n : ℕ) : Fin 2 := ⟨n % 2, Nat.mod_lt _ (by decide)⟩

/-- Between the points: the slot the coming point reads has its copies on the way, the other is free. -/
def carry (c : Dev nD) (t : Fin (cfg0.N + 1)) : sProp 𝕄 :=
  iprop((if h : 0 < t.val ∧ t.val < 64 then Flying c (slotNo t.val) (words m c ⟨t.val, h.2⟩) (rows m c) else Free c (slotNo t.val) (rows m c))
    ∗ Free c (slotNo (t.val + 1)) (rows m c))

theorem carry_before (c : Dev nD) (t : Fin cfg0.N) :
    carry m c t.castSucc = iprop(coming c (cfg0.grid.coords t) (words m c t) (rows m c) ∗ Free c (fills (cfg0.grid.coords t)) (rows m c)) := by
  have ht : t.val < 64 := t.isLt
  have e0 : slotNo t.val = reads (cfg0.grid.coords t) := Fin.ext (by show t.val % 2 = _ % 2; rw [at_point])
  have e1 : slotNo (t.val + 1) = fills (cfg0.grid.coords t) := Fin.ext (by show (t.val + 1) % 2 = (_ + 1) % 2; rw [at_point])
  unfold carry coming
  show iprop((if h : 0 < t.val ∧ t.val < 64 then Flying c (slotNo t.val) (words m c ⟨t.val, h.2⟩) (rows m c) else Free c (slotNo t.val) (rows m c))
    ∗ Free c (slotNo (t.val + 1)) (rows m c)) = _
  rw [e0, e1, at_point t]
  by_cases h : t.val = 0
  · rw [dif_neg (by omega), if_pos h]
  · rw [dif_pos ⟨by omega, ht⟩, if_neg h]

theorem carry_after (c : Dev nD) (t : Fin cfg0.N) :
    carry m c t.succ = iprop(going c (cfg0.grid.coords t) (nextWords m c t) (rows m c) ∗ Free c (reads (cfg0.grid.coords t)) (rows m c)) := by
  have ht : t.val < 64 := t.isLt
  have e0 : slotNo (t.val + 1) = fills (cfg0.grid.coords t) := Fin.ext (by show (t.val + 1) % 2 = (_ + 1) % 2; rw [at_point])
  have e1 : slotNo (t.val + 1 + 1) = reads (cfg0.grid.coords t) := Fin.ext (by show (t.val + 1 + 1) % 2 = _ % 2; rw [at_point]; omega)
  unfold carry going
  show iprop((if h : 0 < t.val + 1 ∧ t.val + 1 < 64 then Flying c (slotNo (t.val + 1)) (words m c ⟨t.val + 1, h.2⟩) (rows m c) else Free c (slotNo (t.val + 1)) (rows m c))
    ∗ Free c (slotNo (t.val + 1 + 1)) (rows m c)) = _
  rw [e0, e1, at_point t]
  by_cases h : t.val + 1 < 64
  · rw [dif_pos ⟨by omega, h⟩, if_pos h, nextWords_eq m c t h]
  · rw [dif_neg (by omega), if_neg h]

/-! ## The pipeline's data -/

/-- What the body leaves in the output's buffer at a point. -/
abbrev left_ (c : Dev nD) (t : Fin cfg0.N) : Vec F S512x1024 .f32 :=
  leaves (cfg0.grid.coords t) (words m c t) (rows m c) (iblk m c 2 t) (iblk m c 3 t) (iblk m c 4 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left_ m c t
  Φ t := iprop((∃ r, prngReg c r) ∗ carry m c t)
  q w := Pipeline.shareOf spec0 w
  owed _ := 0

/-- An input's buffer holds its block when the body runs. -/
theorem before_0 (c : Dev nD) (t : Fin cfg0.N) (d) : (dats m 0 c).before (0 : Fin 6) t d = iblk m c 0 t :=
  (dats m 0 c).before_in_eq_fetched (0 : Fin 6) rfl (fun _ => rfl) (fun _ _ _ => rfl) (fun _ => rfl) t d
theorem before_1 (c : Dev nD) (t : Fin cfg0.N) (d) : (dats m 0 c).before (1 : Fin 6) t d = iblk m c 1 t :=
  (dats m 0 c).before_in_eq_fetched (1 : Fin 6) rfl (fun _ => rfl) (fun _ _ _ => rfl) (fun _ => rfl) t d
theorem before_2 (c : Dev nD) (t : Fin cfg0.N) (d) : (dats m 0 c).before (2 : Fin 6) t d = iblk m c 2 t :=
  (dats m 0 c).before_in_eq_fetched (2 : Fin 6) rfl (fun _ => rfl) (fun _ _ _ => rfl) (fun _ => rfl) t d
theorem before_3 (c : Dev nD) (t : Fin cfg0.N) (d) : (dats m 0 c).before (3 : Fin 6) t d = iblk m c 3 t :=
  (dats m 0 c).before_in_eq_fetched (3 : Fin 6) rfl (fun _ => rfl) (fun _ _ _ => rfl) (fun _ => rfl) t d
theorem before_4 (c : Dev nD) (t : Fin cfg0.N) (d) : (dats m 0 c).before (4 : Fin 6) t d = iblk m c 4 t :=
  (dats m 0 c).before_in_eq_fetched (4 : Fin 6) rfl (fun _ => rfl) (fun _ _ _ => rfl) (fun _ => rfl) t d

/-- All words name rows of the array. -/
def InRange : Prop := ∀ (c : Dev nD) (z : S65536.Idx), (V m c main_arg2 z : BitVec 32).toNat < 67584

variable (hin : InRange m)

include hin in
set_option maxHeartbeats 4000000 in
/-- The body does its part of the pipeline at every point. -/
theorem body_obligation (c : Dev nD) : BodyObligation (dats m 0 c) (defs₀ (F := F)) Variants.none () Set.univ := fun t => by
  rw [bigSep_W0, bigSep_W0]
  simp only [before_0, before_1, before_2, before_3, before_4]
  rewrite [show (dats m 0 c).Φ t.succ = iprop((∃ r, prngReg c r) ∗ carry m c t.succ) from rfl,
    show (dats m 0 c).Φ t.castSucc = iprop((∃ r, prngReg c r) ∗ carry m c t.castSucc) from rfl,
    show (dats m 0 c).owesAt () t.succ = (dats m 0 c).owesAt () t.castSucc from rfl, carry_before, carry_after]
  iintro ⟨⟨Hr, HC, HF⟩, ⟨%W, %hW, HO⟩, ⟨%d0, H0⟩, ⟨%d1, H1⟩, ⟨%d2, H2⟩, ⟨%d3, H3⟩, ⟨%d4, H4⟩, ⟨%d5, H5⟩⟩
  iapply (body_run c (cfg0.grid.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (words m c t) (nextWords m c t) (rows m c) (iblk m c 2 t) (iblk m c 3 t) (iblk m c 4 t)
    (fun j => by rw [words_at]; exact hin c _) (fun j => by rw [nextWords_at]; exact hin c _) (W := W) _)
  isplitl [HC]; · iexact HC
  isplitl [HF]; · iexact HF
  isplitl [HO]; · iexact HO
  isplitl [H0]; · iexact H0
  isplitl [H1]; · iexact H1
  isplitl [H2]; · iexact H2
  isplitl [H3]; · iexact H3
  isplitl [H4]; · iexact H4
  isplitl [H5]; · iexists _; iexact H5
  iintro ⟨HF, HG, HO, H0, H1, H2, H3, H4, H5⟩
  isplitl [Hr HG HF]
  · isplitl [Hr]; · iexact Hr
    isplitl [HG]; · iexact HG
    iexact HF
  isplitl [HO]
  · iexists _
    isplitr; swap
    · iexact HO
    ipureintro
    exact fun _ _ => Or.inl trivial
  isplitl [H0]; · iexact H0
  isplitl [H1]; · iexact H1
  isplitl [H2]; · iexact H2
  isplitl [H3]; · iexact H3
  isplitl [H4]; · iexact H4
  iexact H5

/-! ## The run -/

/-- The kernel's own semaphores, one for each slot. -/
abbrev osem : Fin 2 → SemLoc sig := fun b => .dma (sem b)

theorem own_sems : Pipeline.OwnSemFacts spec0 osem := by decide

/-- Both slots free: the buffer, the two semaphores at zero and the array of rows. -/
theorem all_free (c : Dev nD) :
    iprop(Free c 0 (rows m c) ∗ Free c 1 (rows m c))
      ⊣⊢ (iprop((∃ f : Buf (Elt F) ((c : Thread nD τ).loc cc0_scratch0), ((c : Thread nD τ).loc cc0_scratch0) ↦{fullShare} f)
        ∗ (quiet c 0 ∗ quiet c 1) ∗ (((c : Thread nD τ).loc main_arg1) ↦{fullShare} V m c main_arg1)) : sProp 𝕄) := by
  have hs : (rowsAt c (rows m c) fullShare : sProp 𝕄) ⊣⊢ iprop(rowsAt c (rows m c) (half 0) ∗ rowsAt c (rows m c) (half 1)) :=
    pointsTo_share (PosShare.mem_left_op_right _)
  unfold Free
  constructor
  · iintro ⟨⟨⟨%f, H0⟩, Hq0, Hr0⟩, ⟨%g, H1⟩, Hq1, Hr1⟩
    isplitl [H0 H1]
    · ihave H := (pointsTo_join (ℓ := scr.view.loc (c : Thread nD τ)) slots_disjoint) $$ [H0 H1]
      · isplitl [H0]; · iexact H0
        iexact H1
      rw [slots_cover]
      iexists _; iexact H
    isplitl [Hq0 Hq1]
    · isplitl [Hq0]; · iexact Hq0
      iexact Hq1
    iapply hs.2
    isplitl [Hr0]; · iexact Hr0
    iexact Hr1
  · iintro ⟨⟨%f, H⟩, ⟨Hq0, Hq1⟩, Hr⟩
    ihave ⟨Hr0, Hr1⟩ := hs.1 $$ [Hr]
    · iexact Hr
    ihave ⟨H0, H1⟩ := (show (iprop(scr.view.loc (c : Thread nD τ) ↦{fullShare} f) : sProp 𝕄) ⊢ iprop(slotAs c 0 f ∗ slotAs c 1 f) from by
      rw [← slots_cover]; exact (pointsTo_union (ℓ := scr.view.loc (c : Thread nD τ)) slots_disjoint).1) $$ [H]
    · iexact H
    isplitl [H0 Hq0 Hr0]
    · isplitl [H0]; · iexists f; iexact H0
      isplitl [Hq0]; · iexact Hq0
      iexact Hr0
    isplitl [H1]; · iexists f; iexact H1
    isplitl [Hq1]; · iexact Hq1
    iexact Hr1

theorem sems_eq (c : Dev nD) : (Pipeline.ownSems0 (Ix := Unit) (Name := ℕ) (U := Pipeline.UD sig nD τ) (Lvl := ℕ) (Val := Elt F) (τ := τ) osem c : sProp 𝕄)
    = iprop(quiet c 0 ∗ quiet c 1) := by
  unfold Pipeline.ownSems0
  rw [show (Finset.univ : Finset (Fin 2)) = insert (0 : Fin 2) {(1 : Fin 2)} from by decide, bigSep_insert (by decide), bigSep_singleton]
  rfl

/-- Before the first point and after the last everything is at rest. -/
theorem edge (c : Dev nD) (t : Fin (cfg0.N + 1)) (h : t.val = 0 ∨ t.val = 64) :
    Pipeline.ΦD osem spec0 {main_arg1} (V m) c ⊣⊢ iprop((∃ r, prngReg c r) ∗ carry m c t) := by
  have e : carry m c t = iprop(Free c 0 (rows m c) ∗ Free c 1 (rows m c)) := by
    unfold carry
    rw [dif_neg (by omega), show slotNo t.val = 0 from Fin.ext (by show t.val % 2 = 0; omega), show slotNo (t.val + 1) = 1 from Fin.ext (by show (t.val + 1) % 2 = 1; omega)]
  rw [e, Pipeline.ΦD_eq, scopedRest0_eq, bigSep_singleton, sems_eq]
  constructor
  · iintro ⟨Hs, Hp, ⟨Hq0, Hq1⟩, Hr⟩
    isplitl [Hp]; · iexact Hp
    iapply (all_free m c).2
    isplitl [Hs]; · iexact Hs
    isplitl [Hq0 Hq1]
    · isplitl [Hq0]; · iexact Hq0
      iexact Hq1
    iexact Hr
  · iintro ⟨Hp, HF⟩
    ihave ⟨Hs, ⟨Hq0, Hq1⟩, Hr⟩ := (all_free m c).1 $$ HF
    isplitl [Hs]; · iexact Hs
    isplitl [Hp]; · iexact Hp
    isplitl [Hq0 Hq1]
    · isplitl [Hq0]; · iexact Hq0
      iexact Hq1
    iexact Hr

include hin in
set_option backward.isDefEq.respectTransparency.types false in
set_option maxHeartbeats 4000000 in
/-- The program runs, every array ends as the data say, and no semaphore is left up. -/
theorem run : θ_run (defs (F := F)) (onTc (τ := τ) (main (F := F))) ⟨m, fun _ => 0, ρ⟩
    (fun r => Pipeline.FramePost cfgs (dats m) 0 (V m) r ∧ r.2.sem = fun _ => 0) :=
  Pipeline.θ_run_frame_dma_shared cfgs (dats m) 0 launch₀0 osem defs₀ Variants.none own_sems {main_arg1} (by decide) m ρ main
    (hbody := fun c => (body_obligation m hin c).loose) (hq := fun _ _ _ => rfl) (howed := fun _ _ => rfl) (V := V m)
    (hmain := Pipeline.hmain_prefix cfgs 0 defs₀ Variants.none m main hostOps0 hostOps0_sub hostOps0_fresh main_chain)
    (hA := fun _ _ => rfl) (hin := fun c => (edge m c 0 (.inl rfl)).1) (hout := fun c => (edge m c (Fin.last _) (.inr N_0)).2)
    (Q' := fun r => Pipeline.FramePost cfgs (dats m) 0 (V m) r ∧ r.2.sem = fun _ => 0) (hQ' := fun _ h => h)

end Cert.CombineRun

end
-- ==== Proof.Rows.lean ====
module

public import Idealize.ShloMosaic.Lib.Pointwise
public import Idealize.ShloMosaic.Lib.Pipeline.ValueKit.Geometry

@[expose] public section

noncomputable section

/-! # One row of the layer's maps, over the extended reals -/

namespace Cert.Rows

open Idealize.ShloMosaic

/-- A row scaled by the reciprocal root of its mean square (shifted by the small constant) and by the gains. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- The gated product of a row: the gate through its own logistic, times the second product, through the last weights. -/
def gated {K N : ℕ} (x : Fin K → EReal) (wg wu : Fin K → Fin N → EReal) (wd : Fin N → EReal) : EReal :=
  ∑ f, (∑ k, x k * wg k f) * Ideal.logistic (∑ k, x k * wg k f) * (∑ k, x k * wu k f) * wd f

/-- An array read whole is the array. -/
theorem whole (s : Shape) {e : EltTy} (x : Vec Ideal s e) (off : Fin s.rank → ℕ) (h0 : ∀ a, off a = 0) (inb) :
    View.ld (Val := Elt Ideal) x (Rect.unit (s := s) off s.size inb) = x :=
  funext fun i => congrArg x (funext fun a => Fin.ext (by show off a + 1 * (i a).val = (i a).val; rw [h0 a]; omega))

end Cert.Rows

end
-- ==== Proof.CombineBlock.lean ====
module

public import proofs.«01_k».proof.Proof.CombineLaunch
public import proofs.«01_k».proof.Proof.Rows

@[expose] public section

set_option maxRecDepth 16384

noncomputable section

/-! # One block of the combination, at an entry -/

namespace Cert.Combine

open Cert.Kernel7Ideal Cert.Kernel7Ideal.Gen Cert.CombineRun Cert.Rows
open Idealize.ShloMosaic

/-- Eight columns side by side. -/
theorem joined (A : Fin 8 → Vec Ideal S1x512x128 .f32) :
    concatenate S512x1024 1 [⟨S512x128, shapeCast S512x128 (A 0) shapeCasts_S1x512x128_S512x128⟩, ⟨S512x128, shapeCast S512x128 (A 1) shapeCasts_S1x512x128_S512x128⟩,
      ⟨S512x128, shapeCast S512x128 (A 2) shapeCasts_S1x512x128_S512x128⟩, ⟨S512x128, shapeCast S512x128 (A 3) shapeCasts_S1x512x128_S512x128⟩,
      ⟨S512x128, shapeCast S512x128 (A 4) shapeCasts_S1x512x128_S512x128⟩, ⟨S512x128, shapeCast S512x128 (A 5) shapeCasts_S1x512x128_S512x128⟩,
      ⟨S512x128, shapeCast S512x128 (A 6) shapeCasts_S1x512x128_S512x128⟩, ⟨S512x128, shapeCast S512x128 (A 7) shapeCasts_S1x512x128_S512x128⟩]
      concatenates_S512x128_S512x128_S512x128_S512x128_S512x128_S512x128_S512x128_S512x128_S512x1024_d1
      = fun i => A (⟨(i 1).val / 128, by have : (i 1).val < 1024 := (i 1).isLt; omega⟩ : Fin 8)
          (ix3 (0 : Fin 1) (i 0) (⟨(i 1).val % 128, Nat.mod_lt _ (by decide)⟩ : Fin 128)) := by
  funext i
  have hk : (i 1).val < 1024 := (i 1).isLt
  refine (concatenate_ofFn_apply (t := S512x1024) (s₁ := S512x128) 1 (fun s => shapeCast S512x128 (A s) shapeCasts_S1x512x128_S512x128)
    concatenates_S512x128_S512x128_S512x128_S512x128_S512x128_S512x128_S512x128_S512x128_S512x1024_d1 rfl 128 rfl i
    ⟨(i 1).val / 128, by omega⟩ rfl (ix2 (i 0) (⟨(i 1).val % 128, Nat.mod_lt _ (by decide)⟩ : Fin 128)) rfl ?_).trans ?_
  · intro b hb
    match b with
    | ⟨0, _⟩ => rfl
    | ⟨1, _⟩ => exact absurd rfl hb
  · dsimp only
    generalize A _ = x
    pointwise

/-- The stored block at an entry: the row with its two copies added, normalised. -/
theorem stored_at (A B : Fin 8 → Vec Ideal S1x512x128 .f32) (x : FVec Ideal S512x1024 .f32) (g : FVec Ideal S512x2 .f32) (w : FVec Ideal S1x1024 .f32)
    (r : Fin 512) (k : Fin 1024) :
    k0_pay1 (F := Ideal) g (k0_pay5 g (k0_pay2 (A 0)) (k0_pay3 (A 1)) (k0_pay4 (A 2)) (A 3) (A 4) (A 5) (A 6) (A 7))
        (k0_pay6 (B 0)) (k0_pay7 (B 1)) (k0_pay8 (B 2)) (k0_pay9 (B 3)) (k0_pay10 (B 4)) (k0_pay11 (B 5)) (B 6) (B 7) x w (ix2 r k)
      = normed (fun k => x (ix2 r k) + (A (⟨k.val / 128, by omega⟩ : Fin 8) (ix3 (0 : Fin 1) r (⟨k.val % 128, Nat.mod_lt _ (by decide)⟩ : Fin 128)) * g (ix2 r (0 : Fin 2))
          + B (⟨k.val / 128, by omega⟩ : Fin 8) (ix3 (0 : Fin 1) r (⟨k.val % 128, Nat.mod_lt _ (by decide)⟩ : Fin 128)) * g (ix2 r (1 : Fin 2))))
          (fun k => w (ix2 (0 : Fin 1) k)) k := by
  unfold k0_pay1 k0_pay5 k0_pay2 k0_pay3 k0_pay4 k0_pay6 k0_pay7 k0_pay8 k0_pay9 k0_pay10 k0_pay11
  dsimp only
  rw [joined A, joined B]
  pointwise
  rfl

/-- A column read of a slot, at an entry. -/
theorem column_at (f : Vec Ideal S2x8192x128 .f32) (b : Fin 2) (n : ℕ) (hn : n < 4104) (r : Fin 512) (l : Fin 128) :
    column f b n hn (ix3 (0 : Fin 1) r l) = f (ix3 b (⟨n + 8 * r.val, by omega⟩ : Fin 8192) l) := by
  refine congrArg f ?_
  funext a
  match a with
  | ⟨0, _⟩ => exact Fin.ext (by show b.val + 1 * 0 = b.val; omega)
  | ⟨1, _⟩ => exact Fin.ext (by show n + 8 * r.val = n + 8 * r.val; rfl)
  | ⟨2, _⟩ => exact Fin.ext (by show 0 + 1 * l.val = l.val; omega)

/-- Line `s` of copy `j` of row `r`, in a filled slot. -/
theorem line_at (T : Vec Ideal S1024 .i32) (Y : Vec Ideal S540672x128 .f32) (b : Fin 2) (j : Fin 2) (s : Fin 8) (hn : 4096 * j.val + s.val < 4104) (r : Fin 512) (l : Fin 128) :
    column (filled T Y) b (4096 * j.val + s.val) hn (ix3 (0 : Fin 1) r l)
      = Y (ix2 (⟨((T (ix1 (⟨2 * r.val + j.val, by omega⟩ : Fin 1024))).toNat * 8 + s.val) % 540672, Nat.mod_lt _ (by decide)⟩ : Fin 540672) l) := by
  rw [column_at]
  unfold filled
  refine congrArg Y ?_
  have hc : copyOf ((4096 * j.val + s.val + 8 * r.val) / 8) = 2 * r.val + j.val := by
    have := r.isLt
    have := j.isLt
    have := s.isLt
    unfold copyOf; omega
  have hm : (4096 * j.val + s.val + 8 * r.val) % 8 = s.val := by omega
  funext a
  match a with
  | ⟨0, _⟩ =>
    refine Fin.ext ?_
    show ((T (ix1 ⟨copyOf ((4096 * j.val + s.val + 8 * r.val) / 8), _⟩)).toNat * 8 + (4096 * j.val + s.val + 8 * r.val) % 8) % 540672 = _
    simp only [hc, hm]
    rfl
  | ⟨1, _⟩ => rfl

/-- What the body leaves, at an entry. -/
theorem leaves_at (i : grid0.Coords) (T : Vec Ideal S1024 .i32) (Y : Vec Ideal S540672x128 .f32) (x : FVec Ideal S512x1024 .f32) (g : FVec Ideal S512x2 .f32)
    (w : FVec Ideal S1x1024 .f32) (r : Fin 512) (k : Fin 1024) :
    leaves i T Y x g w (ix2 r k)
      = normed (fun k => x (ix2 r k)
          + (Y (ix2 (⟨((T (ix1 (⟨2 * r.val + 0, by omega⟩ : Fin 1024))).toNat * 8 + k.val / 128) % 540672, Nat.mod_lt _ (by decide)⟩ : Fin 540672) (⟨k.val % 128, Nat.mod_lt _ (by decide)⟩ : Fin 128)) * g (ix2 r (0 : Fin 2))
            + Y (ix2 (⟨((T (ix1 (⟨2 * r.val + 1, by omega⟩ : Fin 1024))).toNat * 8 + k.val / 128) % 540672, Nat.mod_lt _ (by decide)⟩ : Fin 540672) (⟨k.val % 128, Nat.mod_lt _ (by decide)⟩ : Fin 128)) * g (ix2 r (1 : Fin 2))))
          (fun k => w (ix2 (0 : Fin 1) k)) k := by
  let A (j : Fin 2) (s : Fin 8) : Vec Ideal S1x512x128 .f32 := column (filled T Y) (reads i) (4096 * j.val + s.val) (by omega)
  refine (stored_at (A 0) (A 1) x g w r k).trans ?_
  refine congrArg (fun z => normed z _ k) ?_
  funext k
  refine Ideal.add_congr rfl (Ideal.add_congr ?_ ?_)
  · exact congrArg (· * g (ix2 r (0 : Fin 2))) (line_at T Y (reads i) 0 (⟨k.val / 128, by omega⟩ : Fin 8) _ r _)
  · exact congrArg (· * g (ix2 r (1 : Fin 2))) (line_at T Y (reads i) 1 (⟨k.val / 128, by omega⟩ : Fin 8) _ r _)

end Cert.Combine

end
-- ==== Proof.CombineRef.lean ====
module

public import proofs.«01_k».proof.Proof.Rows
public import proofs.«01_k».proof.Proof.Gen.Reference7Ideal.Read

@[expose] public section

set_option maxRecDepth 16384

noncomputable section

/-! # The combination: what is computed, and the reference's reading of it -/

namespace Cert.Combine

open Cert.Reference7Ideal Cert.Reference7Ideal.Read Cert.Rows
open Idealize.ShloMosaic

variable (h : FVec Ideal S32768x1024 .f32) (y : FVec Ideal S540672x128 .f32) (d : IVec S65536 32)
  (g : FVec Ideal S32768x2 .f32) (w : FVec Ideal S1024 .f32)

/-- Expert row `n`, which is kept as eight rows of 128. -/
def expertRow (n : ℕ) (k : Fin 1024) : EReal :=
  y (ix2 (⟨(n * 8 + k.val / 128) % 540672, Nat.mod_lt _ (by decide)⟩ : Fin 540672) (⟨k.val % 128, Nat.mod_lt _ (by decide)⟩ : Fin 128))

/-- The word that places copy `j` of token `t`. -/
abbrev wordOf (t : Fin 32768) (j : Fin 2) : BitVec 32 := d (ix1 (⟨2 * t.val + j.val, by omega⟩ : Fin 65536))

/-- Token `t`'s row with its two expert rows added, each through its gate. -/
def added (t : Fin 32768) (k : Fin 1024) : EReal :=
  h (ix2 t k) + (expertRow y (wordOf d t 0).toNat k * g (ix2 t (0 : Fin 2)) + expertRow y (wordOf d t 1).toNat k * g (ix2 t (1 : Fin 2)))

/-- The combination, normalised. -/
def out : FVec Ideal S32768x1024 .f32 := fun i => normed (added h y d g (i 0)) (fun k => w (ix1 k)) (i 1)

/-- Taking rows of a matrix by a table with two entries for each token. -/
theorem take_apply (x : FVec Ideal S67584x1024 .f32) (s : IVec S32768x2x1 32) (t : Fin 32768) (j : Fin 2) (k : Fin 1024) :
    Host.gather gather_S67584x1024_S32768x2x1_S32768x2x1024_2_0_n_n_0_2_11024 x s (ix3 t j k)
      = x (ix2 (⟨min (s (ix3 t j (0 : Fin 1))).toInt.toNat 67583, by omega⟩ : Fin 67584) k) := by
  unfold Host.gather
  refine congrArg x ?_
  funext a
  refine Fin.ext ?_
  generalize hG : gather_S67584x1024_S32768x2x1_S32768x2x1024_2_0_n_n_0_2_11024 = G
  show G.start (ix3 t j k) s a + G.batchCoord (ix3 t j k) a + G.offCoord (ix3 t j k) a = _
  have hs := G.start_le (ix3 t j k) s a
  subst hG
  rw [GatherDims.batchCoord_eq_zero _ _ _ List.not_mem_nil]
  match a with
  | ⟨0, _⟩ =>
    have e : gather_S67584x1024_S32768x2x1_S32768x2x1024_2_0_n_n_0_2_11024.siIdx (ix3 t j k) ⟨0, Nat.succ_pos 0⟩ = ix3 t j (0 : Fin 1) := by
      funext c
      match c with
      | ⟨0, _⟩ => rfl
      | ⟨1, _⟩ => rfl
      | ⟨2, _⟩ => rfl
    show min (s (gather_S67584x1024_S32768x2x1_S32768x2x1024_2_0_n_n_0_2_11024.siIdx (ix3 t j k) ⟨0, Nat.succ_pos 0⟩)).toInt.toNat (67584 - 1) + 0 + 0 = min _ 67583
    rw [e]; rfl
  | ⟨1, _⟩ =>
    have : gather_S67584x1024_S32768x2x1_S32768x2x1024_2_0_n_n_0_2_11024.start (ix3 t j k) s 1 ≤ 1024 - 1024 := hs
    show gather_S67584x1024_S32768x2x1_S32768x2x1024_2_0_n_n_0_2_11024.start (ix3 t j k) s 1 + 0 + k.val = k.val
    omega

/-- A place in range is read as it is. -/
theorem place_eq (v : BitVec 32) (hv : v.toNat < 67584) :
    min (Scalar.select (IntOp.cmpi .slt v 0#32) (IntOp.addi v 67584#32) v).toInt.toNat 67583 = v.toNat := by
  have hi : v.toInt = v.toNat := by
    rw [BitVec.toInt_eq_toNat_cond, if_pos (by omega)]
  have hc : IntOp.cmpi .slt v 0#32 = 0#1 := by
    show BitVec.ofBool (v.slt 0#32) = 0#1
    have : v.slt 0#32 = false := by
      simp only [BitVec.slt, hi]
      exact decide_eq_false (by show ¬ ((v.toNat : ℤ) < 0); omega)
    rw [this]; rfl
  rw [hc]
  show min v.toInt.toNat 67583 = v.toNat
  rw [hi]
  omega

/-- The reference's row for copy `j` of token `t`. -/
theorem taken (hd : ∀ z, (d z).toNat < 67584) (t : Fin 32768) (j : Fin 2) (k : Fin 1024) :
    val_main_v8 (F := Ideal) y d (ix3 t j k) = expertRow y (wordOf d t j).toNat k := by
  have e : val_main_v7 (F := Ideal) d (ix3 t j (0 : Fin 1))
      = Scalar.select (IntOp.cmpi .slt (wordOf d t j) 0#32) (IntOp.addi (wordOf d t j) 67584#32) (wordOf d t j) := by
    have i : idx_main_v1 (ix2 t j) = ix1 (⟨2 * t.val + j.val, by omega⟩ : Fin 65536) := by
      funext a
      match a with
      | ⟨0, _⟩ => exact Fin.ext (by show t.val * 2 + j.val = 2 * t.val + j.val; omega)
    have v1 : val_main_v1 (F := Ideal) d (ix2 t j) = wordOf d t j := (val_main_v1_apply (F := Ideal) d (ix2 t j)).trans (congrArg d i)
    rw [← v1]
    pointwise [val_main_v7, val_main_v6, val_main_v3, val_main_v5, val_main_v2, val_main_v4, val_main_c, val_main_c_0]
  unfold val_main_v8
  have hw : (wordOf d t j).toNat < 67584 := hd _
  refine (take_apply (val_main_v0 (F := Ideal) y) (val_main_v7 (F := Ideal) d) t j k).trans ?_
  refine (val_main_v0_apply (F := Ideal) y _).trans ?_
  refine congrArg y ?_
  have hp : min (val_main_v7 (F := Ideal) d (ix3 t j (0 : Fin 1))).toInt.toNat 67583 = (wordOf d t j).toNat := by
    rw [e]; exact place_eq _ hw
  have hk := k.isLt
  funext a
  match a with
  | ⟨0, _⟩ =>
    refine Fin.ext ?_
    show (min (val_main_v7 (F := Ideal) d (ix3 t j (0 : Fin 1))).toInt.toNat 67583 * 1024 + k.val) / 128 = ((wordOf d t j).toNat * 8 + k.val / 128) % 540672
    rw [hp]; omega
  | ⟨1, _⟩ =>
    refine Fin.ext ?_
    show (min (val_main_v7 (F := Ideal) d (ix3 t j (0 : Fin 1))).toInt.toNat 67583 * 1024 + k.val) % 128 = k.val % 128
    omega

/-- The reference's sum at an entry. -/
theorem added_at (hd : ∀ z, (d z).toNat < 67584) (t : Fin 32768) (k : Fin 1024) :
    val_main_v13 (F := Ideal) h y d g (ix2 t k) = added h y d g t k := by
  have p (j : Fin 2) : val_main_v11 (F := Ideal) y d g (ix3 t j k) = expertRow y (wordOf d t j).toNat k * g (ix2 t j) := by
    rw [← taken y d hd]
    pointwise [val_main_v11, val_main_v10, val_main_v9]
  pointwise [val_main_v13, val_main_v12, val_main_cst]
  rw [Fin.sum_univ_two, p, p]
  rfl

/-- What the reference computes is `out`, the words in range. -/
theorem ref_eq (hd : ∀ z, (d z).toNat < 67584) : val_main_v26 (F := Ideal) h y d g w = out h y d g w := by
  funext i
  obtain ⟨t, k, rfl⟩ : ∃ t k, i = (ix2 t k : S32768x1024.Idx) := ⟨i 0, i 1, eq_ix2 i⟩
  pointwise [val_main_v26, val_main_v25, val_main_v24, val_main_v23, val_main_v22, val_main_v21, val_main_v20, val_main_v19, val_main_v18,
    val_main_v17, val_main_v16, val_main_v15, val_main_v14, val_main_cst_1, val_main_cst_2, val_main_cst_3]
  simp only [added_at h y d g hd]
  unfold out normed
  rfl

end Cert.Combine

end
-- ==== Proof.Combine.lean ====
module

public import proofs.«01_k».proof.Proof.CombineBlock
public import proofs.«01_k».proof.Proof.CombineRef
public import proofs.«01_k».proof.Proof.Gen.Reference7Ideal.Run
public import proofs.«01_k».proof.Proof.Gen.Pre_rows_in_range
public import proofs.«01_k».proof.Proof.Gen.Kernel7.Launch

@[expose] public section

set_option maxRecDepth 16384

noncomputable section

/-! # The combination: the kernel's array is the reference's -/

namespace Cert.Combine

open Cert.Kernel7Ideal Cert.Kernel7Ideal.Gen Cert.CombineRun Cert.Rows
open Idealize.ShloMosaic Idealize.ShloMosaic.TcCoe Idealize.SL.Sem

section Value

variable (m : (ℓ : Loc nD τ sig) → Buf (Elt Ideal) ℓ)

/-- The gains the region finds are the gains of the call, as one row. -/
theorem gains_eq (c : Dev nD) :
    V m c main_v0 = shapeCast S1x1024 (m ((c : Thread nD τ).loc main_arg4) : FVec Ideal S1024 .f32) shapeCasts_S1024_S1x1024 := by
  dsimp only [V, hostOps0]
  after_results
  rfl

theorem idx_h : ∀ t : Fin cfg0.N, win0_2.index t = ![t.val, 0] := (by decide +kernel : ∀ t : Fin grid0.N, win0_2.index t = ![t.val, 0])
theorem idx_g : ∀ t : Fin cfg0.N, win0_3.index t = ![t.val, 0] := (by decide +kernel : ∀ t : Fin grid0.N, win0_3.index t = ![t.val, 0])
theorem idx_w : ∀ t : Fin cfg0.N, win0_4.index t = ![0, 0] := (by decide +kernel : ∀ t : Fin grid0.N, win0_4.index t = ![0, 0])
theorem idx_out : ∀ t : Fin cfg0.N, win0_5.index t = ![t.val, 0] := (by decide +kernel : ∀ t : Fin grid0.N, win0_5.index t = ![t.val, 0])

/-- A grid point is one of 64. -/
theorem lt_points (t : Fin cfg0.N) : t.val < 64 := lt_of_lt_of_eq t.isLt N_0

/-- Row `r` of block `t`. -/
abbrev token (t : Fin cfg0.N) (r : Fin 512) : Fin 32768 := ⟨t.val * 512 + r.val, by have := lt_points t; omega⟩

theorem h_block (c : Dev nD) (t : Fin cfg0.N) (r : Fin 512) (k : Fin 1024) :
    iblk m c 2 t (ix2 r k : S512x1024.Idx) = m ((c : Thread nD τ).loc main_arg0) (ix2 (token t r) k : S32768x1024.Idx) := by
  blk_simp [iblk]
  rw [V_main_arg0]
  refine congrArg _ ?_
  blk_ext [idx_h t]

theorem g_block (c : Dev nD) (t : Fin cfg0.N) (r : Fin 512) (j : Fin 2) :
    iblk m c 3 t (ix2 r j : S512x2.Idx) = m ((c : Thread nD τ).loc main_arg3) (ix2 (token t r) j : S32768x2.Idx) := by
  blk_simp [iblk]
  rw [V_main_arg3]
  refine congrArg _ ?_
  blk_ext [idx_g t]

theorem w_block (c : Dev nD) (t : Fin cfg0.N) (k : Fin 1024) :
    iblk m c 4 t (ix2 (0 : Fin 1) k : S1x1024.Idx) = m ((c : Thread nD τ).loc main_arg4) (ix1 k : S1024.Idx) := by
  have e : iblk m c 4 t (ix2 (0 : Fin 1) k : S1x1024.Idx) = V m c main_v0 (ix2 (0 : Fin 1) k : S1x1024.Idx) := by
    blk_simp [iblk]
    refine congrArg _ ?_
    blk_ext [idx_w t]
  rw [e, gains_eq]
  pointwise

/-- The word a block holds for copy `j` of its row `r`. -/
theorem word_block (c : Dev nD) (t : Fin cfg0.N) (r : Fin 512) (j : Fin 2) :
    words m c t (ix1 (⟨2 * r.val + j.val, by omega⟩ : Fin 1024)) = wordOf (m ((c : Thread nD τ).loc main_arg2)) (token t r) j := by
  rw [words_at, V_main_arg2]
  refine congrArg (m ((c : Thread nD τ).loc main_arg2)) ?_
  funext a
  match a with
  | ⟨0, _⟩ => exact Fin.ext (by show t.val * 1024 + (2 * r.val + j.val) = 2 * (t.val * 512 + r.val) + j.val; omega)

/-- The kernel's output array. -/
theorem final (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [show (dats m 0 c).after 5 t = left_ m c t from rfl]
  obtain ⟨r, k, rfl⟩ : ∃ r k, y = (ix2 r k : S512x1024.Idx) := ⟨y 0, y 1, eq_ix2 y⟩
  have he : ((View.whole main_v1).slice (win0_5.rect t)).emb (ix2 r k : S512x1024.Idx) = (ix2 (token t r) k : S32768x1024.Idx) := by
    blk_ext [idx_out t]
  refine (leaves_at _ _ _ _ _ _ r k).trans (Eq.trans ?_ (congrArg _ he).symm)
  have hY : rows m c = m ((c : Thread nD τ).loc main_arg1) := V_main_arg1 m c
  have w0 : words m c t (ix1 (⟨2 * r.val + 0, by omega⟩ : Fin 1024)) = wordOf (m ((c : Thread nD τ).loc main_arg2)) (token t r) 0 := word_block m c t r 0
  have w1 : words m c t (ix1 (⟨2 * r.val + 1, by omega⟩ : Fin 1024)) = wordOf (m ((c : Thread nD τ).loc main_arg2)) (token t r) 1 := word_block m c t r 1
  simp only [h_block, g_block, w_block, hY]
  unfold out added expertRow
  rw [w0, w1]
  rfl

end Value

/-- A word the precondition admits is the number of a row. -/
theorem row_lt (v : BitVec 32) (h : IntOp.andi (IntOp.cmpi .sge v 0#32) (IntOp.cmpi .slt v 67584#32) = 1#1) : v.toNat < 67584 := by
  have both : ∀ a b : Bool, BitVec.ofBool a &&& BitVec.ofBool b = 1#1 → a = true ∧ b = true := by decide
  obtain ⟨lo, hi⟩ := both _ _ h
  have lo : 0 ≤ v.toInt := of_decide_eq_true lo
  have hi : v.toInt < 67584 := of_decide_eq_true hi
  rw [BitVec.toInt_eq_toNat_cond] at lo hi
  have := v.isLt
  split at lo <;> omega

attribute [local instance] Cert.Pre_rows_in_range.Gen.facts in
theorem in_range {F : FTy → Type} [FloatOps F] (m : (ℓ : Loc nD τ sig) → Buf (Elt F) ℓ)
    (h : ∀ c : Dev nD, Cert.Pre_rows_in_range.fn (F := F) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    InRange m := fun c z => by
  rw [V_main_arg2]
  exact row_lt _ (congrFun (h c) z)

/-- The kernel runs at any float, words in range: its result is what the points left, its arguments are as they were. -/
theorem ends {F : FTy → Type} [FloatOps F] (m : (ℓ : Loc nD τ sig) → Buf (Elt F) ℓ) (ρ : Dev nD → PrngReg) (hin : InRange m) :
    θ_run (defs (F := F)) (onTc (τ := τ) (main (F := F))) ⟨m, fun _ => 0, ρ⟩ (fun r => (∀ c : Dev nD,
      r.2.mem ((c : Thread nD τ).loc main_v1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run _ _ _).mono (fun r h => ⟨fun c => ?_, h.2⟩) (run m ρ hin)
  obtain ⟨staged, rest⟩ := h.1 c
  exact ⟨staged 5, (staged 2).trans (((dats m 0 c).arrAt_in 2 rfl _).trans (V_main_arg0 m c)),
    (rest main_arg1 (Pipeline.mem_restRefs_of main_arg1 (by decide) (by decide))).trans (V_main_arg1 m c),
    (staged 1).trans (((dats m 0 c).arrAt_in 1 rfl _).trans (V_main_arg2 m c)),
    (staged 3).trans (((dats m 0 c).arrAt_in 3 rfl _).trans (V_main_arg3 m c)),
    (rest main_arg4 (Pipeline.mem_restRefs_of main_arg4 (by decide) (by decide))).trans (V_main_arg4 m c)⟩

/-- The kernel runs at any float, words in range, and leaves its arguments alone. -/
theorem frame {F : FTy → Type} [FloatOps F] (m : (ℓ : Loc nD τ sig) → Buf (Elt F) ℓ) (ρ : Dev nD → PrngReg) (hin : InRange m) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run _ _ _).mono (fun r h => ⟨fun c => (h.1 c).2, h.2⟩) (ends m ρ hin)

/-- The two readings of the kernel are one program. -/
theorem same_calls {F : FTy → Type} [FloatOps F] : Cert.Kernel7.defs₀ (F := F) = defs₀ (F := F) := by
  unfold Cert.Kernel7.defs₀ defs₀
  refine congrArg _ ?_
  funext l x
  match l, x with
  | ⟨0, _⟩, (t, s) => rfl
theorem same_defs {F : FTy → Type} [FloatOps F] : Cert.Kernel7.defs (F := F) = defs (F := F) := congrArg (Pipeline.defs pcfgs) same_calls

theorem frame_bits : Cert.quiescent_Kernel7 (hKernel7 := Cert.Kernel7.Gen.facts) (hPre_rows_in_range := Cert.Pre_rows_in_range.Gen.facts) :=
  fun m ρ h => by
    unfold Cert.Pre_Kernel7 at h
    have hr := frame (F := Bits) m ρ (in_range (F := Bits) m h)
    rw [← same_defs] at hr
    exact hr

theorem frame_ideal : Cert.quiescent_Kernel7Ideal (hKernel7Ideal := Cert.Kernel7Ideal.Gen.facts) (hPre_rows_in_range := Cert.Pre_rows_in_range.Gen.facts) :=
  fun m ρ h => frame (F := Ideal) m ρ (in_range (F := Ideal) m h)

/-- The reference runs from any memory. -/
theorem frame_ref : Cert.quiescent_Reference7Ideal (hReference7Ideal := Cert.Reference7Ideal.Gen.facts) :=
  fun m ρ _ => (θ_run _ _ _).mono (fun r h => ⟨fun c => (h c).2, sem_eq_zero_of_no_sems (by decide) r.2⟩) (Cert.Reference7Ideal.Value.run m ρ)

/-- The kernel's result is the reference's, on arguments that agree, the words in range. -/
theorem algebraic : Cert.algebraic_Kernel7Ideal_Reference7Ideal (hKernel7Ideal := Cert.Kernel7Ideal.Gen.facts)
    (hReference7Ideal := Cert.Reference7Ideal.Gen.facts) (hPre_rows_in_range := Cert.Pre_rows_in_range.Gen.facts) := by
  intro m ρ m' ρ' hpre hargs
  have hin : InRange m := in_range (F := Ideal) m hpre
  refine ⟨_, (θ_run _ _ _).mono (fun r h c => ⟨(h.1 c).1.trans (final m c), (h.1 c).2⟩) (ends m ρ hin),
    (θ_run _ _ _).mono (fun r h c => ⟨?_, (h c).2⟩) (Cert.Reference7Ideal.Value.run m' ρ')⟩
  obtain ⟨h0, h1, h2, h3, h4⟩ := hargs c
  refine (h c).1.trans ?_
  rw [h0, h1, h2, h3, h4]
  refine (Cert.Reference7Ideal.Read.val_main_v26_eq _ _ _ _ _).trans (ref_eq _ _ _ _ _ fun z => ?_)
  have hz := hin c z
  rw [V_main_arg2] at hz
  exact hz

end Cert.Combine

end
-- ==== Proof.ExpertRun.lean ====
module

public import proofs.«01_k».proof.Proof.Gen.KernelIdeal.Skeleton
public import proofs.«01_k».proof.Proof.Gen.KernelIdeal.Launch
public import proofs.«01_k».proof.Defs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

/-! # The expert products' call, run

The body multiplies a block of 256 rows by one expert's three matrices where the block is used, and stores zeros where it
is not. Which expert and whether used are words of two tables. Both cases are run here, for any tables whose expert numbers
name blocks inside the weight arrays, and the launch follows. Nothing here depends on how numbers are represented. -/

namespace Cert.ExpertRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables as the body is handed them. -/
abbrev expertTab : Memref sig .tc .smem S264 .i32 := Memref.whole main_arg1
abbrev usedTab : Memref sig .tc .smem S1 .i32 := Memref.whole main_arg2

/-- The word the body reads from the second table: how many row blocks are used. -/
abbrev usedWord (T1 : Vec F S1 .i32) : BitVec 32 :=
  View.readAt (Elt F) usedTab.view (Rect.unit (s := S1) ![0] S1.size inb_S1_S1_0).toLoadRect T1 (Shape.Idx.first (numel1_S1.symm ▸ Nat.one_pos))

/-- Every eighth row of a block from row `s` on: one of the eight column groups of the rows it packs. -/
abbrev stripe (s : ℕ) (h : ∀ a : Fin 2, S256x128.size a = 0 ∨ ![s, 0] a + ![8, 1] a * (S256x128.size a - 1) < S2048x128.size a) : Rect S2048x128 :=
  ⟨(⟨![s, 0], S256x128.size, ![8, 1], h⟩ : LoadRect S2048x128), spos_8_1⟩

/-- The block's 256 rows times the expert's matrices: what the body computes where the block is used. -/
def product (x : Vec F S2048x128 .f32) (wg wu : Vec F S1x1x1024x3584 .bf16) (wd : Vec F S1x1x3584x1024 .bf16) : FVec F S256x1024 .f32 :=
  k0_pay8
    (View.ld x (stripe 0 inb_S2048x128_S256x128_0_0_s_8_1))
    (View.ld x (stripe 1 inb_S2048x128_S256x128_1_0_s_8_1))
    (View.ld x (stripe 2 inb_S2048x128_S256x128_2_0_s_8_1))
    (View.ld x (stripe 3 inb_S2048x128_S256x128_3_0_s_8_1))
    (View.ld x (stripe 4 inb_S2048x128_S256x128_4_0_s_8_1))
    (View.ld x (stripe 5 inb_S2048x128_S256x128_5_0_s_8_1))
    (View.ld x (stripe 6 inb_S2048x128_S256x128_6_0_s_8_1))
    (View.ld x (stripe 7 inb_S2048x128_S256x128_7_0_s_8_1))
    (View.ld wg (Rect.unit ![0, 0, 0, 0] S1x1x1024x3584.size inb_S1x1x1024x3584_S1x1x1024x3584_0_0_0_0))
    (View.ld wu (Rect.unit ![0, 0, 0, 0] S1x1x1024x3584.size inb_S1x1x1024x3584_S1x1x1024x3584_0_0_0_0))
    (View.ld wd (Rect.unit ![0, 0, 0, 0] S1x1x3584x1024.size inb_S1x1x3584x1024_S1x1x3584x1024_0_0_0_0))

/-- The eight column groups of a product, each with the rows it is stored at. -/
def groups (p : FVec F S256x1024 .f32) : List (View.Piece (Elt F) S2048x128 .f32) :=
  [⟨stripe 7 inb_S2048x128_S256x128_7_0_s_8_1, extractStridedSlice S256x128 ![0, 896] p slices_S256x1024_o0_896_S256x128⟩,
    ⟨stripe 6 inb_S2048x128_S256x128_6_0_s_8_1, extractStridedSlice S256x128 ![0, 768] p slices_S256x1024_o0_768_S256x128⟩,
    ⟨stripe 5 inb_S2048x128_S256x128_5_0_s_8_1, extractStridedSlice S256x128 ![0, 640] p slices_S256x1024_o0_640_S256x128⟩,
    ⟨stripe 4 inb_S2048x128_S256x128_4_0_s_8_1, extractStridedSlice S256x128 ![0, 512] p slices_S256x1024_o0_512_S256x128⟩,
    ⟨stripe 3 inb_S2048x128_S256x128_3_0_s_8_1, extractStridedSlice S256x128 ![0, 384] p slices_S256x1024_o0_384_S256x128⟩,
    ⟨stripe 2 inb_S2048x128_S256x128_2_0_s_8_1, extractStridedSlice S256x128 ![0, 256] p slices_S256x1024_o0_256_S256x128⟩,
    ⟨stripe 1 inb_S2048x128_S256x128_1_0_s_8_1, extractStridedSlice S256x128 ![0, 128] p slices_S256x1024_o0_128_S256x128⟩,
    ⟨stripe 0 inb_S2048x128_S256x128_0_0_s_8_1, extractStridedSlice S256x128 ![0, 0] p slices_S256x1024_o0_0_S256x128⟩]

theorem groups_cover (p : FVec F S256x1024 .f32) (y : S2048x128.Idx) : ∃ q ∈ groups p, y ∈ q.1.set := by
  have hd : (y 0).val < 2048 := (y 0).isLt
  have hl : (y 1).val < 128 := (y 1).isLt
  have key : ∀ s h, (y 0).val % 8 = s → y ∈ (stripe s h).set := fun s h hs => by
    refine (LoadRect.mem_set _).mpr fun a => ?_
    match a with
    | ⟨0, _⟩ => exact ⟨(y 0).val / 8, (by show _ < 256; omega), (by show (y 0).val = s + 8 * ((y 0).val / 8); omega)⟩
    | ⟨1, _⟩ => exact ⟨(y 1).val, hl, (by show (y 1).val = 0 + 1 * (y 1).val; omega)⟩
  have hs : (y 0).val % 8 = 7 ∨ (y 0).val % 8 = 6 ∨ (y 0).val % 8 = 5 ∨ (y 0).val % 8 = 4 ∨ (y 0).val % 8 = 3
      ∨ (y 0).val % 8 = 2 ∨ (y 0).val % 8 = 1 ∨ (y 0).val % 8 = 0 := by omega
  rcases hs with h | h | h | h | h | h | h | h
  · exact ⟨_, .head _, key _ _ h⟩
  · exact ⟨_, .tail _ (.head _), key _ _ h⟩
  · exact ⟨_, .tail _ (.tail _ (.head _)), key _ _ h⟩
  · exact ⟨_, .tail _ (.tail _ (.tail _ (.head _))), key _ _ h⟩
  · exact ⟨_, .tail _ (.tail _ (.tail _ (.tail _ (.head _)))), key _ _ h⟩
  · exact ⟨_, .tail _ (.tail _ (.tail _ (.tail _ (.tail _ (.head _))))), key _ _ h⟩
  · exact ⟨_, .tail _ (.tail _ (.tail _ (.tail _ (.tail _ (.tail _ (.head _)))))), key _ _ h⟩
  · exact ⟨_, .tail _ (.tail _ (.tail _ (.tail _ (.tail _ (.tail _ (.tail _ (.head _))))))), key _ _ h⟩

/-- A block is stored as zeros exactly where it is not used. -/
theorem unused_iff (i : grid0.Coords) (n : BitVec 32) : k0_cond2 i n = 1#1 ↔ ¬ k0_cond1 i n = 1#1 := by
  have h : ∀ b : BitVec 1, Scalar.cmpi .ne ((Scalar.extui (Scalar.xori b 1#1) : BitVec 32)) 0#32 = 1#1
      ↔ ¬ Scalar.cmpi .ne ((Scalar.extui b : BitVec 32)) 0#32 = 1#1 := by decide
  exact h _

/-- What the output's staging buffer holds after the body at a point. -/
def leaves (i : grid0.Coords) (T1 : Vec F S1 .i32) (x : Vec F S2048x128 .f32) (wg wu : Vec F S1x1x1024x3584 .bf16)
    (wd : Vec F S1x1x3584x1024 .bf16) : S2048x128.Idx → Elt F .f32 :=
  if k0_cond1 i (usedWord T1) = 1#1 then View.canon (groups (product x wg wu wd))
  else View.canon [⟨Rect.unit ![0, 0] S2048x128.size inb_S2048x128_S2048x128_0_0, k0_pay7⟩]

set_option maxHeartbeats 8000000 in
/-- One run of the body: it needs its four inputs and the two tables, gives them back, and leaves the output's buffer as said. -/
theorem body_run (c : Dev nD) (i : grid0.Coords) (a3 : Memref sig .tc .vmem S2048x128 .f32) (h3 : a3.IsWhole)
    (a4 : Memref sig .tc .vmem S1x1x1024x3584 .bf16) (h4 : a4.IsWhole) (a5 : Memref sig .tc .vmem S1x1x1024x3584 .bf16) (h5 : a5.IsWhole)
    (a6 : Memref sig .tc .vmem S1x1x3584x1024 .bf16) (h6 : a6.IsWhole) (a7 : Memref sig .tc .vmem S2048x128 .f32) (h7 : a7.IsWhole)
    (T0 : Vec F S264 .i32) (T1 : Vec F S1 .i32)
    (x : Vec F S2048x128 .f32) (wg wu : Vec F S1x1x1024x3584 .bf16) (wd : Vec F S1x1x3584x1024 .bf16) (K : PUnit → sProp 𝕄) :
    iprop(owns (c : Thread nD τ) a3 fullShare x ∗ owns (c : Thread nD τ) a4 fullShare wg ∗ owns (c : Thread nD τ) a5 fullShare wu
        ∗ owns (c : Thread nD τ) a6 fullShare wd
        ∗ (expertTab.view.loc (c : Thread nD τ) ↦{fullShare.right} T0) ∗ (usedTab.view.loc (c : Thread nD τ) ↦{fullShare.right} T1)
        ∗ (∃ d, owns (c : Thread nD τ) a7 fullShare d)
        ∗ (iprop(owns (c : Thread nD τ) a3 fullShare x ∗ owns (c : Thread nD τ) a4 fullShare wg ∗ owns (c : Thread nD τ) a5 fullShare wu
            ∗ owns (c : Thread nD τ) a6 fullShare wd
            ∗ (expertTab.view.loc (c : Thread nD τ) ↦{fullShare.right} T0) ∗ (usedTab.view.loc (c : Thread nD τ) ↦{fullShare.right} T1)
            ∗ owns (c : Thread nD τ) a7 fullShare (leaves i T1 x wg wu wd)) -∗ K ⟨⟩))
      ⊢ wp frame (wpE (defs₀ (F := F)) Variants.none c none) Set.univ
          (cc0_expert_ffn i expertTab (Memref.isWhole_whole _) usedTab (Memref.isWhole_whole _) a3 h3 a4 h4 a5 h5 a6 h6 a7 h7) K := by
  rw [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, HT0, HT1, ⟨%d4, %f4, -, H4⟩, Hk⟩
  subst hf0 hf1 hf2 hf3
  have hT0 : expertTab.IsWhole := Memref.isWhole_whole _
  have hT1 : usedTab.IsWhole := Memref.isWhole_whole _
  by_cases hu : k0_cond1 i (usedWord T1) = 1#1
  · have hn : ¬ k0_cond2 i (usedWord T1) = 1#1 := fun h => (unused_iff i _).mp h hu
    rw [show leaves i T1 _ _ _ _ = _ from if_pos hu]
    sl_exec! (disch := first | (guard_target = ¬(k0_cond2 _ _ = _); exact hn) | (guard_target = k0_cond1 _ _ = _; exact hu))
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [HT0]; · iexact HT0
    isplitl [HT1]; · iexact HT1
    iexists _; isplitr; swap
    · iexact H4
    · ipureintro
      exact View.read_writes_eq_canon _ _ (groups (product _ _ _ _)) (groups_cover _)
  · have hn : k0_cond2 i (usedWord T1) = 1#1 := (unused_iff i _).mpr hu
    rw [show leaves i T1 _ _ _ _ = _ from if_neg hu]
    sl_exec! (disch := first | (guard_target = (k0_cond2 _ _ = _); exact hn) | (guard_target = ¬ (k0_cond1 _ _ = _); exact hu))
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [HT0]; · iexact HT0
    isplitl [HT1]; · iexact HT1
    iexists _; isplitr; swap
    · iexact H4
    · ipureintro
      exact View.read_writes_eq_canon _ _ _ fun y => ⟨_, List.mem_singleton.mpr rfl, (LoadRect.mem_set _).mpr fun a =>
        ⟨(y a).val, (y a).isLt, by match a with | ⟨0, _⟩ | ⟨1, _⟩ => show (y _).val = 0 + 1 * (y _).val; omega⟩⟩

end Cert.ExpertRun

end
-- ==== Proof.ExpertLaunch.lean ====
module

public import proofs.«01_k».proof.Proof.ExpertRun
public import Idealize.ShloMosaic.Lib.Pointwise
public import Idealize.ShloMosaic.Lib.Pipeline.ValueKit.Geometry

@[expose] public section

set_option maxRecDepth 16384

noncomputable section

/-! # The expert products' call, launched: what every array holds at the end -/

namespace Cert.ExpertRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
/-- The tables as the memory holds them at launch. -/
def tabs : pre0.Contents (Elt F) := fun
  | ⟨0, _⟩ => m (((0 : Dev nD) : Thread nD τ).loc main_arg1)
  | ⟨1, _⟩ => m (((0 : Dev nD) : Thread nD τ).loc main_arg2)
  | ⟨_ + 2, h⟩ => absurd h (by simp)

/-- The expert numbers, and how many blocks are used. -/
abbrev experts : Vec F S264 .i32 := m (((0 : Dev nD) : Thread nD τ).loc main_arg1)
abbrev used : Vec F S1 .i32 := m (((0 : Dev nD) : Thread nD τ).loc main_arg2)

variable (hok : ok0 (tabs m))

/-- The tables, admissible, and the pipeline at them. -/
abbrev adm : (pcfg0 (F := F)).Adm := ⟨tabs m, hok⟩
abbrev cfgT : Pipeline.Cfg sig Λ₀ := cfg0 (F := F) (adm m hok)
abbrev cfgs : Fin 1 → Pipeline.Cfg sig Λ₀ := Pipeline.pin (pcfgs (F := F)) fun _ => adm m hok

/-- A point's coordinates. -/
abbrev at_ (t : Fin (cfgT m hok).N) : (cfgT m hok).grid.Coords := (cfgT m hok).grid.coords t

/-- The staging buffers at a point, as the pipeline passes them. -/
abbrev xBuf (t : Fin (cfgT m hok).N) : Memref sig .tc .vmem S2048x128 .f32 := spec0_0.stage ((cfgT m hok).slots t (0 : Fin 5))
abbrev gBuf (t : Fin (cfgT m hok).N) : Memref sig .tc .vmem S1x1x1024x3584 .bf16 := spec0_1.stage ((cfgT m hok).slots t (1 : Fin 5))
abbrev uBuf (t : Fin (cfgT m hok).N) : Memref sig .tc .vmem S1x1x1024x3584 .bf16 := spec0_2.stage ((cfgT m hok).slots t (2 : Fin 5))
abbrev dBuf (t : Fin (cfgT m hok).N) : Memref sig .tc .vmem S1x1x3584x1024 .bf16 := spec0_3.stage ((cfgT m hok).slots t (3 : Fin 5))
abbrev oBuf (t : Fin (cfgT m hok).N) : Memref sig .tc .vmem S2048x128 .f32 := spec0_4.stage ((cfgT m hok).slots t (4 : Fin 5))

/-- A window's block at a point, read off its array at launch. -/
def blk (c : Dev nD) (w : Fin (cfgT m hok).W) (t : Fin (cfgT m hok).N) :
    (((cfgT m hok).win w).xblock (at_ m hok t)).Idx → Elt F ((cfgT m hok).win w).elt :=
  (((cfgT m hok).win w).blk t).view.read (Elt F) (m (((cfgT m hok).win w).arr.view.loc (c : Thread nD τ)))

/-- What the body leaves in the output's buffer at a point. -/
abbrev left_ (c : Dev nD) (t : Fin (cfgT m hok).N) : S2048x128.Idx → Elt F .f32 :=
  leaves (at_ m hok t) (used m) (blk m hok c (0 : Fin 5) t) (blk m hok c (1 : Fin 5) t) (blk m hok c (2 : Fin 5) t) (blk m hok c (3 : Fin 5) t)

/-- The body's halves of the two tables. -/
def tables (c : Dev nD) : sProp 𝕄 :=
  iprop((expertTab.view.loc (c : Thread nD τ) ↦{fullShare.right} experts m) ∗ (usedTab.view.loc (c : Thread nD τ) ↦{fullShare.right} used m))

/-- The proof data of the pipeline. -/
def dats (_ : Fin 1) (c : Dev nD) : Dat τ (Elt F) Unit ℕ (UR sig nD τ) ℕ (cfgT m hok) c where
  A w := m (((cfgT m hok).win w).arr.view.loc (c : Thread nD τ))
  after w t := match w with
    | ⟨0, _⟩ => blk m hok c (0 : Fin 5) t
    | ⟨1, _⟩ => blk m hok c (1 : Fin 5) t
    | ⟨2, _⟩ => blk m hok c (2 : Fin 5) t
    | ⟨3, _⟩ => blk m hok c (3 : Fin 5) t
    | ⟨4, _⟩ => left_ m hok c t
  Φ _ := tables m c
  q _ := fullShare
  owed _ := 0

/-- At every point the body stores the output's block. -/
theorem busy (t : Fin (cfgT m hok).N) : (cfgT m hok).idle (4 : Fin 5) (at_ m hok t) = false := by
  show (!(k0_cond1 _ _ == 1#1) && !(k0_cond2 _ _ == 1#1)) = false
  by_cases h : k0_cond1 (at_ m hok t) ((tabs m).atD 1 ![0]) = 1#1
  · rw [h]; rfl
  · rw [(unused_iff _ _).mpr h, Bool.and_eq_false_iff]; exact .inr rfl

/-- An input's buffer holds its block when the body runs. -/
theorem before_0 (c : Dev nD) (t : Fin (cfgT m hok).N) (d) : (dats m hok 0 c).before (0 : Fin 5) t d = blk m hok c (0 : Fin 5) t :=
  (dats m hok 0 c).before_in_eq_fetched (0 : Fin 5) rfl (fun _ => rfl) (fun _ _ _ => rfl) (fun _ => rfl) t d
theorem before_1 (c : Dev nD) (t : Fin (cfgT m hok).N) (d) : (dats m hok 0 c).before (1 : Fin 5) t d = blk m hok c (1 : Fin 5) t :=
  (dats m hok 0 c).before_in_eq_fetched (1 : Fin 5) rfl (fun _ => rfl) (fun _ _ _ => rfl) (fun _ => rfl) t d
theorem before_2 (c : Dev nD) (t : Fin (cfgT m hok).N) (d) : (dats m hok 0 c).before (2 : Fin 5) t d = blk m hok c (2 : Fin 5) t :=
  (dats m hok 0 c).before_in_eq_fetched (2 : Fin 5) rfl (fun _ => rfl) (fun _ _ _ => rfl) (fun _ => rfl) t d
theorem before_3 (c : Dev nD) (t : Fin (cfgT m hok).N) (d) : (dats m hok 0 c).before (3 : Fin 5) t d = blk m hok c (3 : Fin 5) t :=
  (dats m hok 0 c).before_in_eq_fetched (3 : Fin 5) rfl (fun _ => rfl) (fun _ _ _ => rfl) (fun _ => rfl) t d

set_option maxHeartbeats 4000000 in
/-- The body does its part of the pipeline at every point. -/
theorem body_obligation (c : Dev nD) : BodyObligation (dats m hok 0 c) (defs₀ (F := F)) Variants.none () Set.univ := fun t => by
  rw [bigSep_W0, bigSep_W0]
  rewrite [busy m hok t]
  simp only [before_0, before_1, before_2, before_3]
  rewrite [show (dats m hok 0 c).Φ t.succ = tables m c from rfl, show (dats m hok 0 c).Φ t.castSucc = tables m c from rfl,
    show (dats m hok 0 c).owesAt () t.succ = (dats m hok 0 c).owesAt () t.castSucc from rfl]
  unfold tables
  iintro ⟨⟨HT0, HT1⟩, Ho, ⟨%d0, H0⟩, ⟨%d1, H1⟩, ⟨%d2, H2⟩, ⟨%d3, H3⟩, ⟨%d4, H4⟩⟩
  iapply (body_run c (at_ m hok t) (xBuf m hok t) (hstage0_0 (((cfgT m hok).slots t (0 : Fin 5)).cast nbuf0_0))
    (gBuf m hok t) (hstage0_1 (((cfgT m hok).slots t (1 : Fin 5)).cast nbuf0_1))
    (uBuf m hok t) (hstage0_2 (((cfgT m hok).slots t (2 : Fin 5)).cast nbuf0_2))
    (dBuf m hok t) (hstage0_3 (((cfgT m hok).slots t (3 : Fin 5)).cast nbuf0_3))
    (oBuf m hok t) (hstage0_4 (((cfgT m hok).slots t (4 : Fin 5)).cast nbuf0_4))
    (experts m) (used m) (blk m hok c (0 : Fin 5) t) (blk m hok c (1 : Fin 5) t) (blk m hok c (2 : Fin 5) t) (blk m hok c (3 : Fin 5) t) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]; · iexact HT0
    iexact HT1
  isplitl [Ho]; · iexact Ho
  isplitl [H0]; · iexact H0
  isplitl [H1]; · iexact H1
  isplitl [H2]; · iexact H2
  isplitl [H3]; · iexact H3
  iexact H4

/-! ## The launch -/

/-- The pipeline's staging tokens at launch. -/
def tokens : UR sig nD τ :=
  initOf (Pipeline.cells (cfgs m hok) ((launch0 (F := F)).cellOf_inj fun _ => adm m hok))
    (Pipeline.launchToks (cfgs m hok) ((launch0 (F := F)).cellOf_inj fun _ => adm m hok))

theorem share_full (c : Dev nD) (w : Fin (cfgT m hok).W) : (dats m hok 0 c).share w = fullShare := by unfold Dat.share; split <;> rfl

theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- Every array ends as the pipeline's data say, every table as it began. -/
def Ends : PUnit × MemSt nD τ sig (Elt F) → Prop := fun r =>
  ∀ c : Dev nD, (∀ w : Fin (cfgT m hok).W, r.2.mem (((cfgT m hok).win w).arr.view.loc (c : Thread nD τ)) = (dats m hok 0 c).arrAt w (cfgT m hok).N)
    ∧ ∀ j, r.2.mem ((c : Thread nD τ).loc (pre0.ref j)) = tabs m j

theorem tabs_eq (c : Dev nD) (j : Fin 2) : m ((c : Thread nD τ).loc (pre0.ref j)) = tabs m j := by
  obtain rfl : c = 0 := Subsingleton.elim _ _
  match j with
  | ⟨0, _⟩ => rfl
  | ⟨1, _⟩ => rfl

set_option backward.isDefEq.respectTransparency.types false in
set_option maxHeartbeats 4000000 in
theorem run : θ_run (defs (F := F)) (onTc (τ := τ) (main (F := F))) ⟨m, fun _ => 0, ρ⟩ (fun r => Ends m hok r ∧ r.2.sem = fun _ => 0) :=
  Pipeline.θ_run_region_noSem_pf_quiescent pcfgs (fun _ => adm m hok) (dats m hok) () ((launch0 (F := F)).cellOf_inj fun _ => adm m hok) (0 : Fin 1)
    (launch0 (F := F)).win.to₀ (launch0 (F := F)).pre emb₁ defs₀ Variants.none m ρ main
    (hbody := fun c => (body_obligation m hok c).loose) (hne := (launch0 (F := F)).block_pos)
    (harr := (launch0 (F := F)).arr_whole) (hstage := (launch0 (F := F)).stage_whole) (howed := fun _ _ => rfl)
    (u₀ := tokens m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs m hok) (dats m hok) 0 (launch0 (F := F)).win.arr_inj c (launch0 (F := F)).arr_whole
      (share_full m hok c) _ _ fun _ => rfl)
    (hpf := tabs_eq m)
    (X := fun _ => iprop(emp)) (Y := fun _ => iprop(emp)) (Z := fun _ => iprop(emp))
    (hX := fun c => by rw [unscopedRestP0_eq]; iintro -; isplitr <;> iempintro)
    (hin := fun c => by
      rw [tables_held, scopedRest0_eq, show (dats m hok 0 c).Φ 0 = tables m c from rfl]
      unfold tables
      iintro ⟨-, ⟨HT0, HT1⟩, -⟩
      isplitl [HT0]; · iexact HT0
      iexact HT1)
    (hout := fun c => by
      rw [scopedRest0_eq, show (dats m hok 0 c).Φ (Fin.last (cfgT m hok).N) = tables m c from rfl]
      iintro -
      isplitr <;> iempintro)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument ends as it began, and no semaphore is left up. -/
theorem frame_of (r : PUnit × MemSt nD τ sig (Elt F)) (h : Ends m hok r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 (0 : Fin 5)).trans ((dats m hok 0 c).arrAt_in (0 : Fin 5) rfl _), ((h c).2 0).trans (tabs_eq m c 0).symm,
    ((h c).2 1).trans (tabs_eq m c 1).symm, ((h c).1 (1 : Fin 5)).trans ((dats m hok 0 c).arrAt_in (1 : Fin 5) rfl _),
    ((h c).1 (2 : Fin 5)).trans ((dats m hok 0 c).arrAt_in (2 : Fin 5) rfl _),
    ((h c).1 (3 : Fin 5)).trans ((dats m hok 0 c).arrAt_in (3 : Fin 5) rfl _)⟩

/-! ## Expert numbers below eight name blocks inside the weight arrays -/

/-- A weight window's block at a point is the point's expert, whole. -/
theorem expert_block (i : grid0.Coords) :
    cc0_transform_1 k0_off1_inb numel1_S1 (tabs m) i = ![0, (experts m (ix1 (i 0))).toNat, 0, 0] := by
  have hi : (i 0).val < 264 := (i 0).isLt
  have e : (Rect.unit (s := S264) (k0_off1 i) S1.size (k0_off1_inb i)).emb (Shape.Idx.first (numel1_S1.symm ▸ Nat.one_pos)) = ix1 (i 0) := by
    funext a
    match a with
    | ⟨0, _⟩ =>
      refine Fin.ext ?_
      show (BitVec.ofNat 32 (i 0).val).toNat + 1 * _ = (i 0).val
      rw [BitVec.toNat_ofNat, Nat.mod_eq_of_lt (by omega)]
      simp
  show ![0, (experts m _).toNat, 0, 0] = _
  exact congrArg (fun j => ![0, (experts m j).toNat, 0, 0]) e

theorem ok_of (h : ∀ b : Fin 264, (experts m (ix1 b)).toNat < 8) : ok0 (tabs m) := by
  have hb : ∀ (i : grid0.Coords) (a : Fin 4), (cc0_transform_1 k0_off1_inb numel1_S1 (tabs m) i a + 1) * S1x1x1024x3584.size a ≤ S2x8x1024x3584.size a := fun i a => by
    have := h (i 0)
    rw [expert_block]
    match a with
    | ⟨0, _⟩ => show (0 + 1) * 1 ≤ 2; omega
    | ⟨1, _⟩ => show ((experts m (ix1 (i 0))).toNat + 1) * 1 ≤ 8; omega
    | ⟨2, _⟩ => show (0 + 1) * 1024 ≤ 1024; omega
    | ⟨3, _⟩ => show (0 + 1) * 3584 ≤ 3584; omega
  have hd : ∀ (i : grid0.Coords) (a : Fin 4), (cc0_transform_3 k0_off1_inb numel1_S1 (tabs m) i a + 1) * S1x1x3584x1024.size a ≤ S2x8x3584x1024.size a := fun i a => by
    have := h (i 0)
    rw [show cc0_transform_3 k0_off1_inb numel1_S1 (tabs m) i = _ from expert_block m i]
    match a with
    | ⟨0, _⟩ => show (0 + 1) * 1 ≤ 2; omega
    | ⟨1, _⟩ => show ((experts m (ix1 (i 0))).toNat + 1) * 1 ≤ 8; omega
    | ⟨2, _⟩ => show (0 + 1) * 3584 ≤ 3584; omega
    | ⟨3, _⟩ => show (0 + 1) * 1024 ≤ 1024; omega
  have hw : ∀ i : grid0.Coords, ∃ h : (∀ a, (cc0_transform_1 k0_off1_inb numel1_S1 (tabs m) i a + 1) * S1x1x1024x3584.size a ≤ S2x8x1024x3584.size a),
      EltTy.bits .bf16 = 32 ∨ (Rect.block (s := S2x8x1024x3584) S1x1x1024x3584.size (cc0_transform_1 k0_off1_inb numel1_S1 (tabs m) i) h).WholeWords (EltTy.packing .bf16) :=
    fun i => ⟨hb i, .inr (Affine.block_words_dvd (s := S2x8x1024x3584) (p := EltTy.packing .bf16) (by decide) (by decide))⟩
  exact ⟨hw, hw, fun i => ⟨hd i, .inr (Affine.block_words_dvd (s := S2x8x3584x1024) (p := EltTy.packing .bf16) (by decide) (by decide))⟩⟩

end Cert.ExpertRun

end
-- ==== Proof.ExpertRef.lean ====
module

public import proofs.«01_k».proof.Proof.Rows
public import proofs.«01_k».proof.Proof.Gen.ReferenceIdeal.Read
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

/-! # The expert products, as the reference computes them -/

namespace Cert.Experts

open Cert.ReferenceIdeal Cert.ReferenceIdeal.Read Cert.Rows
open Idealize.ShloMosaic

/-- A token row is kept as eight rows of 128: where group `s` of row `r` of block `b` lies. -/
abbrev place (b : Fin 264) (r : Fin 256) (s : Fin 8) : Fin 540672 := ⟨b.val * 2048 + r.val * 8 + s.val, by omega⟩

/-- A row, whole. -/
abbrev whole (x : FVec Ideal S540672x128 .f32) (b : Fin 264) (r : Fin 256) (k : Fin 1024) : EReal :=
  x (ix2 (place b r ⟨k.val / 128, by omega⟩) (⟨k.val % 128, Nat.mod_lt _ (by omega)⟩ : Fin 128))

/-- Whether a block is used. -/
abbrev isUsed (n : IVec S1 32) (b : Fin 264) : Prop := IntOp.cmpi .slt (BitVec.ofNat 32 b.val) (n (ix1 0)) = 1#1

/-! ## The reference's choice of an expert's matrix -/

/-- Taking one of eight matrices for each of 264 blocks, by a table of starts. -/
abbrev pick (K N : ℕ) (wf : GatherDims.WF ⟨3, ![8, K, N]⟩ ⟨2, ![264, 3]⟩ ⟨4, ![264, 1, K, N]⟩ [1, 2, 3] [] [] [0, 1, 2] [] 1 ![1, K, N]) :
    GatherDims ⟨3, ![8, K, N]⟩ ⟨2, ![264, 3]⟩ ⟨4, ![264, 1, K, N]⟩ where
  offsetDims := [1, 2, 3]
  collapsedSliceDims := []
  operandBatchingDims := []
  startIndicesBatchingDims := []
  startIndexMap := [0, 1, 2]
  indexVectorDim := 1
  sliceSizes := ![1, K, N]
  wf := wf

theorem pick_apply {K N : ℕ} (wf) (x : (⟨3, ![8, K, N]⟩ : Shape).Idx → EReal) (idx : IVec ⟨2, ![264, 3]⟩ 32) (b : Fin 264) (k : Fin K) (f : Fin N) :
    Host.gather (pick K N wf) x idx (ix4 b (0 : Fin 1) k f) = x (ix3 (⟨min (idx (ix2 b (0 : Fin 3))).toInt.toNat 7, by omega⟩ : Fin 8) k f) := by
  unfold Host.gather
  refine congrArg x ?_
  funext a
  refine Fin.ext ?_
  show (pick K N wf).start (ix4 b (0 : Fin 1) k f) idx a + (pick K N wf).batchCoord (ix4 b (0 : Fin 1) k f) a + (pick K N wf).offCoord (ix4 b (0 : Fin 1) k f) a = _
  have hs := (pick K N wf).start_le (ix4 b (0 : Fin 1) k f) idx a
  rw [GatherDims.batchCoord_eq_zero _ _ _ List.not_mem_nil]
  match a with
  | ⟨0, _⟩ =>
    have e : (pick K N wf).siIdx (ix4 b (0 : Fin 1) k f) ⟨0, Nat.succ_pos 2⟩ = ix2 b (0 : Fin 3) := by
      funext c
      match c with
      | ⟨0, _⟩ => rfl
      | ⟨1, _⟩ => rfl
    show min (idx ((pick K N wf).siIdx (ix4 b (0 : Fin 1) k f) ⟨0, Nat.succ_pos 2⟩)).toInt.toNat (8 - 1) + 0 + 0 = min _ 7
    rw [e]; rfl
  | ⟨1, _⟩ =>
    have : (pick K N wf).start (ix4 b (0 : Fin 1) k f) idx 1 ≤ K - K := hs
    show (pick K N wf).start (ix4 b (0 : Fin 1) k f) idx 1 + 0 + k.val = k.val
    omega
  | ⟨2, _⟩ =>
    have : (pick K N wf).start (ix4 b (0 : Fin 1) k f) idx 2 ≤ N - N := hs
    show (pick K N wf).start (ix4 b (0 : Fin 1) k f) idx 2 + 0 + f.val = f.val
    omega

/-- An expert number in range is read as it is. -/
theorem start_eq (w : BitVec 32) (h : w.toNat < 8) :
    min (Scalar.select (IntOp.cmpi .slt w 0#32) (IntOp.addi w 8#32) w).toInt.toNat 7 = w.toNat := by
  obtain ⟨e, rfl⟩ : ∃ e : Fin 8, w = BitVec.ofNat 32 e.val := ⟨⟨w.toNat, h⟩, by simp⟩
  revert e; decide

variable (x0 : FVec Ideal S540672x128 .f32) (x1 : IVec S264 32) (x2 : IVec S1 32) (x3 x4 : FVec Ideal S2x8x1024x3584 .bf16)
  (x5 : FVec Ideal S2x8x3584x1024 .bf16) (h : ∀ b : Fin 264, (x1 (ix1 b)).toNat < 8)

/-- The expert of a block. -/
abbrev expert (b : Fin 264) : Fin 8 := ⟨(x1 (ix1 b)).toNat, h b⟩

theorem gate_pick (b : Fin 264) (k : Fin 1024) (f : Fin 3584) :
    val_main_v26 (F := Ideal) x1 x3 (ix3 b k f) = x3 (ix4 (0 : Fin 2) (expert x1 h b) k f) := by
  have e : val_main_v26 (F := Ideal) x1 x3 (ix3 b k f) = val_main_v25 (F := Ideal) x1 x3 (ix4 b (0 : Fin 1) k f) := by
    pointwise [val_main_v26]
  have t : val_main_v24 (F := Ideal) x1 (ix2 b (0 : Fin 3)) = Scalar.select (IntOp.cmpi .slt (x1 (ix1 b)) 0#32) (IntOp.addi (x1 (ix1 b)) 8#32) (x1 (ix1 b)) := by
    pointwise [val_main_v24, val_main_v21, val_main_v14, val_main_v11, val_main_v13, val_main_v10, val_main_v12, val_main_c, val_main_c_0]
  have g := pick_apply gather_S8x1024x3584_S264x3_S264x1x1024x3584_123_n_n_n_012_1_110243584.wf (val_main_v3 (F := Ideal) x3) (val_main_v24 (F := Ideal) x1) b k f
  simp only [t, start_eq _ (h b)] at g
  refine e.trans (g.trans ?_)
  pointwise [val_main_v3, val_main_v2, val_main_v1]

theorem up_pick (b : Fin 264) (k : Fin 1024) (f : Fin 3584) :
    val_main_v45 (F := Ideal) x1 x4 (ix3 b k f) = x4 (ix4 (0 : Fin 2) (expert x1 h b) k f) :=
  gate_pick x1 x4 h b k f

theorem down_pick (b : Fin 264) (f : Fin 3584) (j : Fin 1024) :
    val_main_v64 (F := Ideal) x1 x5 (ix3 b f j) = x5 (ix4 (0 : Fin 2) (expert x1 h b) f j) := by
  have e : val_main_v64 (F := Ideal) x1 x5 (ix3 b f j) = val_main_v63 (F := Ideal) x1 x5 (ix4 b (0 : Fin 1) f j) := by
    pointwise [val_main_v64]
  have t : val_main_v62 (F := Ideal) x1 (ix2 b (0 : Fin 3)) = Scalar.select (IntOp.cmpi .slt (x1 (ix1 b)) 0#32) (IntOp.addi (x1 (ix1 b)) 8#32) (x1 (ix1 b)) := by
    pointwise [val_main_v62, val_main_v59, val_main_v52, val_main_v49, val_main_v51, val_main_v48, val_main_v50, val_main_c_23, val_main_c_24]
  have g := pick_apply gather_S8x3584x1024_S264x3_S264x1x3584x1024_123_n_n_n_012_1_135841024.wf (val_main_v9 (F := Ideal) x5) (val_main_v62 (F := Ideal) x1) b f j
  simp only [t, start_eq _ (h b)] at g
  refine e.trans (g.trans ?_)
  pointwise [val_main_v9, val_main_v8, val_main_v7]

/-- The reference at column `128 s + l` of row `r` of block `b`. -/
theorem ref_at (b : Fin 264) (r : Fin 256) (s : Fin 8) (l : Fin 128) :
    val_main_v72 (F := Ideal) x0 x1 x2 x3 x4 x5 (ix2 (place b r s) l)
      = if isUsed x2 b then
          gated (whole x0 b r) (fun k f => x3 (ix4 (0 : Fin 2) (expert x1 h b) k f)) (fun k f => x4 (ix4 (0 : Fin 2) (expert x1 h b) k f))
            fun f => x5 (ix4 (0 : Fin 2) (expert x1 h b) f (⟨s.val * 128 + l.val, by omega⟩ : Fin 1024))
        else 0 := by
  have e : idx_main_v72 (ix2 (place b r s) l) = ix3 b r (⟨s.val * 128 + l.val, by omega⟩ : Fin 1024) := by
    have hr := r.isLt
    have hs := s.isLt
    have hl := l.isLt
    funext a
    match a with
    | ⟨0, _⟩ => exact Fin.ext (by show ((b.val * 2048 + r.val * 8 + s.val) * 128 + l.val) / 262144 = b.val; omega)
    | ⟨1, _⟩ => exact Fin.ext (by show ((b.val * 2048 + r.val * 8 + s.val) * 128 + l.val) / 1024 % 256 = r.val; omega)
    | ⟨2, _⟩ => exact Fin.ext (by show ((b.val * 2048 + r.val * 8 + s.val) * 128 + l.val) % 1024 = s.val * 128 + l.val; omega)
  rw [val_main_v72_apply, e]
  have p : val_main_v65 (F := Ideal) x0 x1 x3 x4 x5 (ix3 b r (⟨s.val * 128 + l.val, by omega⟩ : Fin 1024))
      = gated (whole x0 b r) (fun k f => x3 (ix4 (0 : Fin 2) (expert x1 h b) k f)) (fun k f => x4 (ix4 (0 : Fin 2) (expert x1 h b) k f))
          fun f => x5 (ix4 (0 : Fin 2) (expert x1 h b) f (⟨s.val * 128 + l.val, by omega⟩ : Fin 1024)) := by
    pointwise [val_main_v65, val_main_v47, val_main_v46, val_main_v28, val_main_v27, val_main_call0_v0, val_main_call0_v1, val_main_call0_v2,
      val_main_call0_v3, val_main_call0_v4, val_main_call0_v5, val_main_call0_cst, val_main_call0_cst_0, val_main_v0]
    simp only [gate_pick x1 x3 h, up_pick x1 x4 h, down_pick x1 x5 h]
    rfl
  have q : val_main_call1_v1 (F := Ideal) x2 (ix3 b r (⟨s.val * 128 + l.val, by omega⟩ : Fin 1024))
      = IntOp.cmpi .slt (BitVec.ofNat 32 b.val) (x2 (ix1 0)) := by
    pointwise [val_main_call1_v1, val_main_v70, val_main_v69, val_main_v68, val_main_v67, val_main_v66]
  rw [val_main_v71_apply, p, q]
  unfold Scalar.select
  refine if_congr .rfl rfl ?_
  pointwise [val_main_call1_v2, val_main_call1_v0, val_main_cst]
  dsimp only [id]
  pointwise

end Cert.Experts

end
-- ==== Proof.Experts.lean ====
module

public import proofs.«01_k».proof.Proof.ExpertLaunch
public import proofs.«01_k».proof.Proof.ExpertRef
public import proofs.«01_k».proof.Proof.Gen.ReferenceIdeal.Run
public import proofs.«01_k».proof.Proof.Gen.Pre_experts_in_range
public import proofs.«01_k».proof.Proof.Gen.Kernel.Launch

@[expose] public section

set_option maxRecDepth 16384

noncomputable section

/-! # The expert products: the kernel's array is the reference's -/

namespace Cert.Experts

open Cert.KernelIdeal Cert.KernelIdeal.Gen Cert.ExpertRun Cert.Rows
open Idealize.ShloMosaic
open Idealize.ShloMosaic.TcCoe
open Idealize.SL.Sem
open Idealize.ShloMosaic.Pipeline (Dat Cfg Window)

/-! ## One block -/

/-- A block's row, whole. -/
abbrev blockRow (x : FVec Ideal S2048x128 .f32) (r : Fin 256) (k : Fin 1024) : EReal :=
  x (ix2 (⟨r.val * 8 + k.val / 128, by omega⟩ : Fin 2048) (⟨k.val % 128, Nat.mod_lt _ (by omega)⟩ : Fin 128))

theorem stripe_ok (s : Fin 8) (a : Fin 2) :
    S256x128.size a = 0 ∨ ![s.val, 0] a + ![8, 1] a * (S256x128.size a - 1) < S2048x128.size a := by
  match a with
  | ⟨0, _⟩ => refine .inr ?_; show s.val + 8 * (256 - 1) < 2048; omega
  | ⟨1, _⟩ => refine .inr ?_; show 0 + 1 * (128 - 1) < 128; omega

/-- The eight stripes side by side are the rows. -/
theorem joined (x : Vec Ideal S2048x128 .f32) :
    concatenate S256x1024 1 [⟨S256x128, View.ld x (stripe 0 inb_S2048x128_S256x128_0_0_s_8_1)⟩, ⟨S256x128, View.ld x (stripe 1 inb_S2048x128_S256x128_1_0_s_8_1)⟩, ⟨S256x128, View.ld x (stripe 2 inb_S2048x128_S256x128_2_0_s_8_1)⟩, ⟨S256x128, View.ld x (stripe 3 inb_S2048x128_S256x128_3_0_s_8_1)⟩, ⟨S256x128, View.ld x (stripe 4 inb_S2048x128_S256x128_4_0_s_8_1)⟩, ⟨S256x128, View.ld x (stripe 5 inb_S2048x128_S256x128_5_0_s_8_1)⟩, ⟨S256x128, View.ld x (stripe 6 inb_S2048x128_S256x128_6_0_s_8_1)⟩, ⟨S256x128, View.ld x (stripe 7 inb_S2048x128_S256x128_7_0_s_8_1)⟩]
      concatenates_S256x128_S256x128_S256x128_S256x128_S256x128_S256x128_S256x128_S256x128_S256x1024_d1
      = fun i => blockRow x (i 0) (i 1) := by
  funext i
  let f : Fin 8 → S256x128.Idx → EReal := fun s => View.ld (Val := Elt Ideal) (e' := .f32) x (stripe s.val (stripe_ok s))
  have hk : (i 1).val < 1024 := (i 1).isLt
  refine (concatenate_ofFn_apply (t := S256x1024) (s₁ := S256x128) 1 f
    concatenates_S256x128_S256x128_S256x128_S256x128_S256x128_S256x128_S256x128_S256x128_S256x1024_d1 rfl 128 rfl i
    ⟨(i 1).val / 128, by omega⟩ rfl (ix2 (i 0) (⟨(i 1).val % 128, Nat.mod_lt _ (by omega)⟩ : Fin 128)) rfl ?_).trans ?_
  · intro b hb
    match b with
    | ⟨0, _⟩ => rfl
    | ⟨1, _⟩ => exact absurd rfl hb
  · refine congrArg x ?_
    funext a
    match a with
    | ⟨0, _⟩ => exact Fin.ext (by show (i 1).val / 128 + 8 * (i 0).val = (i 0).val * 8 + (i 1).val / 128; omega)
    | ⟨1, _⟩ => exact Fin.ext (by show 0 + 1 * ((i 1).val % 128) = (i 1).val % 128; omega)

theorem product_at (x : FVec Ideal S2048x128 .f32) (wg wu : FVec Ideal S1x1x1024x3584 .bf16) (wd : FVec Ideal S1x1x3584x1024 .bf16)
    (r : Fin 256) (j : Fin 1024) :
    product (F := Ideal) x wg wu wd (ix2 r j)
      = gated (blockRow x r) (fun k f => wg (ix4 (0 : Fin 1) (0 : Fin 1) k f)) (fun k f => wu (ix4 (0 : Fin 1) (0 : Fin 1) k f))
          fun f => wd (ix4 (0 : Fin 1) (0 : Fin 1) f j) := by
  unfold product k0_pay8
  rw [joined]
  pointwise
  rfl

/-- Where a product's entries are stored. -/
abbrev spread (p : FVec Ideal S256x1024 .f32) (y : S2048x128.Idx) : EReal :=
  p (ix2 (⟨(y 0).val / 8, by have : (y 0).val < 2048 := (y 0).isLt; omega⟩ : Fin 256)
    (⟨(y 0).val % 8 * 128 + (y 1).val, by have : (y 1).val < 128 := (y 1).isLt; omega⟩ : Fin 1024))

theorem group_at (p : FVec Ideal S256x1024 .f32) (s : ℕ) (hs : s < 8) (h) (hl) (z : S256x128.Idx) :
    extractStridedSlice S256x128 ![0, 128 * s] p hl z = spread p ((stripe s h).emb z) := by
  have h0 : (z 0).val < 256 := (z 0).isLt
  refine congrArg p ?_
  funext a
  match a with
  | ⟨0, _⟩ => exact Fin.ext (by show 0 + (z 0).val = (s + 8 * (z 0).val) / 8; omega)
  | ⟨1, _⟩ => exact Fin.ext (by show 128 * s + (z 1).val = (s + 8 * (z 0).val) % 8 * 128 + (0 + 1 * (z 1).val); omega)

theorem groups_at (p : FVec Ideal S256x1024 .f32) (y : S2048x128.Idx) : View.canon (groups (F := Ideal) p) y = spread p y := by
  refine View.canon_apply_of_pieces (spread p) _ ?_ y (groups_cover p y)
  simp only [groups, List.forall_mem_cons]
  exact ⟨group_at p 7 (by omega) _ _, group_at p 6 (by omega) _ _, group_at p 5 (by omega) _ _, group_at p 4 (by omega) _ _,
    group_at p 3 (by omega) _ _, group_at p 2 (by omega) _ _, group_at p 1 (by omega) _ _, group_at p 0 (by omega) _ _,
    fun _ hq => absurd hq List.not_mem_nil⟩

theorem used_iff (i : grid0.Coords) (T1 : IVec S1 32) : k0_cond1 i (usedWord (F := Ideal) T1) = 1#1 ↔ isUsed T1 (i 0) := by
  have h : ∀ b : BitVec 1, Scalar.cmpi .ne (Scalar.extui b : BitVec 32) 0#32 = 1#1 ↔ b = 1#1 := by decide
  have e : usedWord (F := Ideal) T1 = T1 (ix1 0) := by
    refine congrArg T1 ?_
    funext a
    match a with
    | ⟨0, _⟩ => rfl
  rw [e]
  exact h _

theorem leaves_at (i : grid0.Coords) (T1 : IVec S1 32) (x : FVec Ideal S2048x128 .f32) (wg wu : FVec Ideal S1x1x1024x3584 .bf16)
    (wd : FVec Ideal S1x1x3584x1024 .bf16) (r : Fin 256) (s : Fin 8) (l : Fin 128) :
    leaves (F := Ideal) i T1 x wg wu wd (ix2 (⟨r.val * 8 + s.val, by omega⟩ : Fin 2048) l)
      = if isUsed T1 (i 0) then product (F := Ideal) x wg wu wd (ix2 r (⟨s.val * 128 + l.val, by omega⟩ : Fin 1024)) else 0 := by
  unfold leaves
  by_cases hu : isUsed T1 (i 0)
  · rw [if_pos ((used_iff i T1).mpr hu), if_pos hu, groups_at]
    refine congrArg (product (F := Ideal) x wg wu wd) ?_
    funext a
    match a with
    | ⟨0, _⟩ => exact Fin.ext (by show (r.val * 8 + s.val) / 8 = r.val; omega)
    | ⟨1, _⟩ => exact Fin.ext (by show (r.val * 8 + s.val) % 8 * 128 + l.val = s.val * 128 + l.val; omega)
  · rw [if_neg (fun h => hu ((used_iff i T1).mp h)), if_neg hu]
    refine View.canon_apply_of_pieces (Val := Elt Ideal) (e := .f32) (fun _ => (0 : EReal)) _ (fun q hq z => ?_) _ ⟨_, List.mem_singleton.mpr rfl, ?_⟩
    · obtain rfl := List.mem_singleton.mp hq
      pointwise [k0_pay7]
    · refine (LoadRect.mem_set _).mpr fun a => ?_
      match a with
      | ⟨0, _⟩ => exact ⟨r.val * 8 + s.val, by show r.val * 8 + s.val < 2048; omega, by show r.val * 8 + s.val = 0 + 1 * (r.val * 8 + s.val); omega⟩
      | ⟨1, _⟩ => exact ⟨l.val, l.isLt, by show l.val = 0 + 1 * l.val; omega⟩

variable (m : (ℓ : Loc nD τ sig) → Buf (Elt Ideal) ℓ) (hok : ok0 (tabs m))

/-! ## The windows' blocks -/

theorem points : grid0.N = 264 := by decide +kernel
theorem at_0 : ∀ t : Fin grid0.N, (grid0.coords t 0).val = t.val := by decide +kernel
theorem idx_x : ∀ t : Fin grid0.N, cc0_transform_0 (grid0.coords t) = ![t.val, 0] := by decide +kernel
theorem idx_out : ∀ t : Fin grid0.N, cc0_transform_4 (grid0.coords t) = ![t.val, 0] := by decide +kernel
theorem flush_out : ∀ t : Fin grid0.N, Pipeline.Window.flushOf grid0 true cc0_transform_4 t = true := by decide +kernel

/-- A grid point's block. -/
abbrev blockOf (t : Fin (cfgT m hok).N) : Fin 264 := ⟨t.val, lt_of_lt_of_eq t.isLt points⟩

theorem x_block (c : Dev nD) (t : Fin (cfgT m hok).N) (r : Fin 256) (s : Fin 8) (l : Fin 128) :
    blk m hok c (0 : Fin 5) t (ix2 (⟨r.val * 8 + s.val, by omega⟩ : Fin 2048) l : S2048x128.Idx)
      = m ((c : Thread nD τ).loc main_arg0) (ix2 (place (blockOf m hok t) r s) l : S540672x128.Idx) := by
  refine congrArg (m ((c : Thread nD τ).loc main_arg0)) ?_
  funext a
  match a with
  | ⟨0, _⟩ =>
    refine Fin.ext ?_
    show cc0_transform_0 (grid0.coords t) 0 * 2048 + 1 * (r.val * 8 + s.val) = t.val * 2048 + r.val * 8 + s.val
    rw [idx_x]; show t.val * 2048 + _ = _; omega
  | ⟨1, _⟩ =>
    refine Fin.ext ?_
    show cc0_transform_0 (grid0.coords t) 1 * 128 + 1 * l.val = l.val
    rw [idx_x]; show 0 * 128 + _ = _; omega

/-- The words below eight, as the reference reads them. -/
abbrev InRange : Prop := ∀ b : Fin 264, (experts m (ix1 b)).toNat < 8

/-- The number of the first element of a block along each axis of a weight array. -/
theorem weight_start (i : grid0.Coords) (n : Fin 4 → ℕ) (a : Fin 4) :
    cc0_transform_1 k0_off1_inb numel1_S1 (tabs m) i a * n a = ![0, (experts m (ix1 (i 0))).toNat * n 1, 0, 0] a := by
  rw [expert_block]
  match a with
  | ⟨0, _⟩ => exact Nat.zero_mul _
  | ⟨1, _⟩ => rfl
  | ⟨2, _⟩ => exact Nat.zero_mul _
  | ⟨3, _⟩ => exact Nat.zero_mul _

section

variable (h : InRange m)

theorem expert_at (t : Fin (cfgT m hok).N) : (experts m (ix1 (grid0.coords t 0))).toNat = (expert (experts m) h (blockOf m hok t)).val := by
  rw [show grid0.coords t 0 = blockOf m hok t from Fin.ext (at_0 t)]

theorem wide_emb (t : Fin (cfgT m hok).N) (k : Fin 1024) (f : Fin 3584) :
    (((cfgT m hok).win (1 : Fin 5)).blk t).view.emb (ix4 (0 : Fin 1) (0 : Fin 1) k f : S1x1x1024x3584.Idx)
      = (ix4 (0 : Fin 2) (expert (experts m) h (blockOf m hok t)) k f : S2x8x1024x3584.Idx) := by
  funext a
  refine Fin.ext ?_
  show cc0_transform_1 k0_off1_inb numel1_S1 (tabs m) (grid0.coords t) a * S1x1x1024x3584.size a + 1 * (ix4 (0 : Fin 1) (0 : Fin 1) k f a).val = _
  rw [weight_start m (grid0.coords t) S1x1x1024x3584.size, expert_at m hok h, Nat.one_mul]
  match a with
  | ⟨0, _⟩ => rfl
  | ⟨1, _⟩ => exact Nat.mul_one _
  | ⟨2, _⟩ => exact Nat.zero_add _
  | ⟨3, _⟩ => exact Nat.zero_add _

theorem gate_block (c : Dev nD) (t : Fin (cfgT m hok).N) (k : Fin 1024) (f : Fin 3584) :
    blk m hok c (1 : Fin 5) t (ix4 (0 : Fin 1) (0 : Fin 1) k f : S1x1x1024x3584.Idx)
      = m ((c : Thread nD τ).loc main_arg3) (ix4 (0 : Fin 2) (expert (experts m) h (blockOf m hok t)) k f : S2x8x1024x3584.Idx) :=
  congrArg (m ((c : Thread nD τ).loc main_arg3)) (wide_emb m hok h t k f)

theorem up_block (c : Dev nD) (t : Fin (cfgT m hok).N) (k : Fin 1024) (f : Fin 3584) :
    blk m hok c (2 : Fin 5) t (ix4 (0 : Fin 1) (0 : Fin 1) k f : S1x1x1024x3584.Idx)
      = m ((c : Thread nD τ).loc main_arg4) (ix4 (0 : Fin 2) (expert (experts m) h (blockOf m hok t)) k f : S2x8x1024x3584.Idx) :=
  congrArg (m ((c : Thread nD τ).loc main_arg4)) (wide_emb m hok h t k f)

theorem down_block (c : Dev nD) (t : Fin (cfgT m hok).N) (f : Fin 3584) (j : Fin 1024) :
    blk m hok c (3 : Fin 5) t (ix4 (0 : Fin 1) (0 : Fin 1) f j : S1x1x3584x1024.Idx)
      = m ((c : Thread nD τ).loc main_arg5) (ix4 (0 : Fin 2) (expert (experts m) h (blockOf m hok t)) f j : S2x8x3584x1024.Idx) := by
  refine congrArg (m ((c : Thread nD τ).loc main_arg5)) ?_
  funext a
  refine Fin.ext ?_
  show cc0_transform_1 k0_off1_inb numel1_S1 (tabs m) (grid0.coords t) a * S1x1x3584x1024.size a + 1 * (ix4 (0 : Fin 1) (0 : Fin 1) f j a).val = _
  rw [weight_start m (grid0.coords t) S1x1x3584x1024.size, expert_at m hok h, Nat.one_mul]
  match a with
  | ⟨0, _⟩ => rfl
  | ⟨1, _⟩ => exact Nat.mul_one _
  | ⟨2, _⟩ => exact Nat.zero_add _
  | ⟨3, _⟩ => exact Nat.zero_add _

end

theorem covers : ((cfgT m hok).win (4 : Fin 5)).Covers := by
  have n0 : ((cfgT m hok).win (4 : Fin 5)).nblk ⟨0, Nat.zero_lt_two⟩ = grid0.N := Eq.trans (show (540672 + 2048 - 1) / 2048 = 264 from rfl) points.symm
  have n1 : ((cfgT m hok).win (4 : Fin 5)).nblk ⟨1, Nat.one_lt_two⟩ = 1 := show (128 + 128 - 1) / 128 = 1 from rfl
  refine ⟨fun a => ?_, fun β => ⟨⟨(β ⟨0, Nat.zero_lt_two⟩).val, ?_⟩, flush_out _, fun a => ⟨?_, .inl ?_⟩⟩⟩
  · match a with
    | ⟨0, _⟩ => exact Nat.zero_lt_succ 2047
    | ⟨1, _⟩ => exact Nat.zero_lt_succ 127
  · exact lt_of_lt_of_eq (β ⟨0, Nat.zero_lt_two⟩).isLt n0
  · refine (congrFun (idx_out _) a).trans ?_
    match a with
    | ⟨0, _⟩ => rfl
    | ⟨1, _⟩ => exact (Nat.lt_one_iff.mp (lt_of_lt_of_eq (β ⟨1, Nat.one_lt_two⟩).isLt n1)).symm
  · rfl

/-! ## The array, the run, the claim -/

/-- The kernel's output array is the reference's result. -/
theorem final (h : InRange m) (c : Dev nD) : (dats m hok 0 c).arrAt (4 : Fin 5) (cfgT m hok).N
    = Cert.ReferenceIdeal.Read.val_main_v72 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  obtain rfl : c = 0 := Subsingleton.elim _ _
  refine (dats m hok 0 0).arrAt_eq_of_covers (4 : Fin 5) _ (covers m hok) fun t _ y => ?_
  obtain ⟨q, l, rfl⟩ : ∃ q l, y = (ix2 q l : S2048x128.Idx) := ⟨y 0, y 1, eq_ix2 y⟩
  obtain ⟨r, s, rfl⟩ : ∃ (r : Fin 256) (s : Fin 8), q = ⟨r.val * 8 + s.val, by omega⟩ :=
    ⟨⟨q.val / 8, by omega⟩, ⟨q.val % 8, by omega⟩, Fin.ext (by show q.val = q.val / 8 * 8 + q.val % 8; omega)⟩
  have he : (((cfgT m hok).win (4 : Fin 5)).blk t).view.emb (ix2 (⟨r.val * 8 + s.val, by omega⟩ : Fin 2048) l : S2048x128.Idx)
      = (ix2 (place (blockOf m hok t) r s) l : S540672x128.Idx) := by
    funext a
    match a with
    | ⟨0, _⟩ =>
      refine Fin.ext ?_
      show cc0_transform_4 (grid0.coords t) 0 * 2048 + 1 * (r.val * 8 + s.val) = t.val * 2048 + r.val * 8 + s.val
      rw [idx_out]; show t.val * 2048 + _ = _; omega
    | ⟨1, _⟩ =>
      refine Fin.ext ?_
      show cc0_transform_4 (grid0.coords t) 1 * 128 + 1 * l.val = l.val
      rw [idx_out]; show 0 * 128 + _ = _; omega
  refine (leaves_at _ _ _ _ _ _ r s l).trans (Eq.trans ?_ (congrArg _ he).symm)
  refine Eq.trans ?_ (ref_at _ _ _ _ _ _ h (blockOf m hok t) r s l).symm
  rw [show at_ m hok t 0 = blockOf m hok t from Fin.ext (at_0 t), product_at]
  simp only [gate_block m hok h, up_block m hok h, down_block m hok h]
  refine congrArg (fun x => if isUsed (used m) (blockOf m hok t) then gated x _ _ _ else 0) ?_
  funext k
  exact x_block m hok 0 t r (⟨k.val / 128, by omega⟩ : Fin 8) (⟨k.val % 128, Nat.mod_lt _ (by omega)⟩ : Fin 128)

/-- The stated precondition bounds the words. -/
theorem word_lt (w : BitVec 32) (h : IntOp.andi (IntOp.cmpi .sge w 0#32) (IntOp.cmpi .slt w 8#32) = 1#1) : w.toNat < 8 := by
  have both : ∀ a b : Bool, BitVec.ofBool a &&& BitVec.ofBool b = 1#1 → a = true ∧ b = true := by decide
  obtain ⟨lo, hi⟩ := both _ _ h
  have lo : 0 ≤ w.toInt := of_decide_eq_true lo
  have hi : w.toInt < 8 := of_decide_eq_true hi
  rw [BitVec.toInt_eq_toNat_cond] at lo hi
  have := w.isLt
  split at lo <;> omega

attribute [local instance] Cert.Pre_experts_in_range.Gen.facts in
theorem words_lt {F : FTy → Type} [FloatOps F] (m : (ℓ : Loc nD τ sig) → Buf (Elt F) ℓ)
    (h : ∀ c : Dev nD, Cert.Pre_experts_in_range.fn (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) = fun _ => 1#1)
    (b : Fin 264) : (experts m (ix1 b)).toNat < 8 :=
  word_lt _ (congrFun (h 0) (ix1 b))

/-- The kernel runs at any float, words in range, and leaves its arguments alone. -/
theorem frame {F : FTy → Type} [FloatOps F] (m : (ℓ : Loc nD τ sig) → Buf (Elt F) ℓ) (ρ : Dev nD → PrngReg) (hok : ok0 (tabs m)) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run _ _ _).mono (fun r h => ⟨frame_of m hok r h.1, h.2⟩) (ExpertRun.run m ρ hok)

/-- The two readings of the kernel are one program. -/
theorem same_calls {F : FTy → Type} [FloatOps F] : Cert.Kernel.defs₀ (F := F) = defs₀ (F := F) := by
  unfold Cert.Kernel.defs₀ defs₀
  refine congrArg _ ?_
  funext l x
  match l, x with
  | ⟨0, _⟩, (t, s) => rfl
theorem same_defs {F : FTy → Type} [FloatOps F] : Cert.Kernel.defs (F := F) = defs (F := F) := congrArg (Pipeline.defs pcfgs) same_calls

theorem frame_bits : Cert.quiescent_Kernel (hKernel := Cert.Kernel.Gen.facts) (hPre_experts_in_range := Cert.Pre_experts_in_range.Gen.facts) :=
  fun m ρ h => by
    unfold Cert.Pre_Kernel at h
    have hr := frame (F := Bits) m ρ (ok_of m (words_lt (F := Bits) m h))
    rw [← same_defs] at hr
    exact hr

theorem frame_ideal : Cert.quiescent_KernelIdeal (hKernelIdeal := Cert.KernelIdeal.Gen.facts) (hPre_experts_in_range := Cert.Pre_experts_in_range.Gen.facts) :=
  fun m ρ h => frame (F := Ideal) m ρ (ok_of m (words_lt (F := Ideal) m h))

/-- The reference runs from any memory. -/
theorem frame_ref : Cert.quiescent_ReferenceIdeal (hReferenceIdeal := Cert.ReferenceIdeal.Gen.facts) :=
  fun m ρ _ => (θ_run _ _ _).mono (fun r h => ⟨fun c => (h c).2, sem_eq_zero_of_no_sems (by decide) r.2⟩) (Cert.ReferenceIdeal.Value.run m ρ)

/-- The kernel's result is the reference's, on arguments that agree, the words in range. -/
theorem algebraic : Cert.algebraic_KernelIdeal_ReferenceIdeal (hKernelIdeal := Cert.KernelIdeal.Gen.facts)
    (hReferenceIdeal := Cert.ReferenceIdeal.Gen.facts) (hPre_experts_in_range := Cert.Pre_experts_in_range.Gen.facts) := by
  intro m ρ m' ρ' hpre hargs
  have hw : InRange m := words_lt (F := Ideal) m hpre
  have hok := ok_of m hw
  refine ⟨_, (θ_run _ _ _).mono (fun r h c => ⟨((h.1 c).1 (4 : Fin 5)).trans (final m hok hw c), frame_of m hok r h.1 c⟩) (ExpertRun.run m ρ hok),
    (θ_run _ _ _).mono (fun r h c => ⟨?_, (h c).2⟩) (Cert.ReferenceIdeal.Value.run m' ρ')⟩
  obtain ⟨h0, h1, h2, h3, h4, h5⟩ := hargs c
  refine (h c).1.trans ?_
  rw [Cert.ReferenceIdeal.Read.val_main_v72_eq, h0, h1, h2, h3, h4, h5]

end Cert.Experts

end
-- ==== Proof.Ffn.lean ====
module

public import proofs.«01_k».proof.Proof.Rows
public import proofs.«01_k».proof.Proof.Gen.Kernel2Ideal.Value
public import proofs.«01_k».proof.Proof.Gen.Reference2Ideal.Read
public import proofs.«01_k».proof.Defs
public import Idealize.ShloMosaic.Lib.Pipeline.ValueKit.Geometry
public import Idealize.ShloMosaic.Lib.Pipeline.ValueKit.Acc

@[expose] public section

set_option maxRecDepth 16384

noncomputable section

/-! # The dense gated map: the kernel's array is the reference's -/

namespace Cert.Ffn

open Idealize.ShloMosaic Idealize.ShloMosaic.TcCoe Idealize.SL.Sem
open Cert.Kernel2Ideal Cert.Kernel2Ideal.Gen
open Cert.Rows

/-- The residual row plus the gated product of its normalised row, at an index. -/
def out (h : FVec Ideal S32768x1024 .f32) (g : FVec Ideal S1024 .f32) (wg wu : FVec Ideal S1024x2816 .f32)
    (wd : FVec Ideal S2816x1024 .f32) : FVec Ideal S32768x1024 .f32 :=
  fun i => h i + gated (normed (fun k => h (ix2 (i 0) k)) fun k => g (ix1 k)) (fun k f => wg (ix2 k f)) (fun k f => wu (ix2 k f))
    fun f => wd (ix2 f (i 1))

open Cert.Reference2Ideal.Read in
/-- What the reference computes is `out`. -/
theorem ref_eq (h : FVec Ideal S32768x1024 .f32) (g : FVec Ideal S1024 .f32) (wg wu : FVec Ideal S1024x2816 .f32)
    (wd : FVec Ideal S2816x1024 .f32) : val_main_v18 (F := Ideal) h g wg wu wd = out h g wg wu wd := by
  funext i
  idx_vars i
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_call0_v0, val_main_call0_v1,
    val_main_call0_v2, val_main_call0_v3, val_main_call0_v4, val_main_call0_v5, val_main_call0_cst, val_main_call0_cst_0]
  rfl

/-- One block of the kernel, at an index. -/
theorem pay_at (h : FVec Ideal S512x1024 .f32) (g : FVec Ideal S1x1024 .f32) (wg wu : FVec Ideal S1024x2816 .bf16)
    (wd : FVec Ideal S2816x1024 .bf16) (r : Fin 512) (c : Fin 1024) :
    k0_pay1 (F := Ideal) h g wg wu wd (ix2 r c)
      = h (ix2 r c) + gated (normed (fun k => h (ix2 r k)) fun k => g (ix2 0 k)) (fun k f => wg (ix2 k f)) (fun k f => wu (ix2 k f))
        fun f => wd (ix2 f c) := by
  pointwise [k0_pay1]
  rfl

variable (m : (ℓ : Loc nD τ sig) → Buf (Elt Ideal) ℓ)

/-! ## What the region finds -/

theorem gate_eq (c : Dev nD) : V m c main_v0 = truncf (F := Ideal) .bf16 (m ((c : Thread nD τ).loc main_arg2)) bitsLt_bf16_f32 := by
  dsimp only [V, hostOps0]
  after_results
theorem up_eq (c : Dev nD) : V m c main_v1 = truncf (F := Ideal) .bf16 (m ((c : Thread nD τ).loc main_arg3)) bitsLt_bf16_f32 := by
  dsimp only [V, hostOps0]
  after_results
theorem down_eq (c : Dev nD) : V m c main_v2 = truncf (F := Ideal) .bf16 (m ((c : Thread nD τ).loc main_arg4)) bitsLt_bf16_f32 := by
  dsimp only [V, hostOps0]
  after_results
theorem gains_eq (c : Dev nD) : V m c main_v3 = shapeCast S1x1024 (m ((c : Thread nD τ).loc main_arg1)) shapeCasts_S1024_S1x1024 := by
  dsimp only [V, hostOps0]
  after_results
  rfl

/-! ## The windows' blocks -/

theorem idx_h : ∀ t : Fin cfg0.N, win0_0.index t = ![t.val, 0] := (by decide +kernel : ∀ t : Fin grid0.N, win0_0.index t = ![t.val, 0])
theorem idx_g : ∀ t : Fin cfg0.N, win0_1.index t = ![0, 0] := (by decide +kernel : ∀ t : Fin grid0.N, win0_1.index t = ![0, 0])
theorem idx_gate : ∀ t : Fin cfg0.N, win0_2.index t = ![0, 0] := (by decide +kernel : ∀ t : Fin grid0.N, win0_2.index t = ![0, 0])
theorem idx_up : ∀ t : Fin cfg0.N, win0_3.index t = ![0, 0] := (by decide +kernel : ∀ t : Fin grid0.N, win0_3.index t = ![0, 0])
theorem idx_down : ∀ t : Fin cfg0.N, win0_4.index t = ![0, 0] := (by decide +kernel : ∀ t : Fin grid0.N, win0_4.index t = ![0, 0])
theorem idx_out : ∀ t : Fin cfg0.N, win0_5.index t = ![t.val, 0] := (by decide +kernel : ∀ t : Fin grid0.N, win0_5.index t = ![t.val, 0])

/-- A grid point is one of 64. -/
theorem lt_points (t : Fin cfg0.N) : t.val < 64 := lt_of_lt_of_eq t.isLt N_0

/-- Row `r` of block `t`. -/
abbrev row (t : Fin cfg0.N) (r : Fin 512) : Fin 32768 := ⟨t.val * 512 + r.val, by have := lt_points t; omega⟩

theorem h_block (c : Dev nD) (t : Fin cfg0.N) (r : Fin 512) (k : Fin 1024) :
    iblk m c 0 t (ix2 r k : S512x1024.Idx) = m ((c : Thread nD τ).loc main_arg0) (ix2 (row t r) k : S32768x1024.Idx) := by
  blk_simp [iblk]
  rw [V_main_arg0]
  refine congrArg _ ?_
  blk_ext [idx_h t]

theorem g_block (c : Dev nD) (t : Fin cfg0.N) (k : Fin 1024) :
    iblk m c 1 t (ix2 0 k : S1x1024.Idx) = m ((c : Thread nD τ).loc main_arg1) (ix1 k : S1024.Idx) := by
  have he : ((View.whole main_v3).slice (win0_1.rect t)).emb (ix2 0 k : S1x1024.Idx) = (ix2 0 k : S1x1024.Idx) := by
    blk_ext [idx_g t]
  blk_simp [iblk]
  refine (congrArg (V m c main_v3) he).trans ?_
  rw [gains_eq]
  pointwise

theorem gate_block (c : Dev nD) (t : Fin cfg0.N) (k : Fin 1024) (f : Fin 2816) :
    iblk m c 2 t (ix2 k f : S1024x2816.Idx) = m ((c : Thread nD τ).loc main_arg2) (ix2 k f : S1024x2816.Idx) := by
  blk_simp [iblk]
  rw [gate_eq]
  refine congrArg (m ((c : Thread nD τ).loc main_arg2)) ?_
  blk_ext [idx_gate t]

theorem up_block (c : Dev nD) (t : Fin cfg0.N) (k : Fin 1024) (f : Fin 2816) :
    iblk m c 3 t (ix2 k f : S1024x2816.Idx) = m ((c : Thread nD τ).loc main_arg3) (ix2 k f : S1024x2816.Idx) := by
  blk_simp [iblk]
  rw [up_eq]
  refine congrArg (m ((c : Thread nD τ).loc main_arg3)) ?_
  blk_ext [idx_up t]

theorem down_block (c : Dev nD) (t : Fin cfg0.N) (f : Fin 2816) (j : Fin 1024) :
    iblk m c 4 t (ix2 f j : S2816x1024.Idx) = m ((c : Thread nD τ).loc main_arg4) (ix2 f j : S2816x1024.Idx) := by
  blk_simp [iblk]
  rw [down_eq]
  refine congrArg (m ((c : Thread nD τ).loc main_arg4)) ?_
  blk_ext [idx_down t]

/-! ## The array, the run, the claim -/

/-- The kernel's output array. -/
theorem final (c : Dev nD) : (dats m 0 c).arrAt 5 cfg0.N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  frame_out
  obtain ⟨r, j, rfl⟩ : ∃ r j, y = (ix2 r j : S512x1024.Idx) := ⟨y 0, y 1, eq_ix2 y⟩
  have he : ((View.whole main_v4).slice (win0_5.rect t)).emb (ix2 r j : S512x1024.Idx) = (ix2 (row t r) j : S32768x1024.Idx) := by
    blk_ext [idx_out t]
  refine (pay_at _ _ _ _ _ r j).trans (Eq.trans ?_ (congrArg _ he).symm)
  simp only [h_block, g_block, gate_block, up_block, down_block]
  rfl

/-- The kernel runs and leaves the map's value in its result. -/
theorem run (ρ : Dev nD → PrngReg) : θ_run defs (onTc (τ := τ) (main (F := Ideal))) ⟨m, fun _ => 0, ρ⟩ fun r => ∀ c : Dev nD,
      r.2.mem ((c : Thread nD τ).loc main_v4)
        = out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.Kernel2Ideal.Value.run_blocks m ρ)

/-- The kernel's result is the reference's, on arguments that agree. -/
theorem algebraic : Cert.algebraic_Kernel2Ideal_Reference2Ideal
    (hKernel2Ideal := Cert.Kernel2Ideal.Gen.facts) (hReference2Ideal := Cert.Reference2Ideal.Gen.facts) := by
  intro m ρ m' ρ' _ hargs
  refine ⟨_, run m ρ, (θ_run _ _ _).mono (fun r h c => ⟨?_, (h c).2⟩) (Cert.Reference2Ideal.Value.run m' ρ')⟩
  obtain ⟨h0, h1, h2, h3, h4⟩ := hargs c
  refine (h c).1.trans ?_
  rw [h0, h1, h2, h3, h4]
  exact (Cert.Reference2Ideal.Read.val_main_v18_eq _ _ _ _ _).trans (ref_eq _ _ _ _ _)

end Cert.Ffn

end
-- ==== Proof.FourierIn.lean ====
module

public import proofs.«01_k».proof.Proof.Gen.Kernel6Ideal.Frame
public import proofs.«01_k».proof.Proof.Gen.Reference6Ideal.Run
public import proofs.«01_k».proof.Proof.Rows
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

/-! # The maps over features and the first transform over positions: the kernel's array is the reference's -/

namespace Cert.FourierIn

open Idealize.ShloMosaic Idealize.ShloMosaic.TcCoe Idealize.SL.Sem Cert.Rows

/-- One frequency of the transform of 64 complex numbers, one of its two parts. -/
def freq (p q : Fin 64 → EReal) (a b : Fin 64 → EReal) : EReal := (∑ j, p j * a j) + ∑ j, q j * b j

/-- A complex number turned back by an angle, at the feature of the pair of parts. -/
def turn (tc ts re im : EReal) (e : ℕ) : EReal := if e < 1024 then re * tc + im * ts else im * tc - re * ts

section Reference
open Cert.Reference6Ideal Cert.Reference6Ideal.Gen

/-- The tables. -/
def cosines (k j : Fin 64) : EReal := FloatOps.ofBits (F := Ideal) .bf16 (lit2 (S64x64.rowMajor (ix2 k j)))
def minusCosines (k j : Fin 64) : EReal := FloatOps.ofBits (F := Ideal) .bf16 (lit4 (S64x64.rowMajor (ix2 k j)))
def minusSines (k j : Fin 64) : EReal := FloatOps.ofBits (F := Ideal) .bf16 (lit5 (S64x64.rowMajor (ix2 k j)))
def angleCos (k c : Fin 64) : EReal := FloatOps.ofBits (F := Ideal) .f32 (lit0 (S64x64.rowMajor (ix2 k c)))
def angleSin (k c : Fin 64) : EReal := FloatOps.ofBits (F := Ideal) .f32 (lit1 (S64x64.rowMajor (ix2 k c)))

/-- The row at place `(j, c)` of sequence `b`, among all rows. -/
abbrev at_ (b : Fin 8) (j c : Fin 64) : Fin 32768 := ⟨b.val * 4096 + j.val * 64 + c.val, by omega⟩

/-- A normalised row through the map. -/
def mapped (h : FVec Ideal S32768x1024 .f32) (g : FVec Ideal S1024 .f32) (w : FVec Ideal S1024x2048 .bf16) (t : Fin 32768) (e : Fin 2048) : EReal :=
  ∑ l, normed (fun k => h (ix2 t k)) (fun k => g (ix1 k)) l * w (ix2 l e)

/-- The transformed and turned rows, at an index. -/
def out (h : FVec Ideal S32768x1024 .f32) (g : FVec Ideal S1024 .f32) (w : FVec Ideal S1024x2048 .bf16) : FVec Ideal S8x64x64x2048 .bf16 :=
  fun i =>
    turn (angleCos (i 1) (i 2)) (angleSin (i 1) (i 2))
      (freq (cosines (i 1)) (minusSines (i 1)) (fun j => mapped h g w (at_ (i 0) j (i 2)) (⟨(i 3).val % 1024, by omega⟩ : Fin 2048))
        fun j => mapped h g w (at_ (i 0) j (i 2)) (⟨1024 + (i 3).val % 1024, by omega⟩ : Fin 2048))
      (freq (minusSines (i 1)) (minusCosines (i 1)) (fun j => mapped h g w (at_ (i 0) j (i 2)) (⟨(i 3).val % 1024, by omega⟩ : Fin 2048))
        fun j => mapped h g w (at_ (i 0) j (i 2)) (⟨1024 + (i 3).val % 1024, by omega⟩ : Fin 2048))
      (i 3).val

/-! ## The reference, stage by stage -/

/-- The rows through the map. -/
def rows (h : FVec Ideal S32768x1024 .f32) (g : FVec Ideal S1024 .f32) (w : FVec Ideal S1024x2048 .bf16) : FVec Ideal S32768x2048 .f32 :=
  Host.dotGeneral dot_S32768x1024_S1024x2048_S32768x2048_1_0_0_1_n_n none (mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) (extf .f32 w bitsLt_bf16_f32)

theorem rows_at (h g w) (t : Fin 32768) (e : Fin 2048) : rows h g w (ix2 t e) = mapped h g w t e := by
  pointwise [rows]
  rfl

/-- The first half of the features, and the second, as places of the sequences. -/
def fst (u : FVec Ideal S32768x2048 .f32) : FVec Ideal S8x64x64x1024 .f32 :=
  shapeCast _ (extractStridedSlice S8x64x64x1x1024 ![0, 0, 0, 0, 0] (shapeCast _ u shapeCasts_S32768x2048_S8x64x64x2x1024) slices_S8x64x64x2x1024_S8x64x64x1x1024_0_0_0_0_0) shapeCasts_S8x64x64x1x1024_S8x64x64x1024
def snd (u : FVec Ideal S32768x2048 .f32) : FVec Ideal S8x64x64x1024 .f32 :=
  shapeCast _ (extractStridedSlice S8x64x64x1x1024 ![0, 0, 0, 1, 0] (shapeCast _ u shapeCasts_S32768x2048_S8x64x64x2x1024) slices_S8x64x64x2x1024_S8x64x64x1x1024_0_0_0_1_0) shapeCasts_S8x64x64x1x1024_S8x64x64x1024

theorem fst_at (u) (b : Fin 8) (j c : Fin 64) (d : Fin 1024) : fst u (ix4 b j c d) = u (ix2 (at_ b j c) (⟨d.val, by omega⟩ : Fin 2048)) := by
  pointwise [fst]
theorem snd_at (u) (b : Fin 8) (j c : Fin 64) (d : Fin 1024) : snd u (ix4 b j c d) = u (ix2 (at_ b j c) (⟨1024 + d.val, by omega⟩ : Fin 2048)) := by
  pointwise [snd]

/-- A table's product with the places of every line. -/
def summed (x : FVec Ideal S8x64x64x1024 .f32) (T : FVec Ideal S64x64 .bf16) : FVec Ideal S8x64x64x1024 .f32 :=
  transpose S8x64x64x1024 [0, 3, 1, 2] (Host.dotGeneral dot_S8x64x64x1024_S64x64_S8x64x1024x64_1_1_023_0_n_n none x (extf .f32 T bitsLt_bf16_f32)) transposes_S8x64x1024x64_S8x64x64x1024_0_3_1_2

theorem summed_at (x T) (b : Fin 8) (k c : Fin 64) (d : Fin 1024) : summed x T (ix4 b k c d) = ∑ j, T (ix2 k j) * x (ix4 b j c d) := by
  pointwise [summed]
  simp only [mul_comm]

/-- The angles' tables over all places. -/
def spread (T : FVec Ideal S64x64 .f32) : FVec Ideal S8x64x64x1024 .f32 :=
  broadcastInDim S8x64x64x1024 ![0, 1, 2, 3] bcast_S1x64x64x1_S8x64x64x1024_0_1_2_3 (broadcastInDim S1x64x64x1 ![1, 2] bcast_S64x64_S1x64x64x1_1_2 T)

theorem spread_at (T) (b : Fin 8) (k c : Fin 64) (d : Fin 1024) : spread T (ix4 b k c d) = T (ix2 k c) := by
  pointwise [spread]

/-- The two parts of the turned numbers, one after the other. -/
def stacked (re im tc ts : FVec Ideal S8x64x64x1024 .f32) : FVec Ideal S8x64x64x2x1024 .f32 :=
  concatenate S8x64x64x2x1024 3
    [⟨S8x64x64x1x1024, (broadcastInDim S8x64x64x1x1024 ![0, 1, 2, 4] bcast_S8x64x64x1024_S8x64x64x1x1024_0_1_2_4 (addf (F := Ideal) (mulf (F := Ideal) re tc) (mulf (F := Ideal) im ts)))⟩,
     ⟨S8x64x64x1x1024, (broadcastInDim S8x64x64x1x1024 ![0, 1, 2, 4] bcast_S8x64x64x1024_S8x64x64x1x1024_0_1_2_4 (subf (F := Ideal) (mulf (F := Ideal) im tc) (mulf (F := Ideal) re ts)))⟩]
    concatenates_S8x64x64x1x1024_S8x64x64x1x1024_S8x64x64x2x1024_d3

theorem stacked_at (re im tc ts) (b : Fin 8) (k c : Fin 64) (p : Fin 2) (d : Fin 1024) :
    stacked re im tc ts (ix5 b k c p d)
      = turn (tc (ix4 b k c d)) (ts (ix4 b k c d)) (re (ix4 b k c d)) (im (ix4 b k c d)) (p.val * 1024) := by
  match p with
  | 0 => pointwise [stacked, turn]
  | 1 => pointwise [stacked, turn]

/-- Side by side. -/
def paired (z : FVec Ideal S8x64x64x2x1024 .f32) : FVec Ideal S8x64x64x2048 .bf16 :=
  truncf .bf16 (shapeCast S8x64x64x2048 z shapeCasts_S8x64x64x2x1024_S8x64x64x2048) bitsLt_bf16_f32

theorem paired_at (z) (b : Fin 8) (k c : Fin 64) (e : Fin 2048) :
    paired z (ix4 b k c e) = z (ix5 b k c (⟨e.val / 1024, by omega⟩ : Fin 2) (⟨e.val % 1024, by omega⟩ : Fin 1024)) := by
  pointwise [paired]

variable (m : (ℓ : Loc nD τ sig) → Buf (Elt Ideal) ℓ)

theorem res_eq (c : Dev nD) : Cert.Reference6Ideal.Value.res_out0 m c
    = paired (stacked
      (addf (summed (fst (rows (m ((c : Thread nD τ).loc main_arg0)) (m ((c : Thread nD τ).loc main_arg1)) (m ((c : Thread nD τ).loc main_arg2)))) fun i => FloatOps.ofBits .bf16 (lit2 (S64x64.rowMajor i)))
        (summed (snd (rows (m ((c : Thread nD τ).loc main_arg0)) (m ((c : Thread nD τ).loc main_arg1)) (m ((c : Thread nD τ).loc main_arg2)))) fun i => FloatOps.ofBits .bf16 (lit5 (S64x64.rowMajor i))))
      (addf (summed (fst (rows (m ((c : Thread nD τ).loc main_arg0)) (m ((c : Thread nD τ).loc main_arg1)) (m ((c : Thread nD τ).loc main_arg2)))) fun i => FloatOps.ofBits .bf16 (lit5 (S64x64.rowMajor i)))
        (summed (snd (rows (m ((c : Thread nD τ).loc main_arg0)) (m ((c : Thread nD τ).loc main_arg1)) (m ((c : Thread nD τ).loc main_arg2)))) fun i => FloatOps.ofBits .bf16 (lit4 (S64x64.rowMajor i))))
      (spread fun i => FloatOps.ofBits .f32 (lit0 (S64x64.rowMajor i))) (spread fun i => FloatOps.ofBits .f32 (lit1 (S64x64.rowMajor i)))) := rfl

theorem turn_place (tc ts re im : EReal) (e : ℕ) (h : e < 2048) : turn tc ts re im (e / 1024 * 1024) = turn tc ts re im e := by
  unfold turn
  by_cases he : e < 1024
  · rw [if_pos he, if_pos (by omega)]
  · rw [if_neg he, if_neg (by omega)]

/-- What the reference computes is `out`. -/
theorem ref_eq (c : Dev nD) : Cert.Reference6Ideal.Value.res_out0 m c
    = out (m ((c : Thread nD τ).loc main_arg0)) (m ((c : Thread nD τ).loc main_arg1)) (m ((c : Thread nD τ).loc main_arg2)) := by
  rw [res_eq]
  generalize m ((c : Thread nD τ).loc main_arg0) = h
  generalize m ((c : Thread nD τ).loc main_arg1) = g
  generalize m ((c : Thread nD τ).loc main_arg2) = w
  funext i
  obtain ⟨b, k, p, e, rfl⟩ : ∃ b k p e, i = (ix4 b k p e : S8x64x64x2048.Idx) := ⟨i 0, i 1, i 2, i 3, eq_ix4 i⟩
  rw [paired_at, stacked_at, turn_place _ _ _ _ _ e.isLt, spread_at, spread_at]
  refine congrArg₂ (fun x y => turn _ _ x y e.val) ?_ ?_
  · refine (congrArg₂ (· + ·) (summed_at _ _ b k p _) (summed_at _ _ b k p _)).trans ?_
    simp only [fst_at, snd_at, rows_at]
    rfl
  · refine (congrArg₂ (· + ·) (summed_at _ _ b k p _) (summed_at _ _ b k p _)).trans ?_
    simp only [fst_at, snd_at, rows_at]
    rfl

end Reference

/-! ## One block of the kernel -/

open Cert.Kernel6Ideal Cert.Kernel6Ideal.Gen

/-- Row `q` of a block, among its 64 places of eight columns. -/
abbrev place (q : Fin 512) : Fin 64 := ⟨q.val / 8, by omega⟩
abbrev column (q : Fin 512) : Fin 8 := ⟨q.val % 8, by omega⟩
abbrev rowOf (j : Fin 64) (i : Fin 8) : Fin 512 := ⟨j.val * 8 + i.val, by omega⟩

/-- A row of the block through the map. -/
def mappedRow (x0 : FVec Ideal S1x64x8x1024 .f32) (x1 : FVec Ideal S1x1024 .f32) (x2 : FVec Ideal S1024x2048 .bf16) (q : Fin 512) (e : Fin 2048) : EReal :=
  ∑ l, normed (fun k => x0 (ix4 (0 : Fin 1) (place q) (column q) k)) (fun k => x1 (ix2 (0 : Fin 1) k)) l * x2 (ix2 l e)

theorem sums_at (x0 x1 x2) (x3 x4 : FVec Ideal S1024x512 .bf16) (r d : Fin 1024) :
    k0_pay2 (F := Ideal) x0 x1 x2 x3 x4 (ix2 r d)
      = (∑ q, x3 (ix2 r q) * mappedRow x0 x1 x2 q (⟨d.val, by omega⟩ : Fin 2048)) + ∑ q, x4 (ix2 r q) * mappedRow x0 x1 x2 q (⟨1024 + d.val, by omega⟩ : Fin 2048) := by
  pointwise [k0_pay2]
  rfl

/-- A sum over a block's rows against a table spread over the eight columns is the sum over the places of one column. -/
theorem sum_spread (x f : Fin 512 → EReal) (T : Fin 64 → EReal) (i : Fin 8) (hx : ∀ j i', x (rowOf j i') = T j * if i = i' then 1 else 0) :
    ∑ q, x q * f q = ∑ j, T j * f (rowOf j i) := by
  rw [← Equiv.sum_comp (finProdFinEquiv : Fin 64 × Fin 8 ≃ Fin 512), Fintype.sum_prod_type]
  refine Finset.sum_congr rfl fun j _ => ?_
  have hr (i' : Fin 8) : (finProdFinEquiv (j, i') : Fin 512) = rowOf j i' := Fin.ext (by show i'.val + 8 * j.val = j.val * 8 + i'.val; omega)
  simp only [hr, hx]
  refine (Finset.sum_eq_single i (fun i' _ hi => ?_) fun h => absurd (Finset.mem_univ _) h).trans ?_
  · rw [if_neg (Ne.symm hi), mul_zero, zero_mul]
  · rw [if_pos rfl, mul_one]

/-- A block of the result, from the two halves of the sums and the angles, at an index. -/
theorem turned_at (s : FVec Ideal S1024x1024 .f32) (x5 x6 : FVec Ideal S1x512x1 .f32) (h0 h1) (k : Fin 64) (i : Fin 8) (e : Fin 2048) :
    k0_pay1 (F := Ideal) (extractStridedSlice S512x1024 ![0, 0] s h0) (extractStridedSlice S512x1024 ![512, 0] s h1) (k0_pay5 x5) x6 (ix4 (0 : Fin 1) k i e)
      = turn (x5 (ix3 (0 : Fin 1) (rowOf k i) (0 : Fin 1))) (x6 (ix3 (0 : Fin 1) (rowOf k i) (0 : Fin 1)))
        (s (ix2 (⟨k.val * 8 + i.val, by omega⟩ : Fin 1024) (⟨e.val % 1024, by omega⟩ : Fin 1024)))
        (s (ix2 (⟨512 + (k.val * 8 + i.val), by omega⟩ : Fin 1024) (⟨e.val % 1024, by omega⟩ : Fin 1024))) e.val := by
  pointwise [k0_pay1, k0_pay5, turn]
  by_cases he : e.val < 1024
  · have hd : (⟨e.val % 1024, by omega⟩ : Fin 1024) = ⟨e.val, he⟩ := Fin.ext (Nat.mod_eq_of_lt he)
    rw [dif_pos he, if_pos he, hd]
  · have hd : (⟨e.val % 1024, by omega⟩ : Fin 1024) = ⟨e.val - 1024, by omega⟩ := Fin.ext (by show e.val % 1024 = e.val - 1024; omega)
    rw [dif_neg he, if_neg he, hd]

/-- A block of the result, when the tables of the block are spread over the eight columns. -/
theorem block_at (x0 : FVec Ideal S1x64x8x1024 .f32) (x1 : FVec Ideal S1x1024 .f32) (x2 : FVec Ideal S1024x2048 .bf16)
    (x3 x4 : FVec Ideal S1024x512 .bf16) (x5 x6 : FVec Ideal S1x512x1 .f32) (p q p' q' : Fin 64 → EReal) (k : Fin 64) (i : Fin 8) (e : Fin 2048)
    (hp : ∀ j i', x3 (ix2 (⟨k.val * 8 + i.val, by omega⟩ : Fin 1024) (rowOf j i')) = p j * if i = i' then 1 else 0)
    (hq : ∀ j i', x4 (ix2 (⟨k.val * 8 + i.val, by omega⟩ : Fin 1024) (rowOf j i')) = q j * if i = i' then 1 else 0)
    (hp' : ∀ j i', x3 (ix2 (⟨512 + (k.val * 8 + i.val), by omega⟩ : Fin 1024) (rowOf j i')) = p' j * if i = i' then 1 else 0)
    (hq' : ∀ j i', x4 (ix2 (⟨512 + (k.val * 8 + i.val), by omega⟩ : Fin 1024) (rowOf j i')) = q' j * if i = i' then 1 else 0) :
    out0_7 (F := Ideal) x0 x1 x2 x3 x4 x5 x6 (ix4 (0 : Fin 1) k i e)
      = turn (x5 (ix3 (0 : Fin 1) (rowOf k i) (0 : Fin 1))) (x6 (ix3 (0 : Fin 1) (rowOf k i) (0 : Fin 1)))
        (freq p q (fun j => mappedRow x0 x1 x2 (rowOf j i) (⟨e.val % 1024, by omega⟩ : Fin 2048))
          fun j => mappedRow x0 x1 x2 (rowOf j i) (⟨1024 + e.val % 1024, by omega⟩ : Fin 2048))
        (freq p' q' (fun j => mappedRow x0 x1 x2 (rowOf j i) (⟨e.val % 1024, by omega⟩ : Fin 2048))
          fun j => mappedRow x0 x1 x2 (rowOf j i) (⟨1024 + e.val % 1024, by omega⟩ : Fin 2048)) e.val := by
  have h0 : View.ld (Val := Elt Ideal) (e' := .f32) x0 r0_0 = x0 := whole S1x64x8x1024 (e := .f32) x0 ![0, 0, 0, 0] (by decide) _
  have h1 : View.ld (Val := Elt Ideal) (e' := .f32) x1 r0_1 = x1 := whole S1x1024 (e := .f32) x1 ![0, 0] (by decide) _
  have h2 : View.ld (Val := Elt Ideal) (e' := .bf16) x2 r0_2 = x2 := whole S1024x2048 (e := .bf16) x2 ![0, 0] (by decide) _
  have h3 : View.ld (Val := Elt Ideal) (e' := .bf16) x3 r0_3 = x3 := whole S1024x512 (e := .bf16) x3 ![0, 0] (by decide) _
  have h4 : View.ld (Val := Elt Ideal) (e' := .bf16) x4 r0_3 = x4 := whole S1024x512 (e := .bf16) x4 ![0, 0] (by decide) _
  have h5 : View.ld (Val := Elt Ideal) (e' := .f32) x5 r0_4 = x5 := whole S1x512x1 (e := .f32) x5 ![0, 0, 0] (by decide) _
  have h6 : View.ld (Val := Elt Ideal) (e' := .f32) x6 r0_4 = x6 := whole S1x512x1 (e := .f32) x6 ![0, 0, 0] (by decide) _
  unfold out0_7
  rw [h0, h1, h2, h3, h4, h5, h6]
  refine (View.canon_apply_of_pieces (Val := Elt Ideal) (e := .bf16) (k0_pay1 (F := Ideal) (k0_pay3 x0 x1 x2 x3 x4) (k0_pay4 x0 x1 x2 x3 x4) (k0_pay5 x5) x6)
    _ ?_ _ (cover0_7 _ _)).trans ?_
  · simp only [List.forall_mem_cons]
    refine ⟨fun z => ?_, fun _ h => absurd h List.not_mem_nil⟩
    exact (congrFun (whole S1x64x8x2048 (e := .bf16) (k0_pay1 (F := Ideal) (k0_pay3 x0 x1 x2 x3 x4) (k0_pay4 x0 x1 x2 x3 x4) (k0_pay5 x5) x6) ![0, 0, 0, 0] (by decide) _) z).symm
  · refine (turned_at (k0_pay2 (F := Ideal) x0 x1 x2 x3 x4) x5 x6 slices_S1024x1024_o0_0_S512x1024 slices_S1024x1024_o512_0_S512x1024 k i e).trans ?_
    refine congrArg₂ (fun x y => turn _ _ x y e.val) ?_ ?_
    · exact (sums_at x0 x1 x2 x3 x4 _ _).trans (congrArg₂ (· + ·) (sum_spread _ _ p i hp) (sum_spread _ _ q i hq))
    · exact (sums_at x0 x1 x2 x3 x4 _ _).trans (congrArg₂ (· + ·) (sum_spread _ _ p' i hp') (sum_spread _ _ q' i hq'))

/-! ## The tables -/

theorem real_table : ∀ i : Fin 4096, Cert.Kernel6Ideal.lit0 ⟨i.val, by omega⟩ = Cert.Reference6Ideal.lit2 i
    ∧ Cert.Kernel6Ideal.lit0 ⟨4096 + i.val, by omega⟩ = Cert.Reference6Ideal.lit5 i := by decide +kernel
theorem imag_table : ∀ i : Fin 4096, Cert.Kernel6Ideal.lit2 ⟨i.val, by omega⟩ = Cert.Reference6Ideal.lit5 i
    ∧ Cert.Kernel6Ideal.lit2 ⟨4096 + i.val, by omega⟩ = Cert.Reference6Ideal.lit4 i := by decide +kernel
theorem angle_table : ∀ i : Fin 4096,
    Cert.Kernel6Ideal.lit4 i = Cert.Reference6Ideal.lit0 ⟨i.val / 8 % 64 * 64 + i.val / 512 * 8 + i.val % 8, by omega⟩
    ∧ Cert.Kernel6Ideal.lit5 i = Cert.Reference6Ideal.lit1 ⟨i.val / 8 % 64 * 64 + i.val / 512 * 8 + i.val % 8, by omega⟩ := by decide +kernel
theorem one_table : ∀ i i' : Fin 8, Cert.Kernel6Ideal.lit1 ⟨i.val * 8 + i'.val, by omega⟩ = (if i = i' then 0x3F80#16 else 0x0000#16)
    ∧ Cert.Kernel6Ideal.lit3 ⟨i.val * 8 + i'.val, by omega⟩ = (if i = i' then 0x3F80#16 else 0x0000#16) := by decide +kernel

/-- A table spread over eight columns, as the host makes it. -/
def spreadTable (T : FVec Ideal S128x64 .bf16) (E : FVec Ideal S8x8 .bf16) : FVec Ideal S1024x512 .bf16 :=
  shapeCast S1024x512 (mulf (F := Ideal) (broadcastInDim S128x8x64x8 ![0, 1, 2, 3] bcast_S128x1x64x1_S128x8x64x8_0_1_2_3 (broadcastInDim S128x1x64x1 ![0, 2] bcast_S128x64_S128x1x64x1_0_2 T))
    (broadcastInDim S128x8x64x8 ![0, 1, 2, 3] bcast_S1x8x1x8_S128x8x64x8_0_1_2_3 (broadcastInDim S1x8x1x8 ![1, 3] bcast_S8x8_S1x8x1x8_1_3 E))) shapeCasts_S128x8x64x8_S1024x512

theorem spreadTable_at (T E) (r : Fin 1024) (q : Fin 512) :
    spreadTable T E (ix2 r q) = T (ix2 (⟨r.val / 8, by omega⟩ : Fin 128) (⟨q.val / 8, by omega⟩ : Fin 64)) * E (ix2 (⟨r.val % 8, by omega⟩ : Fin 8) (⟨q.val % 8, by omega⟩ : Fin 8)) := by
  pointwise [spreadTable]

variable (m : (ℓ : Loc nD τ sig) → Buf (Elt Ideal) ℓ)

/-! ## What the region finds -/

theorem tables_eq (c : Dev nD) : V m c main_v0 = spreadTable (fun i => FloatOps.ofBits (F := Ideal) .bf16 (Cert.Kernel6Ideal.lit0 (S128x64.rowMajor i)))
    (fun i => FloatOps.ofBits (F := Ideal) .bf16 (Cert.Kernel6Ideal.lit1 (S8x8.rowMajor i))) := by
  dsimp only [V, hostOps0, hostOps0_1, hostOps0_2, hostOps0_3, List.flatten_cons, List.flatten_nil, List.append_nil, List.cons_append, List.nil_append]
  after_results
  rfl
theorem tables_eq' (c : Dev nD) : V m c main_v1 = spreadTable (fun i => FloatOps.ofBits (F := Ideal) .bf16 (Cert.Kernel6Ideal.lit2 (S128x64.rowMajor i)))
    (fun i => FloatOps.ofBits (F := Ideal) .bf16 (Cert.Kernel6Ideal.lit3 (S8x8.rowMajor i))) := by
  dsimp only [V, hostOps0, hostOps0_1, hostOps0_2, hostOps0_3, List.flatten_cons, List.flatten_nil, List.append_nil, List.cons_append, List.nil_append]
  after_results
  rfl
theorem angleCos_eq (c : Dev nD) : V m c main_cst_3 = fun i => FloatOps.ofBits (F := Ideal) .f32 (Cert.Kernel6Ideal.lit4 (S8x512x1.rowMajor i)) := by
  dsimp only [V, hostOps0, hostOps0_1, hostOps0_2, hostOps0_3, List.flatten_cons, List.flatten_nil, List.append_nil, List.cons_append, List.nil_append]
  after_results
  rfl
theorem angleSin_eq (c : Dev nD) : V m c main_cst_4 = fun i => FloatOps.ofBits (F := Ideal) .f32 (Cert.Kernel6Ideal.lit5 (S8x512x1.rowMajor i)) := by
  dsimp only [V, hostOps0, hostOps0_1, hostOps0_2, hostOps0_3, List.flatten_cons, List.flatten_nil, List.append_nil, List.cons_append, List.nil_append]
  after_results
  rfl
theorem rows_eq (c : Dev nD) : V m c main_v2 = shapeCast S8x64x64x1024 (m ((c : Thread nD τ).loc main_arg0)) shapeCasts_S32768x1024_S8x64x64x1024 := by
  dsimp only [V, hostOps0, hostOps0_1, hostOps0_2, hostOps0_3, List.flatten_cons, List.flatten_nil, List.append_nil, List.cons_append, List.nil_append]
  after_results
  rfl
theorem gains_eq (c : Dev nD) : V m c main_v3 = shapeCast S1x1024 (m ((c : Thread nD τ).loc main_arg1)) shapeCasts_S1024_S1x1024 := by
  dsimp only [V, hostOps0, hostOps0_1, hostOps0_2, hostOps0_3, List.flatten_cons, List.flatten_nil, List.append_nil, List.cons_append, List.nil_append]
  after_results
  rfl

end Cert.FourierIn

end
-- ==== Proof.FourierInRun.lean ====
module

public import proofs.«01_k».proof.Proof.FourierIn

@[expose] public section

set_option maxRecDepth 16384

noncomputable section

/-! # The first transform over positions: the blocks, the run, the claim -/

namespace Cert.FourierIn

open Idealize.ShloMosaic Idealize.ShloMosaic.TcCoe Idealize.SL.Sem Cert.Rows
open Cert.Kernel6Ideal Cert.Kernel6Ideal.Gen

variable (m : (ℓ : Loc nD τ sig) → Buf (Elt Ideal) ℓ)

/-! ## The windows' blocks -/

theorem idx_h : ∀ t : Fin cfg0.N, win0_0.index t = ![t.val / 8, 0, t.val % 8, 0] :=
  (by decide +kernel : ∀ t : Fin grid0.N, win0_0.index t = ![t.val / 8, 0, t.val % 8, 0])
theorem idx_g : ∀ t : Fin cfg0.N, win0_1.index t = ![0, 0] := (by decide +kernel : ∀ t : Fin grid0.N, win0_1.index t = ![0, 0])
theorem idx_w : ∀ t : Fin cfg0.N, win0_2.index t = ![0, 0] := (by decide +kernel : ∀ t : Fin grid0.N, win0_2.index t = ![0, 0])
theorem idx_real : ∀ t : Fin cfg0.N, win0_3.index t = ![0, 0] := (by decide +kernel : ∀ t : Fin grid0.N, win0_3.index t = ![0, 0])
theorem idx_imag : ∀ t : Fin cfg0.N, win0_4.index t = ![0, 0] := (by decide +kernel : ∀ t : Fin grid0.N, win0_4.index t = ![0, 0])
theorem idx_cos : ∀ t : Fin cfg0.N, win0_5.index t = ![t.val % 8, 0, 0] :=
  (by decide +kernel : ∀ t : Fin grid0.N, win0_5.index t = ![t.val % 8, 0, 0])
theorem idx_sin : ∀ t : Fin cfg0.N, win0_6.index t = ![t.val % 8, 0, 0] :=
  (by decide +kernel : ∀ t : Fin grid0.N, win0_6.index t = ![t.val % 8, 0, 0])
theorem idx_out : ∀ t : Fin cfg0.N, win0_7.index t = ![t.val / 8, 0, t.val % 8, 0] :=
  (by decide +kernel : ∀ t : Fin grid0.N, win0_7.index t = ![t.val / 8, 0, t.val % 8, 0])

/-- A grid point is one of 64. -/
theorem lt_points (t : Fin cfg0.N) : t.val < 64 := lt_of_lt_of_eq t.isLt N_0

/-- The sequence of a point, and column `i` of its eight. -/
abbrev entry (t : Fin cfg0.N) : Fin 8 := ⟨t.val / 8, by have := lt_points t; omega⟩
abbrev columnOf (t : Fin cfg0.N) (i : Fin 8) : Fin 64 := ⟨t.val % 8 * 8 + i.val, by omega⟩

theorem rows_laid (h : FVec Ideal S32768x1024 .f32) (b : Fin 8) (j c : Fin 64) (d : Fin 1024) :
    shapeCast S8x64x64x1024 h shapeCasts_S32768x1024_S8x64x64x1024 (ix4 b j c d) = h (ix2 (at_ b j c) d) := by
  pointwise

theorem h_block (c : Dev nD) (t : Fin cfg0.N) (j : Fin 64) (i : Fin 8) (k : Fin 1024) :
    iblk m c 0 t (ix4 (0 : Fin 1) j i k : S1x64x8x1024.Idx)
      = m ((c : Thread nD τ).loc main_arg0) (ix2 (at_ (entry t) j (columnOf t i)) k : S32768x1024.Idx) := by
  have he : ((View.whole main_v2).slice (win0_0.rect t)).emb (ix4 (0 : Fin 1) j i k : S1x64x8x1024.Idx) = (ix4 (entry t) j (columnOf t i) k : S8x64x64x1024.Idx) := by
    blk_ext [idx_h t]
  blk_simp [iblk]
  refine (congrArg (V m c main_v2) he).trans ?_
  rw [rows_eq]
  exact rows_laid _ _ _ _ _

theorem g_block (c : Dev nD) (t : Fin cfg0.N) (k : Fin 1024) :
    iblk m c 1 t (ix2 0 k : S1x1024.Idx) = m ((c : Thread nD τ).loc main_arg1) (ix1 k : S1024.Idx) := by
  have he : ((View.whole main_v3).slice (win0_1.rect t)).emb (ix2 0 k : S1x1024.Idx) = (ix2 0 k : S1x1024.Idx) := by
    blk_ext [idx_g t]
  blk_simp [iblk]
  refine (congrArg (V m c main_v3) he).trans ?_
  rw [gains_eq]
  pointwise

theorem w_block (c : Dev nD) (t : Fin cfg0.N) (l : Fin 1024) (e : Fin 2048) :
    iblk m c 2 t (ix2 l e : S1024x2048.Idx) = m ((c : Thread nD τ).loc main_arg2) (ix2 l e : S1024x2048.Idx) := by
  blk_simp [iblk]
  rw [V_main_arg2]
  refine congrArg (m ((c : Thread nD τ).loc main_arg2)) ?_
  blk_ext [idx_w t]

theorem rowMajor_at {p q : ℕ} (a : Fin p) (b : Fin q) : ((⟨2, ![p, q]⟩ : Shape).rowMajor (ix2 a b)).val = a.val * q + b.val :=
  Shape.rowMajor_val_two _

theorem unit_at (i i' : Fin 8) (b : BitVec 16) (h : b = if i = i' then 0x3F80#16 else 0x0000#16) :
    FloatOps.ofBits (F := Ideal) .bf16 b = (if i = i' then 1 else 0 : EReal) := by
  subst h
  split
  · exact Ideal.ofBits_one_bf16
  · exact Ideal.ofBits_zero_bf16

theorem real_block (c : Dev nD) (t : Fin cfg0.N) (r : Fin 128) (i : Fin 8) (j : Fin 64) (i' : Fin 8) :
    iblk m c 3 t (ix2 (⟨r.val * 8 + i.val, by omega⟩ : Fin 1024) (rowOf j i') : S1024x512.Idx)
      = FloatOps.ofBits (F := Ideal) .bf16 (Cert.Kernel6Ideal.lit0 (⟨r.val * 64 + j.val, by omega⟩ : Fin 8192)) * if i = i' then 1 else 0 := by
  have he : ((View.whole main_v0).slice (win0_3.rect t)).emb (ix2 (⟨r.val * 8 + i.val, by omega⟩ : Fin 1024) (rowOf j i') : S1024x512.Idx)
      = (ix2 (⟨r.val * 8 + i.val, by omega⟩ : Fin 1024) (rowOf j i') : S1024x512.Idx) := by
    blk_ext [idx_real t]
  blk_simp [iblk]
  refine (congrArg (V m c main_v0) he).trans ?_
  rw [tables_eq, spreadTable_at]
  have hr : (⟨(r.val * 8 + i.val) / 8, by omega⟩ : Fin 128) = r := Fin.ext (by show (r.val * 8 + i.val) / 8 = r.val; omega)
  have hj : (⟨(j.val * 8 + i'.val) / 8, by omega⟩ : Fin 64) = j := Fin.ext (by show (j.val * 8 + i'.val) / 8 = j.val; omega)
  have hi : (⟨(r.val * 8 + i.val) % 8, by omega⟩ : Fin 8) = i := Fin.ext (by show (r.val * 8 + i.val) % 8 = i.val; omega)
  have hi' : (⟨(j.val * 8 + i'.val) % 8, by omega⟩ : Fin 8) = i' := Fin.ext (by show (j.val * 8 + i'.val) % 8 = i'.val; omega)
  dsimp only
  rw [hr, hj, hi, hi']
  exact congrArg₂ (· * ·) (congrArg (fun n => FloatOps.ofBits (F := Ideal) .bf16 (Cert.Kernel6Ideal.lit0 n)) (Fin.ext (rowMajor_at r j)))
    (unit_at i i' _ ((congrArg Cert.Kernel6Ideal.lit1 (Fin.ext (rowMajor_at i i'))).trans (one_table i i').1))

theorem imag_block (c : Dev nD) (t : Fin cfg0.N) (r : Fin 128) (i : Fin 8) (j : Fin 64) (i' : Fin 8) :
    iblk m c 4 t (ix2 (⟨r.val * 8 + i.val, by omega⟩ : Fin 1024) (rowOf j i') : S1024x512.Idx)
      = FloatOps.ofBits (F := Ideal) .bf16 (Cert.Kernel6Ideal.lit2 (⟨r.val * 64 + j.val, by omega⟩ : Fin 8192)) * if i = i' then 1 else 0 := by
  have he : ((View.whole main_v1).slice (win0_4.rect t)).emb (ix2 (⟨r.val * 8 + i.val, by omega⟩ : Fin 1024) (rowOf j i') : S1024x512.Idx)
      = (ix2 (⟨r.val * 8 + i.val, by omega⟩ : Fin 1024) (rowOf j i') : S1024x512.Idx) := by
    blk_ext [idx_imag t]
  blk_simp [iblk]
  refine (congrArg (V m c main_v1) he).trans ?_
  rw [tables_eq', spreadTable_at]
  have hr : (⟨(r.val * 8 + i.val) / 8, by omega⟩ : Fin 128) = r := Fin.ext (by show (r.val * 8 + i.val) / 8 = r.val; omega)
  have hj : (⟨(j.val * 8 + i'.val) / 8, by omega⟩ : Fin 64) = j := Fin.ext (by show (j.val * 8 + i'.val) / 8 = j.val; omega)
  have hi : (⟨(r.val * 8 + i.val) % 8, by omega⟩ : Fin 8) = i := Fin.ext (by show (r.val * 8 + i.val) % 8 = i.val; omega)
  have hi' : (⟨(j.val * 8 + i'.val) % 8, by omega⟩ : Fin 8) = i' := Fin.ext (by show (j.val * 8 + i'.val) % 8 = i'.val; omega)
  dsimp only
  rw [hr, hj, hi, hi']
  exact congrArg₂ (· * ·) (congrArg (fun n => FloatOps.ofBits (F := Ideal) .bf16 (Cert.Kernel6Ideal.lit2 n)) (Fin.ext (rowMajor_at r j)))
    (unit_at i i' _ ((congrArg Cert.Kernel6Ideal.lit3 (Fin.ext (rowMajor_at i i'))).trans (one_table i i').2))

theorem cos_block (c : Dev nD) (t : Fin cfg0.N) (k : Fin 64) (i : Fin 8) :
    iblk m c 5 t (ix3 (0 : Fin 1) (rowOf k i) (0 : Fin 1) : S1x512x1.Idx) = angleCos k (columnOf t i) := by
  have he : ((View.whole main_cst_3).slice (win0_5.rect t)).emb (ix3 (0 : Fin 1) (rowOf k i) (0 : Fin 1) : S1x512x1.Idx)
      = (ix3 (⟨t.val % 8, by omega⟩ : Fin 8) (rowOf k i) (0 : Fin 1) : S8x512x1.Idx) := by
    blk_ext [idx_cos t]
  blk_simp [iblk]
  refine (congrArg (V m c main_cst_3) he).trans ?_
  rw [angleCos_eq]
  refine congrArg (FloatOps.ofBits (F := Ideal) .f32) (((angle_table _).1).trans (congrArg Cert.Reference6Ideal.lit0 (Fin.ext ?_)))
  rw [rowMajor_at]
  dsimp only
  rw [show ((S8x512x1.rowMajor (ix3 (⟨t.val % 8, by omega⟩ : Fin 8) (rowOf k i) (0 : Fin 1))).val = t.val % 8 * 512 + (k.val * 8 + i.val)) by
    refine (Shape.rowMajor_val_three _).trans ?_
    show (t.val % 8 * 512 + (k.val * 8 + i.val)) * 1 + 0 = _
    omega]
  show _ = k.val * 64 + (t.val % 8 * 8 + i.val)
  omega

theorem sin_block (c : Dev nD) (t : Fin cfg0.N) (k : Fin 64) (i : Fin 8) :
    iblk m c 6 t (ix3 (0 : Fin 1) (rowOf k i) (0 : Fin 1) : S1x512x1.Idx) = angleSin k (columnOf t i) := by
  have he : ((View.whole main_cst_4).slice (win0_6.rect t)).emb (ix3 (0 : Fin 1) (rowOf k i) (0 : Fin 1) : S1x512x1.Idx)
      = (ix3 (⟨t.val % 8, by omega⟩ : Fin 8) (rowOf k i) (0 : Fin 1) : S8x512x1.Idx) := by
    blk_ext [idx_sin t]
  blk_simp [iblk]
  refine (congrArg (V m c main_cst_4) he).trans ?_
  rw [angleSin_eq]
  refine congrArg (FloatOps.ofBits (F := Ideal) .f32) (((angle_table _).2).trans (congrArg Cert.Reference6Ideal.lit1 (Fin.ext ?_)))
  rw [rowMajor_at]
  dsimp only
  rw [show ((S8x512x1.rowMajor (ix3 (⟨t.val % 8, by omega⟩ : Fin 8) (rowOf k i) (0 : Fin 1))).val = t.val % 8 * 512 + (k.val * 8 + i.val)) by
    refine (Shape.rowMajor_val_three _).trans ?_
    show (t.val % 8 * 512 + (k.val * 8 + i.val)) * 1 + 0 = _
    omega]
  show _ = k.val * 64 + (t.val % 8 * 8 + i.val)
  omega

/-- The index of table row `r`, column `j`, and its entry. -/
theorem entry_of {n : ℕ} (k j : Fin 64) (f : Fin n → BitVec 16) (g : Fin 4096 → BitVec 16) (o : ℕ) (ho : o + 4096 ≤ n)
    (h : ∀ i : Fin 4096, f ⟨o + i.val, by omega⟩ = g i) (x : Fin n) (hx : x.val = o + (k.val * 64 + j.val)) (y : Fin 4096) (hy : y.val = k.val * 64 + j.val) :
    FloatOps.ofBits (F := Ideal) .bf16 (f x) = FloatOps.ofBits (F := Ideal) .bf16 (g y) := by
  have e : x = ⟨o + y.val, by omega⟩ := Fin.ext (by show x.val = o + y.val; omega)
  exact congrArg _ ((congrArg f e).trans (h y))

/-- One entry of the block a point computes. -/
theorem point_at (c : Dev nD) (t : Fin cfg0.N) (k : Fin 64) (i : Fin 8) (e : Fin 2048) :
    out0_7 (F := Ideal) (iblk m c 0 t) (iblk m c 1 t) (iblk m c 2 t) (iblk m c 3 t) (iblk m c 4 t) (iblk m c 5 t) (iblk m c 6 t) (ix4 (0 : Fin 1) k i e)
      = out (m ((c : Thread nD τ).loc main_arg0)) (m ((c : Thread nD τ).loc main_arg1)) (m ((c : Thread nD τ).loc main_arg2))
        (ix4 (entry t) k (columnOf t i) e) := by
  have hm (j : Fin 64) (f : Fin 2048) : mappedRow (iblk m c 0 t) (iblk m c 1 t) (iblk m c 2 t) (rowOf j i) f
      = mapped (m ((c : Thread nD τ).loc main_arg0)) (m ((c : Thread nD τ).loc main_arg1)) (m ((c : Thread nD τ).loc main_arg2)) (at_ (entry t) j (columnOf t i)) f := by
    have hj : place (rowOf j i) = j := Fin.ext (by show (j.val * 8 + i.val) / 8 = j.val; omega)
    have hi : column (rowOf j i) = i := Fin.ext (by show (j.val * 8 + i.val) % 8 = i.val; omega)
    unfold mappedRow mapped
    rw [hj, hi, funext (h_block m c t j i), funext (g_block m c t)]
    exact Finset.sum_congr rfl fun l _ => congrArg _ (w_block m c t l f)
  have hs : (⟨512 + (k.val * 8 + i.val), by omega⟩ : Fin 1024) = (⟨(64 + k.val) * 8 + i.val, by omega⟩ : Fin 1024) :=
    Fin.ext (by show 512 + (k.val * 8 + i.val) = (64 + k.val) * 8 + i.val; omega)
  refine (block_at _ _ _ _ _ _ _ (cosines k) (minusSines k) (minusSines k) (minusCosines k) k i e
    (fun j i' => (real_block m c t ⟨k.val, by omega⟩ i j i').trans (congrArg (· * _)
      (entry_of k j _ _ 0 (by omega) (fun i => (congrArg _ (Fin.ext (Nat.zero_add _))).trans (real_table i).1) _ (Nat.zero_add _).symm _ (rowMajor_at k j))))
    (fun j i' => (imag_block m c t ⟨k.val, by omega⟩ i j i').trans (congrArg (· * _)
      (entry_of k j _ _ 0 (by omega) (fun i => (congrArg _ (Fin.ext (Nat.zero_add _))).trans (imag_table i).1) _ (Nat.zero_add _).symm _ (rowMajor_at k j))))
    (fun j i' => (congrArg (fun r => iblk m c 3 t (ix2 r (rowOf j i'))) hs).trans ((real_block m c t ⟨64 + k.val, by omega⟩ i j i').trans (congrArg (· * _)
      (entry_of k j _ _ 4096 (by omega) (fun i => (real_table i).2) _ (by show (64 + k.val) * 64 + j.val = 4096 + (k.val * 64 + j.val); omega) _ (rowMajor_at k j)))))
    (fun j i' => (congrArg (fun r => iblk m c 4 t (ix2 r (rowOf j i'))) hs).trans ((imag_block m c t ⟨64 + k.val, by omega⟩ i j i').trans (congrArg (· * _)
      (entry_of k j _ _ 4096 (by omega) (fun i => (imag_table i).2) _ (by show (64 + k.val) * 64 + j.val = 4096 + (k.val * 64 + j.val); omega) _ (rowMajor_at k j)))))).trans ?_
  rw [cos_block, sin_block]
  simp only [hm]
  rfl

/-! ## The array, the run, the claim -/

theorem out_place (t : Fin cfg0.N) (k : Fin 64) (i : Fin 8) (e : Fin 2048) :
    ((View.whole main_v4).slice (win0_7.rect t)).emb (ix4 (0 : Fin 1) k i e : S1x64x8x2048.Idx) = (ix4 (entry t) k (columnOf t i) e : S8x64x64x2048.Idx) := by
  blk_ext [idx_out t]

/-- The kernel's output array. -/
theorem final (c : Dev nD) : (dats m 0 c).arrAt 7 cfg0.N
    = out (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  obtain ⟨k, i, e, rfl⟩ : ∃ k i e, y = (ix4 (0 : Fin 1) k i e : S1x64x8x2048.Idx) := ⟨y 1, y 2, y 3, by
    funext a
    match a with
    | ⟨0, _⟩ => exact Subsingleton.elim (α := Fin 1) _ _
    | ⟨1, _⟩ => rfl
    | ⟨2, _⟩ => rfl
    | ⟨3, _⟩ => rfl⟩
  exact (point_at m c t k i e).trans (congrArg (out _ _ _) (out_place t k i e)).symm

/-- The kernel runs and leaves `out` in its result. -/
theorem run (ρ : Dev nD → PrngReg) : θ_run defs (onTc (τ := τ) (main (F := Ideal))) ⟨m, fun _ => 0, ρ⟩ fun r => ∀ c : Dev nD,
      r.2.mem ((c : Thread nD τ).loc main_v4)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 7).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans (V_main_arg2 m c))⟩) (run_main m ρ)

/-- The kernel's result is the reference's, on arguments that agree. -/
theorem algebraic : Cert.algebraic_Kernel6Ideal_Reference6Ideal
    (hKernel6Ideal := Cert.Kernel6Ideal.Gen.facts) (hReference6Ideal := Cert.Reference6Ideal.Gen.facts) := by
  intro m ρ m' ρ' _ hargs
  refine ⟨_, run m ρ, (θ_run _ _ _).mono (fun r h c => ⟨?_, (h c).2⟩) (Cert.Reference6Ideal.Value.run m' ρ')⟩
  obtain ⟨h0, h1, h2⟩ := hargs c
  refine ((h c).1.trans (ref_eq m' c)).trans ?_
  rw [h0, h1, h2]

end Cert.FourierIn

end
-- ==== Proof.FourierOut.lean ====
module

public import proofs.«01_k».proof.Proof.Gen.Kernel5Ideal.Value
public import proofs.«01_k».proof.Proof.Gen.Reference5Ideal.Run
public import proofs.«01_k».proof.Proof.Rows
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

/-! # The second transform over positions and the output map: the kernel's array is the reference's -/

namespace Cert.FourierOut

open Idealize.ShloMosaic Idealize.ShloMosaic.TcCoe Idealize.SL.Sem Cert.Rows

/-- The factor of the orthonormal transform. -/
abbrev scale : EReal := Scalar.ofBits (F := Ideal) .f32 0x3A800000#32

/-- The real part of the transform of one line of 64 positions, at one of its frequencies. -/
def wave (cos sin : Fin 64 → EReal) (re im : Fin 64 → EReal) : EReal :=
  ((∑ c, re c * cos c) + ∑ c, im c * sin c) * scale

section Reference
open Cert.Reference5Ideal Cert.Reference5Ideal.Gen

/-- The cosines. -/
def cosines (j c : Fin 64) : EReal := FloatOps.ofBits (F := Ideal) .bf16 (lit0 (S64x64.rowMajor (ix2 j c)))
/-- The sines. -/
def sines (j c : Fin 64) : EReal := FloatOps.ofBits (F := Ideal) .bf16 (lit1 (S64x64.rowMajor (ix2 j c)))

/-- Row `c` of line `k` of sequence `b`, among all rows. -/
abbrev at_ (b : Fin 8) (k c : Fin 64) : Fin 32768 := ⟨b.val * 4096 + k.val * 64 + c.val, by omega⟩

/-- The residual plus the output map of the transformed lines, at an index. -/
def out (q : FVec Ideal S32768x2048 .bf16) (w : FVec Ideal S1024x1024 .f32) (h : FVec Ideal S32768x1024 .f32) : FVec Ideal S8x64x64x1024 .f32 :=
  fun i => h (ix2 (at_ (i 0) (i 1) (i 2)) (i 3))
    + ∑ d : Fin 1024, wave (cosines (i 1)) (sines (i 1)) (fun c => q (ix2 (at_ (i 0) (i 2) c) (⟨d.val, by omega⟩ : Fin 2048)))
        (fun c => q (ix2 (at_ (i 0) (i 2) c) (⟨1024 + d.val, by omega⟩ : Fin 2048))) * w (ix2 d (i 3))

/-- What the reference computes is `out`. -/
theorem ref_eq (q : FVec Ideal S32768x2048 .bf16) (w : FVec Ideal S1024x1024 .f32) (h : FVec Ideal S32768x1024 .f32) :
    addf (F := Ideal) (shapeCast S8x64x64x1024 h shapeCasts_S32768x1024_S8x64x64x1024) (Host.dotGeneral dot_S8x64x64x1024_S1024x1024_S8x64x64x1024_3_0_012_1_n_n none (mulf (addf (transpose S8x64x64x1024 [0, 3, 1, 2] (Host.dotGeneral dot_S8x64x64x1024_S64x64_S8x64x1024x64_2_1_013_0_n_n none (shapeCast S8x64x64x1024 (extractStridedSlice S8x64x64x1x1024 ![0, 0, 0, 0, 0] (shapeCast S8x64x64x2x1024 (extf (F := Ideal) .f32 q bitsLt_bf16_f32) shapeCasts_S32768x2048_S8x64x64x2x1024) slices_S8x64x64x2x1024_S8x64x64x1x1024_0_0_0_0_0) shapeCasts_S8x64x64x1x1024_S8x64x64x1024) (extf (F := Ideal) .f32 ((fun i => FloatOps.ofBits .bf16 (lit0 (S64x64.rowMajor i)))) bitsLt_bf16_f32)) transposes_S8x64x1024x64_S8x64x64x1024_0_3_1_2) (transpose S8x64x64x1024 [0, 3, 1, 2] (Host.dotGeneral dot_S8x64x64x1024_S64x64_S8x64x1024x64_2_1_013_0_n_n none (shapeCast S8x64x64x1024 (extractStridedSlice S8x64x64x1x1024 ![0, 0, 0, 1, 0] (shapeCast S8x64x64x2x1024 (extf (F := Ideal) .f32 q bitsLt_bf16_f32) shapeCasts_S32768x2048_S8x64x64x2x1024) slices_S8x64x64x2x1024_S8x64x64x1x1024_0_0_0_1_0) shapeCasts_S8x64x64x1x1024_S8x64x64x1024) (extf (F := Ideal) .f32 ((fun i => FloatOps.ofBits .bf16 (lit1 (S64x64.rowMajor i)))) bitsLt_bf16_f32)) transposes_S8x64x1024x64_S8x64x64x1024_0_3_1_2)) (broadcastInDim S8x64x64x1024 ![] bcast_S_S8x64x64x1024 (constant S_ .f32 0x3A800000#32))) w) = out q w h := by
  funext i
  idx_vars i
  pointwise
  rfl

end Reference

/-! ## One block of the kernel -/

open Cert.Kernel5Ideal Cert.Kernel5Ideal.Gen

/-- One transformed line of the block, as the kernel writes it. -/
abbrev line (x0 x1 : FVec Ideal S64x64 .bf16) (a b : FVec Ideal S1x1x64x1024 .bf16) : FVec Ideal S64x1024 .bf16 :=
  k0_pay5 (F := Ideal) a b x0 x1

theorem line_at (x0 x1 : FVec Ideal S64x64 .bf16) (a b : FVec Ideal S1x1x64x1024 .bf16) (j : Fin 64) (d : Fin 1024) :
    line x0 x1 a b (ix2 j d)
      = wave (fun c => x0 (ix2 j c)) (fun c => x1 (ix2 j c)) (fun c => a (ix4 0 0 c d)) fun c => b (ix4 0 0 c d) := by
  pointwise [line, k0_pay5]
  unfold wave
  simp only [mul_comm (x0 _), mul_comm (x1 _)]
  rfl

theorem re_inb (k : Fin 8) (a : Fin 4) : ![0, k.val, 0, 0] a + S1x1x64x1024.size a ≤ S1x8x64x2048.size a := by
  match a with
  | ⟨0, _⟩ => show 0 + 1 ≤ 1; omega
  | ⟨1, _⟩ => show k.val + 1 ≤ 8; omega
  | ⟨2, _⟩ => show 0 + 64 ≤ 64; omega
  | ⟨3, _⟩ => show 0 + 1024 ≤ 2048; omega

theorem im_inb (k : Fin 8) (a : Fin 4) : ![0, k.val, 0, 1024] a + S1x1x64x1024.size a ≤ S1x8x64x2048.size a := by
  match a with
  | ⟨0, _⟩ => show 0 + 1 ≤ 1; omega
  | ⟨1, _⟩ => show k.val + 1 ≤ 8; omega
  | ⟨2, _⟩ => show 0 + 64 ≤ 64; omega
  | ⟨3, _⟩ => show 1024 + 1024 ≤ 2048; omega

/-- Line `k` of a block's real parts, and of its imaginary parts. -/
abbrev realPart (x : FVec Ideal S1x8x64x2048 .bf16) (k : Fin 8) : FVec Ideal S1x1x64x1024 .bf16 :=
  View.ld (Val := Elt Ideal) (e' := .bf16) x (Rect.unit (s := S1x8x64x2048) ![0, k.val, 0, 0] S1x1x64x1024.size (re_inb k))
abbrev imagPart (x : FVec Ideal S1x8x64x2048 .bf16) (k : Fin 8) : FVec Ideal S1x1x64x1024 .bf16 :=
  View.ld (Val := Elt Ideal) (e' := .bf16) x (Rect.unit (s := S1x8x64x2048) ![0, k.val, 0, 1024] S1x1x64x1024.size (im_inb k))

theorem realPart_at (x : FVec Ideal S1x8x64x2048 .bf16) (k : Fin 8) (c : Fin 64) (d : Fin 1024) :
    realPart x k (ix4 0 0 c d) = x (ix4 (0 : Fin 1) k c (⟨d.val, by omega⟩ : Fin 2048)) := by
  refine congrArg x ?_
  funext a
  match a with
  | ⟨0, _⟩ => rfl
  | ⟨1, _⟩ => exact Fin.ext (by show k.val + 1 * 0 = k.val; omega)
  | ⟨2, _⟩ => exact Fin.ext (by show 0 + 1 * c.val = c.val; omega)
  | ⟨3, _⟩ => exact Fin.ext (by show 0 + 1 * d.val = d.val; omega)

theorem imagPart_at (x : FVec Ideal S1x8x64x2048 .bf16) (k : Fin 8) (c : Fin 64) (d : Fin 1024) :
    imagPart x k (ix4 0 0 c d) = x (ix4 (0 : Fin 1) k c (⟨1024 + d.val, by omega⟩ : Fin 2048)) := by
  refine congrArg x ?_
  funext a
  match a with
  | ⟨0, _⟩ => rfl
  | ⟨1, _⟩ => exact Fin.ext (by show k.val + 1 * 0 = k.val; omega)
  | ⟨2, _⟩ => exact Fin.ext (by show 0 + 1 * c.val = c.val; omega)
  | ⟨3, _⟩ => exact Fin.ext (by show 1024 + 1 * d.val = 1024 + d.val; omega)

/-- The eight transformed lines stacked, and their product with the map. -/
abbrev stacked (x0 x1 : FVec Ideal S64x64 .bf16) (x2 : FVec Ideal S1x8x64x2048 .bf16) : FVec Ideal S512x1024 .bf16 :=
  concatenate S512x1024 0 (List.ofFn fun k : Fin 8 => (⟨S64x1024, line x0 x1 (realPart x2 k) (imagPart x2 k)⟩ : (s : Shape) × (s.Idx → EReal)))
    concatenates_S64x1024_S64x1024_S64x1024_S64x1024_S64x1024_S64x1024_S64x1024_S64x1024_S512x1024_d0

theorem stacked_at (x0 x1 : FVec Ideal S64x64 .bf16) (x2 : FVec Ideal S1x8x64x2048 .bf16) (r : Fin 512) (d : Fin 1024) :
    stacked x0 x1 x2 (ix2 r d)
      = wave (fun c => x0 (ix2 (⟨r.val % 64, Nat.mod_lt _ (by omega)⟩ : Fin 64) c)) (fun c => x1 (ix2 (⟨r.val % 64, Nat.mod_lt _ (by omega)⟩ : Fin 64) c))
        (fun c => x2 (ix4 (0 : Fin 1) (⟨r.val / 64, by omega⟩ : Fin 8) c (⟨d.val, by omega⟩ : Fin 2048)))
        fun c => x2 (ix4 (0 : Fin 1) (⟨r.val / 64, by omega⟩ : Fin 8) c (⟨1024 + d.val, by omega⟩ : Fin 2048)) := by
  refine (concatenate_ofFn_apply (t := S512x1024) (s₁ := S64x1024) 0 (fun k : Fin 8 => line x0 x1 (realPart x2 k) (imagPart x2 k))
    concatenates_S64x1024_S64x1024_S64x1024_S64x1024_S64x1024_S64x1024_S64x1024_S64x1024_S512x1024_d0 rfl 64 rfl (ix2 r d)
    ⟨r.val / 64, by omega⟩ rfl (ix2 (⟨r.val % 64, Nat.mod_lt _ (by omega)⟩ : Fin 64) d) rfl ?_).trans ?_
  · intro b hb
    match b with
    | ⟨0, _⟩ => exact absurd rfl hb
    | ⟨1, _⟩ => rfl
  · exact (line_at _ _ _ _ _ _).trans (congrArg₂ (wave _ _) (funext fun c => realPart_at _ _ c d) (funext fun c => imagPart_at _ _ c d))

/-- The product of eight lines, of which the last two are transformed with it. -/
theorem product_eq (x0 x1 : FVec Ideal S64x64 .bf16) (v0 v1 v2 v3 v4 v5 : FVec Ideal S64x1024 .bf16)
    (a6 b6 a7 b7 : FVec Ideal S1x1x64x1024 .bf16) (w : FVec Ideal S1024x1024 .bf16) :
    k0_pay14 (F := Ideal) v0 v1 v2 v3 v4 v5 (k0_pay12 a6) (k0_pay13 b6) x0 (constant S64x1024 .f32 0x00000000#32) x1 a7 b7 x0 x1 w
      = matmul (F := Ideal) dot_S512x1024_S1024x1024_S512x1024_1_0_0_1_n_n none
        (concatenate S512x1024 0 [⟨S64x1024, v0⟩, ⟨S64x1024, v1⟩, ⟨S64x1024, v2⟩, ⟨S64x1024, v3⟩, ⟨S64x1024, v4⟩, ⟨S64x1024, v5⟩,
          ⟨S64x1024, line x0 x1 a6 b6⟩, ⟨S64x1024, line x0 x1 a7 b7⟩]
          concatenates_S64x1024_S64x1024_S64x1024_S64x1024_S64x1024_S64x1024_S64x1024_S64x1024_S512x1024_d0)
        (shapeCast S1024x1024 w shapeCasts_S1024x1024_S1024x1024) (constant S512x1024 .f32 0x00000000#32) := rfl

/-- Eight stacked lines, whatever the arrays they are lines of are called. -/
theorem stacked_eq (x0 x1 : FVec Ideal S64x64 .bf16) (x2 : FVec Ideal S1x8x64x2048 .bf16) (a b : Fin 8 → FVec Ideal S1x1x64x1024 .bf16)
    (ha : ∀ k, a k = realPart x2 k) (hb : ∀ k, b k = imagPart x2 k) (h) :
    concatenate S512x1024 0 [(⟨S64x1024, line x0 x1 (a 0) (b 0)⟩ : (s : Shape) × (s.Idx → EReal)), ⟨S64x1024, line x0 x1 (a 1) (b 1)⟩,
      ⟨S64x1024, line x0 x1 (a 2) (b 2)⟩, ⟨S64x1024, line x0 x1 (a 3) (b 3)⟩, ⟨S64x1024, line x0 x1 (a 4) (b 4)⟩,
      ⟨S64x1024, line x0 x1 (a 5) (b 5)⟩, ⟨S64x1024, line x0 x1 (a 6) (b 6)⟩, ⟨S64x1024, line x0 x1 (a 7) (b 7)⟩] h
      = stacked x0 x1 x2 := by
  obtain rfl : a = realPart x2 := funext ha
  obtain rfl : b = imagPart x2 := funext hb
  rfl

theorem line6 (x0 x1) (a b) : k0_pay6 (F := Ideal) a b x0 x1 = line x0 x1 a b := rfl
theorem line7 (x0 x1) (a b) : k0_pay7 (F := Ideal) a b x0 x1 = line x0 x1 a b := rfl
theorem line8 (x0 x1) (a b) : k0_pay8 (F := Ideal) a b x0 x1 = line x0 x1 a b := rfl
theorem line10 (x0 x1) (a b) : k0_pay10 (F := Ideal) (k0_pay9 a) b x0 x1 = line x0 x1 a b := rfl
theorem line11 (x0 x1) (a b) : k0_pay11 (F := Ideal) a b x0 x1 = line x0 x1 a b := rfl

theorem mapped_eq (x0 x1 : FVec Ideal S64x64 .bf16) (x2 : FVec Ideal S1x8x64x2048 .bf16) (x3 : FVec Ideal S1024x1024 .bf16)
    (x4 : FVec Ideal S1x64x8x1024 .f32) (r : Fin 512) (o : Fin 1024) :
    k0_pay29 (F := Ideal) x0 x1 x2 x3 x4 (ix2 r o) = ∑ d : Fin 1024, stacked x0 x1 x2 (ix2 r d) * x3 (ix2 d o) := by
  have h0 : View.ld (Val := Elt Ideal) (e' := .bf16) x0 r0_2 = x0 := whole S64x64 (e := .bf16) x0 ![0, 0] (by decide) _
  have h1 : View.ld (Val := Elt Ideal) (e' := .bf16) x1 r0_2 = x1 := whole S64x64 (e := .bf16) x1 ![0, 0] (by decide) _
  have h3 : View.ld (Val := Elt Ideal) (e' := .bf16) x3 r0_17 = x3 := whole S1024x1024 (e := .bf16) x3 ![0, 0] (by decide) _
  unfold k0_pay29 k0_pay28 k0_pay27 k0_pay26 k0_pay25 k0_pay24 k0_pay23 k0_pay22 k0_pay21 k0_pay20
  rw [h0, h1, h3, product_eq, line6, line7, line8, line10, line11]
  have e := stacked_eq x0 x1 x2
    (fun k => match k with
      | 0 => View.ld (Val := Elt Ideal) (e' := .bf16) x2 r0_0 | 1 => View.ld (Val := Elt Ideal) (e' := .bf16) x2 r0_3
      | 2 => View.ld (Val := Elt Ideal) (e' := .bf16) x2 r0_5 | 3 => View.ld (Val := Elt Ideal) (e' := .bf16) x2 r0_7
      | 4 => View.ld (Val := Elt Ideal) (e' := .bf16) x2 r0_9 | 5 => View.ld (Val := Elt Ideal) (e' := .bf16) x2 r0_11
      | 6 => View.ld (Val := Elt Ideal) (e' := .bf16) x2 r0_13 | 7 => View.ld (Val := Elt Ideal) (e' := .bf16) x2 r0_15)
    (fun k => match k with
      | 0 => View.ld (Val := Elt Ideal) (e' := .bf16) x2 r0_1 | 1 => View.ld (Val := Elt Ideal) (e' := .bf16) x2 r0_4
      | 2 => View.ld (Val := Elt Ideal) (e' := .bf16) x2 r0_6 | 3 => View.ld (Val := Elt Ideal) (e' := .bf16) x2 r0_8
      | 4 => View.ld (Val := Elt Ideal) (e' := .bf16) x2 r0_10 | 5 => View.ld (Val := Elt Ideal) (e' := .bf16) x2 r0_12
      | 6 => View.ld (Val := Elt Ideal) (e' := .bf16) x2 r0_14 | 7 => View.ld (Val := Elt Ideal) (e' := .bf16) x2 r0_16)
    (fun k => match k with | 0 | 1 | 2 | 3 | 4 | 5 | 6 | 7 => rfl) (fun k => match k with | 0 | 1 | 2 | 3 | 4 | 5 | 6 | 7 => rfl)
    concatenates_S64x1024_S64x1024_S64x1024_S64x1024_S64x1024_S64x1024_S64x1024_S64x1024_S512x1024_d0
  refine (congrFun (congrArg (fun s : FVec Ideal S512x1024 .bf16 => matmul (F := Ideal) dot_S512x1024_S1024x1024_S512x1024_1_0_0_1_n_n none s
    (shapeCast S1024x1024 x3 shapeCasts_S1024x1024_S1024x1024) (constant S512x1024 .f32 0x00000000#32)) e) (ix2 r o)).trans ?_
  generalize stacked x0 x1 x2 = s
  pointwise

/-- What a block of the result holds, from the residual's block and the mapped lines. -/
def laid (x4 : FVec Ideal S1x64x8x1024 .f32) (p : FVec Ideal S512x1024 .f32) : FVec Ideal S1x64x8x1024 .f32 :=
  fun y => x4 y + p (ix2 (⟨(y 2).val * 64 + (y 1).val, by
    have h1 : (y 1).val < 64 := (y 1).isLt
    have h2 : (y 2).val < 8 := (y 2).isLt
    omega⟩ : Fin 512) (y 3))

theorem laid_piece (a : FVec Ideal S1x64x1x1024 .f32) (b : FVec Ideal S64x1024 .f32) (hc) (hd) (j : Fin 64) (d : Fin 1024) :
    shapeCast S1x64x1x1024 (addf (F := Ideal) (shapeCast S64x1024 a hc) b) hd (ix4 0 j 0 d) = a (ix4 0 j 0 d) + b (ix2 j d) := by
  pointwise

/-- Each of the kernel's stores is its part of the block. -/
theorem piece_at (x4 : FVec Ideal S1x64x8x1024 .f32) (p : FVec Ideal S512x1024 .f32) (n o : ℕ) (ho : o = n * 64) (h) (hc) (hl) (hd)
    (z : S1x64x1x1024.Idx) :
    shapeCast S1x64x1x1024 (addf (F := Ideal) (shapeCast S64x1024 (View.ld (Val := Elt Ideal) (e' := .f32) x4 (Rect.unit (s := S1x64x8x1024) ![0, 0, n, 0] S1x64x1x1024.size h)) hc)
        (extractStridedSlice S64x1024 ![o, 0] p hl)) hd z
      = laid x4 p ((Rect.unit (s := S1x64x8x1024) ![0, 0, n, 0] S1x64x1x1024.size h).emb z) := by
  obtain ⟨j, d, rfl⟩ : ∃ j d, z = (ix4 0 j 0 d : S1x64x1x1024.Idx) := ⟨z 1, z 3, by
    funext a
    match a with
    | ⟨0, _⟩ => exact Subsingleton.elim (α := Fin 1) _ _
    | ⟨1, _⟩ => rfl
    | ⟨2, _⟩ => exact Subsingleton.elim (α := Fin 1) _ _
    | ⟨3, _⟩ => rfl⟩
  refine (laid_piece _ _ hc hd j d).trans (congrArg₂ (· + ·) rfl (congrArg p (funext fun a => Fin.ext ?_)))
  match a with
  | ⟨0, _⟩ => show o + j.val = (n + 1 * 0) * 64 + (0 + 1 * j.val); omega
  | ⟨1, _⟩ => show 0 + d.val = 0 + 1 * d.val; omega

theorem block_at (x0 x1 : FVec Ideal S64x64 .bf16) (x2 : FVec Ideal S1x8x64x2048 .bf16) (x3 : FVec Ideal S1024x1024 .bf16)
    (x4 : FVec Ideal S1x64x8x1024 .f32) (y : S1x64x8x1024.Idx) :
    out0_5 (F := Ideal) x0 x1 x2 x3 x4 y = laid x4 (k0_pay29 (F := Ideal) x0 x1 x2 x3 x4) y := by
  refine View.canon_apply_of_pieces (Val := Elt Ideal) (e := .f32) (laid x4 (k0_pay29 (F := Ideal) x0 x1 x2 x3 x4)) _ ?_ y (cover0_5 _ _ _ _ _ _ _ _ y)
  simp only [List.forall_mem_cons]
  repeat' first
    | exact fun _ h => absurd h List.not_mem_nil
    | refine ⟨piece_at x4 (k0_pay29 (F := Ideal) x0 x1 x2 x3 x4) _ _ (by decide) _ _ _ _, ?_⟩

/-- A block of the result, at an index. -/
theorem entry_at (x0 x1 : FVec Ideal S64x64 .bf16) (x2 : FVec Ideal S1x8x64x2048 .bf16) (x3 : FVec Ideal S1024x1024 .bf16)
    (x4 : FVec Ideal S1x64x8x1024 .f32) (j : Fin 64) (k : Fin 8) (o : Fin 1024) :
    out0_5 (F := Ideal) x0 x1 x2 x3 x4 (ix4 (0 : Fin 1) j k o)
      = x4 (ix4 (0 : Fin 1) j k o) + ∑ d : Fin 1024, wave (fun i => x0 (ix2 j i)) (fun i => x1 (ix2 j i))
          (fun i => x2 (ix4 (0 : Fin 1) k i (⟨d.val, by omega⟩ : Fin 2048)))
          (fun i => x2 (ix4 (0 : Fin 1) k i (⟨1024 + d.val, by omega⟩ : Fin 2048))) * x3 (ix2 d o) := by
  have hq : (⟨(k.val * 64 + j.val) / 64, by omega⟩ : Fin 8) = k := Fin.ext (by show (k.val * 64 + j.val) / 64 = k.val; omega)
  have hr : (⟨(k.val * 64 + j.val) % 64, Nat.mod_lt _ (by omega)⟩ : Fin 64) = j := Fin.ext (by show (k.val * 64 + j.val) % 64 = j.val; omega)
  have hs (d : Fin 1024) := stacked_at x0 x1 x2 (⟨k.val * 64 + j.val, by omega⟩ : Fin 512) d
  dsimp only at hs
  rw [hq, hr] at hs
  refine (block_at _ _ _ _ _ _).trans (congrArg (_ + ·) ((mapped_eq x0 x1 x2 x3 x4 (⟨k.val * 64 + j.val, by omega⟩ : Fin 512) o).trans ?_))
  exact Finset.sum_congr rfl fun d _ => congrArg (· * _) (hs d)

variable (m : (ℓ : Loc nD τ sig) → Buf (Elt Ideal) ℓ)

/-! ## What the region finds -/

/-- The two programs print the same tables. -/
theorem cos_table : ∀ i : Fin 4096, Cert.Kernel5Ideal.lit0 i = Cert.Reference5Ideal.lit0 i := by decide +kernel
theorem sin_table : ∀ i : Fin 4096, Cert.Kernel5Ideal.lit1 i = Cert.Reference5Ideal.lit1 i := by decide +kernel

theorem cos_eq (c : Dev nD) : V m c main_cst = fun i => FloatOps.ofBits (F := Ideal) .bf16 (Cert.Kernel5Ideal.lit0 (S64x64.rowMajor i)) := by
  dsimp only [V, hostOps0]
  after_results
  rfl
theorem sin_eq (c : Dev nD) : V m c main_cst_0 = fun i => FloatOps.ofBits (F := Ideal) .bf16 (Cert.Kernel5Ideal.lit1 (S64x64.rowMajor i)) := by
  dsimp only [V, hostOps0]
  after_results
  rfl
theorem lines_eq (c : Dev nD) : V m c main_v1 = shapeCast S8x64x64x2048 (m ((c : Thread nD τ).loc main_arg0)) shapeCasts_S32768x2048_S8x64x64x2048 := by
  dsimp only [V, hostOps0]
  after_results
  rfl
theorem residual_eq (c : Dev nD) : V m c main_v2 = shapeCast S8x64x64x1024 (m ((c : Thread nD τ).loc main_arg2)) shapeCasts_S32768x1024_S8x64x64x1024 := by
  dsimp only [V, hostOps0]
  after_results
  rfl
theorem map_eq (c : Dev nD) : V m c main_v0 = truncf (F := Ideal) .bf16 (m ((c : Thread nD τ).loc main_arg1)) bitsLt_bf16_f32 := by
  dsimp only [V, hostOps0]
  after_results

/-! ## The windows' blocks -/

theorem idx_cos : ∀ t : Fin cfg0.N, win0_0.index t = ![0, 0] := (by decide +kernel : ∀ t : Fin grid0.N, win0_0.index t = ![0, 0])
theorem idx_sin : ∀ t : Fin cfg0.N, win0_1.index t = ![0, 0] := (by decide +kernel : ∀ t : Fin grid0.N, win0_1.index t = ![0, 0])
theorem idx_lines : ∀ t : Fin cfg0.N, win0_2.index t = ![t.val / 8, t.val % 8, 0, 0] :=
  (by decide +kernel : ∀ t : Fin grid0.N, win0_2.index t = ![t.val / 8, t.val % 8, 0, 0])
theorem idx_map : ∀ t : Fin cfg0.N, win0_3.index t = ![0, 0] := (by decide +kernel : ∀ t : Fin grid0.N, win0_3.index t = ![0, 0])
theorem idx_residual : ∀ t : Fin cfg0.N, win0_4.index t = ![t.val / 8, 0, t.val % 8, 0] :=
  (by decide +kernel : ∀ t : Fin grid0.N, win0_4.index t = ![t.val / 8, 0, t.val % 8, 0])
theorem idx_out : ∀ t : Fin cfg0.N, win0_5.index t = ![t.val / 8, 0, t.val % 8, 0] :=
  (by decide +kernel : ∀ t : Fin grid0.N, win0_5.index t = ![t.val / 8, 0, t.val % 8, 0])

/-- A grid point is one of 64. -/
theorem lt_points (t : Fin cfg0.N) : t.val < 64 := lt_of_lt_of_eq t.isLt N_0

/-- The batch entry of a point, and the line `k` of its group. -/
abbrev entry (t : Fin cfg0.N) : Fin 8 := ⟨t.val / 8, by have := lt_points t; omega⟩
abbrev lineOf (t : Fin cfg0.N) (k : Fin 8) : Fin 64 := ⟨t.val % 8 * 8 + k.val, by have := lt_points t; omega⟩

theorem cos_block (c : Dev nD) (t : Fin cfg0.N) (j k : Fin 64) : iblk m c 0 t (ix2 j k : S64x64.Idx) = cosines j k := by
  blk_simp [iblk]
  rw [cos_eq]
  refine (congrArg (fun i => FloatOps.ofBits (F := Ideal) .bf16 (Cert.Kernel5Ideal.lit0 (S64x64.rowMajor i))) (?_ : _ = (ix2 j k : S64x64.Idx))).trans ?_
  · blk_ext [idx_cos t]
  · exact congrArg (FloatOps.ofBits (F := Ideal) .bf16) (cos_table _)

theorem sin_block (c : Dev nD) (t : Fin cfg0.N) (j k : Fin 64) : iblk m c 1 t (ix2 j k : S64x64.Idx) = sines j k := by
  blk_simp [iblk]
  rw [sin_eq]
  refine (congrArg (fun i => FloatOps.ofBits (F := Ideal) .bf16 (Cert.Kernel5Ideal.lit1 (S64x64.rowMajor i))) (?_ : _ = (ix2 j k : S64x64.Idx))).trans ?_
  · blk_ext [idx_sin t]
  · exact congrArg (FloatOps.ofBits (F := Ideal) .bf16) (sin_table _)

theorem map_block (c : Dev nD) (t : Fin cfg0.N) (d o : Fin 1024) :
    iblk m c 3 t (ix2 d o : S1024x1024.Idx) = m ((c : Thread nD τ).loc main_arg1) (ix2 d o : S1024x1024.Idx) := by
  blk_simp [iblk]
  rw [map_eq]
  refine congrArg (m ((c : Thread nD τ).loc main_arg1)) ?_
  blk_ext [idx_map t]

theorem lines_laid (q : FVec Ideal S32768x2048 .bf16) (b : Fin 8) (k i : Fin 64) (d : Fin 2048) :
    shapeCast S8x64x64x2048 q shapeCasts_S32768x2048_S8x64x64x2048 (ix4 b k i d) = q (ix2 (at_ b k i) d) := by
  pointwise

theorem residual_laid (h : FVec Ideal S32768x1024 .f32) (b : Fin 8) (k i : Fin 64) (d : Fin 1024) :
    shapeCast S8x64x64x1024 h shapeCasts_S32768x1024_S8x64x64x1024 (ix4 b k i d) = h (ix2 (at_ b k i) d) := by
  pointwise

theorem lines_block (c : Dev nD) (t : Fin cfg0.N) (k : Fin 8) (i : Fin 64) (d : Fin 2048) :
    iblk m c 2 t (ix4 (0 : Fin 1) k i d : S1x8x64x2048.Idx)
      = m ((c : Thread nD τ).loc main_arg0) (ix2 (at_ (entry t) (lineOf t k) i) d : S32768x2048.Idx) := by
  have he : ((View.whole main_v1).slice (win0_2.rect t)).emb (ix4 (0 : Fin 1) k i d : S1x8x64x2048.Idx) = (ix4 (entry t) (lineOf t k) i d : S8x64x64x2048.Idx) := by
    blk_ext [idx_lines t]
  blk_simp [iblk]
  refine (congrArg (V m c main_v1) he).trans ?_
  rw [lines_eq]
  exact lines_laid _ _ _ _ _

theorem residual_block (c : Dev nD) (t : Fin cfg0.N) (j : Fin 64) (k : Fin 8) (o : Fin 1024) :
    iblk m c 4 t (ix4 (0 : Fin 1) j k o : S1x64x8x1024.Idx)
      = m ((c : Thread nD τ).loc main_arg2) (ix2 (at_ (entry t) j (lineOf t k)) o : S32768x1024.Idx) := by
  have he : ((View.whole main_v2).slice (win0_4.rect t)).emb (ix4 (0 : Fin 1) j k o : S1x64x8x1024.Idx) = (ix4 (entry t) j (lineOf t k) o : S8x64x64x1024.Idx) := by
    blk_ext [idx_residual t]
  blk_simp [iblk]
  refine (congrArg (V m c main_v2) he).trans ?_
  rw [residual_eq]
  exact residual_laid _ _ _ _ _

/-- One entry of the block a point computes. -/
theorem point_at (c : Dev nD) (t : Fin cfg0.N) (j : Fin 64) (k : Fin 8) (o : Fin 1024) :
    out0_5 (F := Ideal) (iblk m c 0 t) (iblk m c 1 t) (iblk m c 2 t) (iblk m c 3 t) (iblk m c 4 t) (ix4 (0 : Fin 1) j k o)
      = out (m ((c : Thread nD τ).loc main_arg0)) (m ((c : Thread nD τ).loc main_arg1)) (m ((c : Thread nD τ).loc main_arg2))
        (ix4 (entry t) j (lineOf t k) o) := by
  refine (entry_at _ _ _ _ _ j k o).trans (congrArg₂ (· + ·) (residual_block m c t j k o) (Finset.sum_congr rfl fun d _ =>
    congrArg₂ (· * ·) ?_ (map_block m c t d o)))
  rw [funext (cos_block m c t j), funext (sin_block m c t j), funext fun i => lines_block m c t k i (⟨d.val, by omega⟩ : Fin 2048),
    funext fun i => lines_block m c t k i (⟨1024 + d.val, by omega⟩ : Fin 2048)]
  rfl

/-! ## The array, the run, the claim -/

theorem he_out (t : Fin cfg0.N) (j : Fin 64) (k : Fin 8) (o : Fin 1024) :
    ((View.whole main_v3).slice (win0_5.rect t)).emb (ix4 (0 : Fin 1) j k o : S1x64x8x1024.Idx) = (ix4 (entry t) j (lineOf t k) o : S8x64x64x1024.Idx) := by
  blk_ext [idx_out t]

/-- The kernel's output array. -/
theorem final (c : Dev nD) : (dats m 0 c).arrAt 5 cfg0.N
    = out (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨j, k, o, rfl⟩ : ∃ j k o, y = (ix4 (0 : Fin 1) j k o : S1x64x8x1024.Idx) := ⟨y 1, y 2, y 3, by
    funext a
    match a with
    | ⟨0, _⟩ => exact Subsingleton.elim (α := Fin 1) _ _
    | ⟨1, _⟩ => rfl
    | ⟨2, _⟩ => rfl
    | ⟨3, _⟩ => rfl⟩
  exact (point_at m c t j k o).trans (congrArg (out _ _ _) (he_out t j k o)).symm

/-- The kernel runs and leaves `out` in its result. -/
theorem run (ρ : Dev nD → PrngReg) : θ_run defs (onTc (τ := τ) (main (F := Ideal))) ⟨m, fun _ => 0, ρ⟩ fun r => ∀ c : Dev nD,
      r.2.mem ((c : Thread nD τ).loc main_v3)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.Kernel5Ideal.Value.run_blocks m ρ)

/-- The kernel's result is the reference's, on arguments that agree. -/
theorem algebraic : Cert.algebraic_Kernel5Ideal_Reference5Ideal
    (hKernel5Ideal := Cert.Kernel5Ideal.Gen.facts) (hReference5Ideal := Cert.Reference5Ideal.Gen.facts) := by
  intro m ρ m' ρ' _ hargs
  refine ⟨_, run m ρ, (θ_run _ _ _).mono (fun r h c => ⟨?_, (h c).2⟩) (Cert.Reference5Ideal.Value.run m' ρ')⟩
  obtain ⟨h0, h1, h2⟩ := hargs c
  refine (h c).1.trans ?_
  rw [h0, h1, h2]
  exact ref_eq _ _ _

end Cert.FourierOut

end
-- ==== Proof.Joined.lean ====
module

public import proofs.«01_k».proof.Proof.Gen.Kernel8Ideal.Value
public import proofs.«01_k».proof.Proof.Gen.Reference8Ideal.Read
public import proofs.«01_k».proof.Proof.Gen.Reference8Ideal.Run
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

/-! # The mixer's input map joined with the transform over features -/

namespace Cert.JoinedMaps

open Cert.Kernel8Ideal Cert.Kernel8Ideal.Gen
open Idealize.ShloMosaic Idealize.ShloMosaic.TcCoe Idealize.SL.Sem

/-- The product of the two maps, at an entry. -/
def out (a : FVec Ideal S1024x1024 .f32) (b : FVec Ideal S1024x2048 .f32) : FVec Ideal S1024x2048 .bf16 :=
  fun i => ∑ k : Fin 1024, a (ix2 (i 0) k) * b (ix2 k (i 1))

theorem ref_eq (a : FVec Ideal S1024x1024 .f32) (b : FVec Ideal S1024x2048 .f32) :
    Cert.Reference8Ideal.Read.val_main_v1 (F := Ideal) a b = out a b := by
  funext i
  idx_vars i
  pointwise [Cert.Reference8Ideal.Read.val_main_v1, Cert.Reference8Ideal.Read.val_main_v0, out]

/-- One block of the kernel. -/
theorem pay_at (a : FVec Ideal S512x1024 .f32) (b : FVec Ideal S1024x512 .f32) (r j : Fin 512) :
    k0_pay1 (F := Ideal) a b (ix2 r j) = ∑ k : Fin 1024, a (ix2 r k) * b (ix2 k j) := by
  pointwise [k0_pay1]

variable (m : (ℓ : Loc nD τ sig) → Buf (Elt Ideal) ℓ)

theorem idx_a : ∀ t : Fin cfg0.N, win0_0.index t = ![t.val / 4, 0] := (by decide +kernel : ∀ t : Fin grid0.N, win0_0.index t = ![t.val / 4, 0])
theorem idx_b : ∀ t : Fin cfg0.N, win0_1.index t = ![0, t.val % 4] := (by decide +kernel : ∀ t : Fin grid0.N, win0_1.index t = ![0, t.val % 4])
theorem idx_out : ∀ t : Fin cfg0.N, win0_2.index t = ![t.val / 4, t.val % 4] := (by decide +kernel : ∀ t : Fin grid0.N, win0_2.index t = ![t.val / 4, t.val % 4])

theorem lt_points (t : Fin cfg0.N) : t.val < 8 := lt_of_lt_of_eq t.isLt N_0

/-- Row `r` and column `j` of the block of point `t`. -/
abbrev row (t : Fin cfg0.N) (r : Fin 512) : Fin 1024 := ⟨t.val / 4 * 512 + r.val, by have := lt_points t; omega⟩
abbrev col (t : Fin cfg0.N) (j : Fin 512) : Fin 2048 := ⟨t.val % 4 * 512 + j.val, by omega⟩

theorem a_block (c : Dev nD) (t : Fin cfg0.N) (r : Fin 512) (k : Fin 1024) :
    iblk m c 0 t (ix2 r k : S512x1024.Idx) = m ((c : Thread nD τ).loc main_arg0) (ix2 (row t r) k : S1024x1024.Idx) := by
  blk_simp [iblk]
  rw [V_main_arg0]
  refine congrArg _ ?_
  blk_ext [idx_a t]

theorem b_block (c : Dev nD) (t : Fin cfg0.N) (k : Fin 1024) (j : Fin 512) :
    iblk m c 1 t (ix2 k j : S1024x512.Idx) = m ((c : Thread nD τ).loc main_arg1) (ix2 k (col t j) : S1024x2048.Idx) := by
  blk_simp [iblk]
  rw [V_main_arg1]
  refine congrArg _ ?_
  blk_ext [idx_b t]

/-- The kernel's output array. -/
theorem final (c : Dev nD) : (dats m 0 c).arrAt 2 cfg0.N
    = out (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ r j, y = (ix2 r j : S512x512.Idx) := ⟨y 0, y 1, eq_ix2 y⟩
  have he : ((View.whole main_v0).slice (win0_2.rect t)).emb (ix2 r j : S512x512.Idx) = (ix2 (row t r) (col t j) : S1024x2048.Idx) := by
    blk_ext [idx_out t]
  refine (pay_at _ _ r j).trans (Eq.trans ?_ (congrArg _ he).symm)
  unfold out
  refine Finset.sum_congr rfl fun k _ => ?_
  rw [a_block, b_block]
  rfl

/-- The kernel's result is the reference's, on arguments that agree. -/
theorem algebraic : Cert.algebraic_Kernel8Ideal_Reference8Ideal
    (hKernel8Ideal := Cert.Kernel8Ideal.Gen.facts) (hReference8Ideal := Cert.Reference8Ideal.Gen.facts) := by
  intro m ρ m' ρ' _ hargs
  refine ⟨fun c => out (m ((c : Thread nD τ).loc main_arg0)) (m ((c : Thread nD τ).loc main_arg1)), (θ_run defs _ _).mono (fun r h c => ⟨(h c).1.trans (final m c), (h c).2⟩) (Cert.Kernel8Ideal.Value.run_blocks m ρ),
    (θ_run _ _ _).mono (fun r h c => ⟨?_, (h c).2⟩) (Cert.Reference8Ideal.Value.run m' ρ')⟩
  obtain ⟨ha, hb⟩ := hargs c
  refine (h c).1.trans ?_
  rw [ha, hb]
  exact (Cert.Reference8Ideal.Read.val_main_v1_eq _ _).trans (ref_eq _ _)

end Cert.JoinedMaps

end
-- ==== Proof.OutProj.lean ====
module

public import proofs.«01_k».proof.Proof.Gen.Kernel4Ideal.Value
public import proofs.«01_k».proof.Proof.Gen.Reference4Ideal.Read
public import proofs.«01_k».proof.Defs
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

/-! # The output projection: the kernel's array is the reference's -/

namespace Cert.OutProj

open Idealize.ShloMosaic Idealize.ShloMosaic.TcCoe Idealize.SL.Sem
open Cert.Kernel4Ideal Cert.Kernel4Ideal.Gen

/-- The projection added to the residual, at an index. -/
def out (a : FVec Ideal S32768x1024 .bf16) (w : FVec Ideal S1024x1024 .f32) (h : FVec Ideal S32768x1024 .f32) :
    FVec Ideal S32768x1024 .f32 :=
  fun i => h i + ∑ k : Fin 1024, a (ix2 (i 0) k) * w (ix2 k (i 1))

/-- What the reference computes is `out`. -/
theorem ref_eq (a : FVec Ideal S32768x1024 .bf16) (w : FVec Ideal S1024x1024 .f32) (h : FVec Ideal S32768x1024 .f32) :
    Cert.Reference4Ideal.Read.val_main_v2 (F := Ideal) a w h = out a w h := by
  funext i
  idx_vars i
  pointwise [Cert.Reference4Ideal.Read.val_main_v2, Cert.Reference4Ideal.Read.val_main_v1,
    Cert.Reference4Ideal.Read.val_main_v0, out]

/-- One block of the kernel: the residual block plus the block's product with the weights. -/
theorem pay_at (h : FVec Ideal S1024x1024 .f32) (a w : FVec Ideal S1024x1024 .bf16) (r c : Fin 1024) :
    k0_pay1 (F := Ideal) h a w (ix2 r c) = h (ix2 r c) + ∑ k : Fin 1024, a (ix2 r k) * w (ix2 k c) := by
  pointwise [k0_pay1]

variable (m : (ℓ : Loc nD τ sig) → Buf (Elt Ideal) ℓ)

/-- The weights the region finds are the weights of the call. -/
theorem weights_eq (c : Dev nD) :
    V m c main_v0 = truncf (F := Ideal) .bf16 (m ((c : Thread nD τ).loc main_arg1)) bitsLt_bf16_f32 := by
  dsimp only [V, hostOps0]
  after_results

theorem idx_out : ∀ t : Fin cfg0.N, win0_3.index t = ![t.val, 0] := (by decide +kernel : ∀ t : Fin grid0.N, win0_3.index t = ![t.val, 0])
theorem idx_a : ∀ t : Fin cfg0.N, win0_0.index t = ![t.val, 0] := (by decide +kernel : ∀ t : Fin grid0.N, win0_0.index t = ![t.val, 0])
theorem idx_w : ∀ t : Fin cfg0.N, win0_1.index t = ![0, 0] := (by decide +kernel : ∀ t : Fin grid0.N, win0_1.index t = ![0, 0])
theorem idx_h : ∀ t : Fin cfg0.N, win0_2.index t = ![t.val, 0] := (by decide +kernel : ∀ t : Fin grid0.N, win0_2.index t = ![t.val, 0])

/-- A grid point is one of 32. -/
theorem lt_points (t : Fin cfg0.N) : t.val < 32 := lt_of_lt_of_eq t.isLt N_0

/-- Row `r` of block `t`. -/
abbrev row (t : Fin cfg0.N) (r : Fin 1024) : Fin 32768 := ⟨t.val * 1024 + r.val, by have := lt_points t; omega⟩

theorem a_block (c : Dev nD) (t : Fin cfg0.N) (r k : Fin 1024) :
    iblk m c 0 t (ix2 r k : S1024x1024.Idx) = m ((c : Thread nD τ).loc main_arg0) (ix2 (row t r) k : S32768x1024.Idx) := by
  blk_simp [iblk]
  rw [V_main_arg0]
  refine congrArg _ ?_
  blk_ext [idx_a t]

theorem w_block (c : Dev nD) (t : Fin cfg0.N) (k j : Fin 1024) :
    iblk m c 1 t (ix2 k j : S1024x1024.Idx) = m ((c : Thread nD τ).loc main_arg1) (ix2 k j : S1024x1024.Idx) := by
  blk_simp [iblk]
  rw [weights_eq]
  refine congrArg (m ((c : Thread nD τ).loc main_arg1)) ?_
  blk_ext [idx_w t]

theorem h_block (c : Dev nD) (t : Fin cfg0.N) (r j : Fin 1024) :
    iblk m c 2 t (ix2 r j : S1024x1024.Idx) = m ((c : Thread nD τ).loc main_arg2) (ix2 (row t r) j : S32768x1024.Idx) := by
  blk_simp [iblk]
  rw [V_main_arg2]
  refine congrArg _ ?_
  blk_ext [idx_h t]

/-- The kernel's output array. -/
theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ : ∃ r j, y = (ix2 r j : S1024x1024.Idx) := ⟨y 0, y 1, eq_ix2 y⟩
  have he : ((View.whole main_v1).slice (win0_3.rect t)).emb (ix2 r j : S1024x1024.Idx) = (ix2 (row t r) j : S32768x1024.Idx) := by
    blk_ext [idx_out t]
  refine (pay_at _ _ _ r j).trans (Eq.trans ?_ (congrArg _ he).symm)
  unfold out
  rw [h_block]
  refine Ideal.add_congr rfl (Finset.sum_congr rfl fun k _ => ?_)
  rw [a_block, w_block]
  rfl

/-- The kernel runs and leaves the projection in its result. -/
theorem run (ρ : Dev nD → PrngReg) : θ_run defs (onTc (τ := τ) (main (F := Ideal))) ⟨m, fun _ => 0, ρ⟩ fun r => ∀ c : Dev nD,
      r.2.mem ((c : Thread nD τ).loc main_v1)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.Kernel4Ideal.Value.run_blocks m ρ)

/-- The kernel's result is the reference's, on arguments that agree. -/
theorem algebraic : Cert.algebraic_Kernel4Ideal_Reference4Ideal
    (hKernel4Ideal := Cert.Kernel4Ideal.Gen.facts) (hReference4Ideal := Cert.Reference4Ideal.Gen.facts) := by
  intro m ρ m' ρ' _ hargs
  refine ⟨_, run m ρ, (θ_run _ _ _).mono (fun r h c => ⟨?_, (h c).2⟩) (Cert.Reference4Ideal.Value.run m' ρ')⟩
  obtain ⟨ha, hw, hh⟩ := hargs c
  refine (h c).1.trans ?_
  rw [ha, hw, hh]
  exact (Cert.Reference4Ideal.Read.val_main_v2_eq _ _ _).trans (ref_eq _ _ _)

end Cert.OutProj

end
-- ==== Proof.Qkv.lean ====
module

public import proofs.«01_k».proof.Proof.Rows
public import proofs.«01_k».proof.Proof.Gen.Kernel3Ideal.Value
public import proofs.«01_k».proof.Proof.Gen.Reference3Ideal.Read
public import proofs.«01_k».proof.Defs
public import Idealize.ShloMosaic.Lib.Pipeline.ValueKit.Geometry
public import Idealize.ShloMosaic.Lib.Pipeline.ValueKit.Acc

@[expose] public section

set_option maxRecDepth 16384

noncomputable section

/-! # The three projections: the kernel's arrays are the reference's -/

namespace Cert.Qkv

open Idealize.ShloMosaic Idealize.ShloMosaic.TcCoe Idealize.SL.Sem
open Cert.Rows

section Reference

open Cert.Reference3Ideal Cert.Reference3Ideal.Read

/-- The normalised row times the weights, at an index. -/
def projected (h : FVec Ideal S32768x1024 .f32) (g : FVec Ideal S1024 .f32) (w : FVec Ideal S1024x3072 .f32) (r : Fin 32768) (c : Fin 3072) : EReal :=
  ∑ k, normed (fun k => h (ix2 r k)) (fun k => g (ix1 k)) k * w (ix2 k c)

/-- The column of the token grid that entry `e` of a row's four windows of 32 columns holds. -/
abbrev column (e : ℕ) : ℕ := min (16 * (e / 32) - 8) 32 + e % 32

theorem column_lt (e : ℕ) : column e < 64 := by
  have : e % 32 < 32 := Nat.mod_lt _ (by omega)
  show min (16 * (e / 32) - 8) 32 + e % 32 < 64
  omega

/-- The token that row `y` of the windowed arrays holds. -/
abbrev token (y : Fin 65536) : Fin 32768 := ⟨y.val / 128 * 64 + column (y.val % 128), by have := column_lt (y.val % 128); omega⟩

/-- The queries. -/
def queries (h : FVec Ideal S32768x1024 .f32) (g : FVec Ideal S1024 .f32) (w : FVec Ideal S1024x3072 .f32) : FVec Ideal S32768x1024 .bf16 :=
  fun i => projected h g w (i 0) ⟨(i 1).val, by have : (i 1).val < 1024 := (i 1).isLt; omega⟩

/-- The keys (`C = 1024`) or the values (`C = 2048`), laid out by windows. -/
def windowed (C : ℕ) (hC : C ≤ 2048) (h : FVec Ideal S32768x1024 .f32) (g : FVec Ideal S1024 .f32) (w : FVec Ideal S1024x3072 .f32) :
    FVec Ideal S65536x1024 .bf16 :=
  fun i => projected h g w (token (i 0)) ⟨C + (i 1).val, by have : (i 1).val < 1024 := (i 1).isLt; omega⟩

/-! ## The reference -/

variable (h : FVec Ideal S32768x1024 .f32) (g : FVec Ideal S1024 .f32) (w : FVec Ideal S1024x3072 .f32)

theorem product_eq (r : Fin 32768) (c : Fin 3072) : val_main_v13 (F := Ideal) h g w (ix2 r c) = projected h g w r c := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem split_eq (R : Fin 512) (W : Fin 64) (n : Fin 3) (c : Fin 1024) :
    val_main_v14 (F := Ideal) h g w (ix4 R W n c) = projected h g w ⟨R.val * 64 + W.val, by omega⟩ ⟨n.val * 1024 + c.val, by omega⟩ := by
  rw [← product_eq]
  pointwise [val_main_v14]

theorem queries_eq : val_main_v38 (F := Ideal) h g w = queries h g w := by
  funext i
  obtain ⟨r, c, rfl⟩ : ∃ r c, i = (ix2 r c : S32768x1024.Idx) := ⟨i 0, i 1, eq_ix2 i⟩
  have e : val_main_v38 (F := Ideal) h g w (ix2 r c)
      = val_main_v14 (F := Ideal) h g w (ix4 (⟨r.val / 64, by omega⟩ : Fin 512) (⟨r.val % 64, by omega⟩ : Fin 64) (0 : Fin 3) c) := by
    pointwise [val_main_v38, val_main_v37, val_main_v36, val_main_v35]
  refine e.trans ((split_eq h g w _ _ _ _).trans ?_)
  exact congrArg₂ (projected h g w) (Fin.ext (by show r.val / 64 * 64 + r.val % 64 = r.val; omega)) (Fin.ext (by show 0 * 1024 + c.val = c.val; omega))

theorem table_eq (e : Fin 128) : min (val_main_v31 (F := Ideal) (ix1 e)).toInt.toNat 63 = column e.val := by
  have t : val_main_v31 (F := Ideal) (ix1 e) = IntOp.addi (IntOp.minsi 32#32 (IntOp.maxsi 0#32 (IntOp.subi (IntOp.muli 16#32 (BitVec.ofNat 32 (e.val / 32))) 8#32)))
      (BitVec.ofNat 32 (e.val % 32)) := by
    pointwise [val_main_v31, val_main_v26, val_main_v25, val_main_v24, val_main_v23, val_main_v22, val_main_v21, val_main_v20, val_main_call0_v4,
      val_main_call0_v3, val_main_call0_v2, val_main_call0_v1, val_main_call0_v0, val_main_v19, val_main_v18, val_main_v17, val_main_v16, val_main_v15,
      val_main_c, val_main_c_2, val_main_c_3, val_main_c_4]
    rfl
  rw [t]
  revert e
  decide +kernel

/-- The columns gathered, at an index. -/
theorem gather_at (x : FVec Ideal S512x64x1024 .f32) (idx : IVec S128x1 32) (R : Fin 512) (e : Fin 128) (c : Fin 1024) :
    Host.gather gather_S512x64x1024_S128x1_S512x128x1024_02_1_n_n_1_1_51211024 x idx (ix3 R e c)
      = x (ix3 R (⟨min (idx (ix2 e (0 : Fin 1))).toInt.toNat 63, by omega⟩ : Fin 64) c) := by
  unfold Host.gather
  refine congrArg x ?_
  funext a
  refine Fin.ext ?_
  let G := gather_S512x64x1024_S128x1_S512x128x1024_02_1_n_n_1_1_51211024
  show G.start (ix3 R e c) idx a + G.batchCoord (ix3 R e c) a + G.offCoord (ix3 R e c) a = _
  have hs := G.start_le (ix3 R e c) idx a
  rw [GatherDims.batchCoord_eq_zero _ _ _ List.not_mem_nil]
  match a with
  | ⟨0, _⟩ =>
    have : G.start (ix3 R e c) idx 0 ≤ 512 - 512 := hs
    show G.start (ix3 R e c) idx 0 + 0 + R.val = R.val
    omega
  | ⟨1, _⟩ =>
    have t : G.siIdx (ix3 R e c) ⟨0, Nat.one_pos⟩ = ix2 e (0 : Fin 1) := by
      funext d
      match d with
      | ⟨0, _⟩ => rfl
      | ⟨1, _⟩ => rfl
    show min (idx (G.siIdx (ix3 R e c) ⟨0, Nat.one_pos⟩)).toInt.toNat (64 - 1) + 0 + 0 = min _ 63
    rw [t]; rfl
  | ⟨2, _⟩ =>
    have : G.start (ix3 R e c) idx 2 ≤ 1024 - 1024 := hs
    show G.start (ix3 R e c) idx 2 + 0 + c.val = c.val
    omega

/-- Part `n` of the product (1: keys, 2: values), its columns gathered. -/
theorem windows_eq (n : Fin 3) (x : FVec Ideal S512x64x1024 .f32) (idx : IVec S128x1 32)
    (hx : ∀ R W c, x (ix3 R W c) = val_main_v14 (F := Ideal) h g w (ix4 R W n c)) (hi : ∀ e : Fin 128, idx (ix2 e (0 : Fin 1)) = val_main_v31 (F := Ideal) (ix1 e))
    (y : Fin 65536) (c : Fin 1024) :
    Host.gather gather_S512x64x1024_S128x1_S512x128x1024_02_1_n_n_1_1_51211024 x idx
        (ix3 (⟨y.val / 128, by omega⟩ : Fin 512) (⟨y.val % 128, Nat.mod_lt _ (by omega)⟩ : Fin 128) c)
      = projected h g w (token y) ⟨n.val * 1024 + c.val, by omega⟩ := by
  rw [gather_at, hx, split_eq]
  refine congrArg (fun r => projected h g w r _) (Fin.ext ?_)
  show y.val / 128 * 64 + min (idx (ix2 _ (0 : Fin 1))).toInt.toNat 63 = y.val / 128 * 64 + column (y.val % 128)
  rw [hi, table_eq]

theorem keys_eq : val_main_v40 (F := Ideal) h g w = windowed 1024 (by omega) h g w := by
  funext i
  obtain ⟨y, c, rfl⟩ : ∃ y c, i = (ix2 y c : S65536x1024.Idx) := ⟨i 0, i 1, eq_ix2 i⟩
  have e : val_main_v40 (F := Ideal) h g w (ix2 y c)
      = val_main_v32 (F := Ideal) h g w (ix3 (⟨y.val / 128, by omega⟩ : Fin 512) (⟨y.val % 128, Nat.mod_lt _ (by omega)⟩ : Fin 128) c) := by
    pointwise [val_main_v40, val_main_v39]
  exact e.trans (windows_eq h g w 1 _ _ (fun R W c => by pointwise [val_main_v28, val_main_v27]) (fun e => by pointwise [val_main_call1_v0]) y c)

theorem values_eq : val_main_v42 (F := Ideal) h g w = windowed 2048 (by omega) h g w := by
  funext i
  obtain ⟨y, c, rfl⟩ : ∃ y c, i = (ix2 y c : S65536x1024.Idx) := ⟨i 0, i 1, eq_ix2 i⟩
  have e : val_main_v42 (F := Ideal) h g w (ix2 y c)
      = val_main_v34 (F := Ideal) h g w (ix3 (⟨y.val / 128, by omega⟩ : Fin 512) (⟨y.val % 128, Nat.mod_lt _ (by omega)⟩ : Fin 128) c) := by
    pointwise [val_main_v42, val_main_v41]
  exact e.trans (windows_eq h g w 2 _ _ (fun R W c => by pointwise [val_main_v30, val_main_v29]) (fun e => by pointwise [val_main_call2_v0, val_main_v33, val_main_v31]) y c)

end Reference

/-! ## One block of the kernel -/

open Cert.Kernel3Ideal Cert.Kernel3Ideal.Gen

theorem pay_at (h : FVec Ideal S512x1024 .f32) (g : FVec Ideal S1x1024 .f32) (w : FVec Ideal S1024x3072 .bf16) (r : Fin 512) (c : Fin 3072) :
    k0_pay1 (F := Ideal) h g w (ix2 r c) = ∑ k, normed (fun k => h (ix2 r k)) (fun k => g (ix2 0 k)) k * w (ix2 k c) := by
  pointwise [k0_pay1]
  rfl

/-- The row of a block's product that row `y` of its windowed blocks holds. -/
abbrev source (y : ℕ) : ℕ := y / 128 * 64 + column (y % 128)

theorem source_lt (y : ℕ) (hy : y < 1024) : source y < 512 := by
  have := column_lt (y % 128)
  show y / 128 * 64 + column (y % 128) < 512
  omega

/-- A block's product, laid out by windows. -/
abbrev spread (C : ℕ) (hC : C ≤ 2048) (p : FVec Ideal S512x3072 .f32) (y : S1024x1024.Idx) : EReal :=
  p (ix2 (⟨source (y 0).val, source_lt _ (y 0).isLt⟩ : Fin 512) (⟨C + (y 1).val, by have : (y 1).val < 1024 := (y 1).isLt; omega⟩ : Fin 3072))

/-- Each of the kernel's stores is its part of the layout. -/
theorem window_at (C : ℕ) (hC : C ≤ 2048) (p : FVec Ideal S512x3072 .f32) (o d : ℕ) (h) (hl) (hb) (ho : o = source d) (hd : d % 32 = 0) (z : S32x1024.Idx) :
    truncf (F := Ideal) .bf16 (extractStridedSlice S32x1024 ![o, C] p hl) hb z
      = spread C hC p ((Rect.unit (s := S1024x1024) ![d, 0] S32x1024.size h).emb z) := by
  have h0 : (z 0).val < 32 := (z 0).isLt
  subst ho
  refine congrArg p ?_
  funext a
  match a with
  | ⟨0, _⟩ =>
    refine Fin.ext ?_
    show d / 128 * 64 + (min (16 * (d % 128 / 32) - 8) 32 + d % 128 % 32) + (z 0).val
      = (d + 1 * (z 0).val) / 128 * 64 + (min (16 * ((d + 1 * (z 0).val) % 128 / 32) - 8) 32 + (d + 1 * (z 0).val) % 128 % 32)
    omega
  | ⟨1, _⟩ => exact Fin.ext (by show C + (z 1).val = C + (0 + 1 * (z 1).val); omega)

theorem keys_at (x0 : Vec Ideal S512x1024 .f32) (x1 : Vec Ideal S1x1024 .f32) (x2 : Vec Ideal S1024x3072 .bf16) (y : S1024x1024.Idx) :
    out0_4 (F := Ideal) x0 x1 x2 y = spread 1024 (by omega) (k0_pay67 (F := Ideal) x0 x1 x2) y := by
  refine View.canon_apply_of_pieces (Val := Elt Ideal) (spread 1024 (by omega) (k0_pay67 (F := Ideal) x0 x1 x2)) _ ?_ y (cover0_4 _ _ _ _ _ _ _ _ _ _ _ _ _ _ _ _ _ _ _ _ _ _ _ _ _ _ _ _ _ _ _ _ y)
  simp only [List.forall_mem_cons]
  repeat' first
    | exact fun _ h => absurd h List.not_mem_nil
    | refine ⟨window_at 1024 _ (k0_pay67 (F := Ideal) x0 x1 x2) _ _ _ _ _ (by decide) (by decide), ?_⟩

theorem values_at (x0 : Vec Ideal S512x1024 .f32) (x1 : Vec Ideal S1x1024 .f32) (x2 : Vec Ideal S1024x3072 .bf16) (y : S1024x1024.Idx) :
    out0_5 (F := Ideal) x0 x1 x2 y = spread 2048 (by omega) (k0_pay67 (F := Ideal) x0 x1 x2) y := by
  refine View.canon_apply_of_pieces (Val := Elt Ideal) (spread 2048 (by omega) (k0_pay67 (F := Ideal) x0 x1 x2)) _ ?_ y (cover0_5 _ _ _ _ _ _ _ _ _ _ _ _ _ _ _ _ _ _ _ _ _ _ _ _ _ _ _ _ _ _ _ _ y)
  simp only [List.forall_mem_cons]
  repeat' first
    | exact fun _ h => absurd h List.not_mem_nil
    | refine ⟨window_at 2048 _ (k0_pay67 (F := Ideal) x0 x1 x2) _ _ _ _ _ (by decide) (by decide), ?_⟩

variable (m : (ℓ : Loc nD τ sig) → Buf (Elt Ideal) ℓ)

/-! ## What the region finds -/

theorem weights_eq (c : Dev nD) : V m c main_v0 = truncf (F := Ideal) .bf16 (m ((c : Thread nD τ).loc main_arg2)) bitsLt_bf16_f32 := by
  dsimp only [V, hostOps0]
  after_results
theorem gains_eq (c : Dev nD) : V m c main_v1 = shapeCast S1x1024 (m ((c : Thread nD τ).loc main_arg1)) shapeCasts_S1024_S1x1024 := by
  dsimp only [V, hostOps0]
  after_results
  rfl

/-! ## The windows' blocks -/

theorem idx_h : ∀ t : Fin cfg0.N, win0_0.index t = ![t.val, 0] := (by decide +kernel : ∀ t : Fin grid0.N, win0_0.index t = ![t.val, 0])
theorem idx_g : ∀ t : Fin cfg0.N, win0_1.index t = ![0, 0] := (by decide +kernel : ∀ t : Fin grid0.N, win0_1.index t = ![0, 0])
theorem idx_w : ∀ t : Fin cfg0.N, win0_2.index t = ![0, 0] := (by decide +kernel : ∀ t : Fin grid0.N, win0_2.index t = ![0, 0])
theorem idx_q : ∀ t : Fin cfg0.N, win0_3.index t = ![t.val, 0] := (by decide +kernel : ∀ t : Fin grid0.N, win0_3.index t = ![t.val, 0])
theorem idx_k : ∀ t : Fin cfg0.N, win0_4.index t = ![t.val, 0] := (by decide +kernel : ∀ t : Fin grid0.N, win0_4.index t = ![t.val, 0])
theorem idx_v : ∀ t : Fin cfg0.N, win0_5.index t = ![t.val, 0] := (by decide +kernel : ∀ t : Fin grid0.N, win0_5.index t = ![t.val, 0])

/-- A grid point is one of 64. -/
theorem lt_points (t : Fin cfg0.N) : t.val < 64 := lt_of_lt_of_eq t.isLt N_0

/-- Row `r` of block `t`. -/
abbrev row (t : Fin cfg0.N) (r : Fin 512) : Fin 32768 := ⟨t.val * 512 + r.val, by have := lt_points t; omega⟩

theorem h_block (c : Dev nD) (t : Fin cfg0.N) (r : Fin 512) (k : Fin 1024) :
    iblk m c 0 t (ix2 r k : S512x1024.Idx) = m ((c : Thread nD τ).loc main_arg0) (ix2 (row t r) k : S32768x1024.Idx) := by
  blk_simp [iblk]
  rw [V_main_arg0]
  refine congrArg _ ?_
  blk_ext [idx_h t]

theorem g_block (c : Dev nD) (t : Fin cfg0.N) (k : Fin 1024) :
    iblk m c 1 t (ix2 0 k : S1x1024.Idx) = m ((c : Thread nD τ).loc main_arg1) (ix1 k : S1024.Idx) := by
  have he : ((View.whole main_v1).slice (win0_1.rect t)).emb (ix2 0 k : S1x1024.Idx) = (ix2 0 k : S1x1024.Idx) := by
    blk_ext [idx_g t]
  blk_simp [iblk]
  refine (congrArg (V m c main_v1) he).trans ?_
  rw [gains_eq]
  pointwise

theorem w_block (c : Dev nD) (t : Fin cfg0.N) (k : Fin 1024) (f : Fin 3072) :
    iblk m c 2 t (ix2 k f : S1024x3072.Idx) = m ((c : Thread nD τ).loc main_arg2) (ix2 k f : S1024x3072.Idx) := by
  blk_simp [iblk]
  rw [weights_eq]
  refine congrArg (m ((c : Thread nD τ).loc main_arg2)) ?_
  blk_ext [idx_w t]

/-- A block's product, in the arguments. -/
theorem product_block (c : Dev nD) (t : Fin cfg0.N) (r : Fin 512) (f : Fin 3072) :
    k0_pay67 (F := Ideal) (iblk m c 0 t) (iblk m c 1 t) (iblk m c 2 t) (ix2 r f)
      = projected (m ((c : Thread nD τ).loc main_arg0)) (m ((c : Thread nD τ).loc main_arg1)) (m ((c : Thread nD τ).loc main_arg2)) (row t r) f := by
  unfold k0_pay67
  frame_out
  refine (pay_at _ _ _ r f).trans ?_
  simp only [h_block, g_block, w_block]
  rfl

/-! ## The arrays, the run, the claim -/

theorem queries_final (c : Dev nD) : (dats m 0 c).arrAt 3 cfg0.N = queries (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨r, j, rfl⟩ : ∃ r j, y = (ix2 r j : S512x1024.Idx) := ⟨y 0, y 1, eq_ix2 y⟩
  have he : ((View.whole main_v2_0).slice (win0_3.rect t)).emb (ix2 r j : S512x1024.Idx) = (ix2 (row t r) j : S32768x1024.Idx) := by
    blk_ext [idx_q t]
  have e : k0_pay2 (F := Ideal) (iblk m c 0 t) (iblk m c 1 t) (iblk m c 2 t) (ix2 r j)
      = k0_pay1 (F := Ideal) (iblk m c 0 t) (iblk m c 1 t) (iblk m c 2 t) (ix2 r (⟨j.val, by omega⟩ : Fin 3072)) := by
    pointwise [k0_pay2]
  refine e.trans (Eq.trans ?_ (congrArg _ he).symm)
  refine (pay_at _ _ _ r _).trans ?_
  simp only [h_block, g_block, w_block]
  rfl

/-- Row `r` of a block of the windowed arrays. -/
abbrev tiled (t : Fin cfg0.N) (r : Fin 1024) : Fin 65536 := ⟨t.val * 1024 + r.val, by have := lt_points t; omega⟩

theorem token_tiled (t : Fin cfg0.N) (r : Fin 1024) : row t ⟨source r.val, source_lt _ r.isLt⟩ = token (tiled t r) := by
  refine Fin.ext ?_
  show t.val * 512 + (r.val / 128 * 64 + column (r.val % 128)) = (t.val * 1024 + r.val) / 128 * 64 + column ((t.val * 1024 + r.val) % 128)
  rw [show (t.val * 1024 + r.val) % 128 = r.val % 128 by omega]
  omega

theorem keys_final (c : Dev nD) : (dats m 0 c).arrAt 4 cfg0.N = windowed 1024 (by omega) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, j, rfl⟩ : ∃ r j, y = (ix2 r j : S1024x1024.Idx) := ⟨y 0, y 1, eq_ix2 y⟩
  have he : ((View.whole main_v2_1).slice (win0_4.rect t)).emb (ix2 r j : S1024x1024.Idx) = (ix2 (tiled t r) j : S65536x1024.Idx) := by
    blk_ext [idx_k t]
  refine (keys_at _ _ _ (ix2 r j)).trans (Eq.trans ?_ (congrArg _ he).symm)
  refine (product_block m c t _ _).trans ?_
  exact congrArg (fun k => projected _ _ _ k _) (token_tiled t r)

theorem values_final (c : Dev nD) : (dats m 0 c).arrAt 5 cfg0.N = windowed 2048 (by omega) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  obtain ⟨r, j, rfl⟩ : ∃ r j, y = (ix2 r j : S1024x1024.Idx) := ⟨y 0, y 1, eq_ix2 y⟩
  have he : ((View.whole main_v2_2).slice (win0_5.rect t)).emb (ix2 r j : S1024x1024.Idx) = (ix2 (tiled t r) j : S65536x1024.Idx) := by
    blk_ext [idx_v t]
  refine (values_at _ _ _ (ix2 r j)).trans (Eq.trans ?_ (congrArg _ he).symm)
  refine (product_block m c t _ _).trans ?_
  exact congrArg (fun k => projected _ _ _ k _) (token_tiled t r)

/-- The kernel's results are the reference's, on arguments that agree. -/
theorem algebraic : Cert.algebraic_Kernel3Ideal_Reference3Ideal
    (hKernel3Ideal := Cert.Kernel3Ideal.Gen.facts) (hReference3Ideal := Cert.Reference3Ideal.Gen.facts) := by
  intro m ρ m' ρ' _ hargs
  refine ⟨_, _, _, (θ_run defs _ _).mono (fun r h c => ⟨(h c).1.trans (queries_final m c), (h c).2.1.trans (keys_final m c),
      (h c).2.2.1.trans (values_final m c), (h c).2.2.2⟩) (Cert.Kernel3Ideal.Value.run_blocks m ρ),
    (θ_run _ _ _).mono (fun r h c => ?_) (Cert.Reference3Ideal.Value.run m' ρ')⟩
  obtain ⟨h0, h1, h2⟩ := hargs c
  obtain ⟨q, k, v, kept⟩ := h c
  refine ⟨q.trans ?_, k.trans ?_, v.trans ?_, kept⟩
  · rw [h0, h1, h2]; exact (Cert.Reference3Ideal.Read.val_main_v38_eq _ _ _).trans (queries_eq _ _ _)
  · rw [h0, h1, h2]; exact (Cert.Reference3Ideal.Read.val_main_v40_eq _ _ _).trans (keys_eq _ _ _)
  · rw [h0, h1, h2]; exact (Cert.Reference3Ideal.Read.val_main_v42_eq _ _ _).trans (values_eq _ _ _)

end Cert.Qkv

end
-- ==== Proof.lean ====
/- The claims, assembled from their modules. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel8.Frame
public import proofs.«01_k».proof.Proof.Combine
public import proofs.«01_k».proof.Proof.Experts
public import proofs.«01_k».proof.Proof.Ffn
public import proofs.«01_k».proof.Proof.FourierInRun
public import proofs.«01_k».proof.Proof.FourierOut
public import proofs.«01_k».proof.Proof.Joined
public import proofs.«01_k».proof.Proof.OutProj
public import proofs.«01_k».proof.Proof.Qkv

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_experts_in_range.Gen.facts, Cert.Pre_rows_in_range.Gen.facts,
    Cert.Experts.frame_bits, Cert.Experts.frame_ideal, Cert.Experts.frame_ref, fun m ρ _ => Cert.Experts.frame_ref m ρ trivial,
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2.2.2, sem_eq_zero_of_no_sems (by decide) r.2⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2, sem_eq_zero_of_no_sems (by decide) r.2⟩) (Cert.Reference4Ideal.Value.run m ρ),
    fun m ρ _ => Cert.Kernel5.Gen.frame m ρ, fun m ρ _ => Cert.Kernel5Ideal.Gen.frame m ρ,
    fun m ρ _ => (θ_run _ _ _).mono (fun r h => ⟨fun c => (h c).2, sem_eq_zero_of_no_sems (by decide) r.2⟩) (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2, sem_eq_zero_of_no_sems (by decide) r.2⟩) (Cert.Reference6Ideal.Value.run m ρ),
    Cert.Combine.frame_bits, Cert.Combine.frame_ideal, Cert.Combine.frame_ref, fun m ρ _ => Cert.Combine.frame_ref m ρ trivial,
    fun m ρ _ => Cert.Kernel8.Gen.frame m ρ, fun m ρ _ => Cert.Kernel8Ideal.Gen.frame m ρ,
    fun m ρ _ => (θ_run _ _ _).mono (fun r h => ⟨fun c => (h c).2, sem_eq_zero_of_no_sems (by decide) r.2⟩) (Cert.Reference8Ideal.Value.run m ρ),
    trivial, Cert.Experts.algebraic, trivial, Cert.Ffn.algebraic, trivial, Cert.Qkv.algebraic, trivial, Cert.OutProj.algebraic,
    trivial, Cert.FourierOut.algebraic, trivial, Cert.FourierIn.algebraic,
    trivial, Cert.Combine.algebraic, trivial, Cert.JoinedMaps.algebraic⟩

end Cert.Proof

end
